-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S8x1024x64x128 : S_.BroadcastsInDim S8x1024x64x128 (![] : Fin 0 → Fin S8x1024x64x128.rank)

variable [Facts]

def fn {F : FTy → Type} [FloatOps F] (main_arg0 : FVec F S1x1024x1024 .bf16) (main_arg1 : FVec F S1024x1024 .bf16) (main_arg2 : FVec F S8x1024x64x128 .bf16) (main_arg3 : FVec F S8x1024x64x128 .bf16) (main_arg4 : FVec F S1024x1024 .bf16) : IVec S1x1024x1024 1 × IVec S1024x1024 1 × IVec S8x1024x64x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8x1024x64x128 .bf16 := Host.absf main_arg2
  let main_cst_1 : FVec F S_ .bf16 := constant S_ .bf16 0x7F80#16
  let main_v7 : FVec F S8x1024x64x128 .bf16 := broadcastInDim S8x1024x64x128 ![] bcast_S_S8x1024x64x128 main_cst_1
  let main_v8 : IVec S8x1024x64x128 1 := cmpf .olt main_v6 main_v7
  (main_v2, main_v5, main_v8)
-- ==== Pre_finite_scores_ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S_ : Shape := ⟨0, ![]⟩

class Facts : Prop where
  bcast_S_S8x1024x1024 : S_.BroadcastsInDim S8x1024x1024 (![] : Fin 0 → Fin S8x1024x1024.rank)
  bcast_S_S1024x8192 : S_.BroadcastsInDim S1024x8192 (![] : Fin 0 → Fin S1024x8192.rank)
  bcast_S_S8x1024x64x128 : S_.BroadcastsInDim S8x1024x64x128 (![] : Fin 0 → Fin S8x1024x64x128.rank)

variable [Facts]

def fn {F : FTy → Type} [FloatOps F] (main_arg0 : FVec F S8x1024x1024 .bf16) (main_arg1 : FVec F S1024x8192 .bf16) (main_arg2 : FVec F S8x1024x64x128 .bf16) (main_arg3 : FVec F S8x1024x64x128 .bf16) (main_arg4 : FVec F S8192x1024 .bf16) : IVec S8x1024x1024 1 × IVec S1024x8192 1 × IVec S8x1024x64x128 1 :=
  let main_v0 : FVec F S8x1024x1024 .bf16 := Host.absf main_arg0
  let main_cst : FVec F S_ .bf16 := constant S_ .bf16 0x7F80#16
  let main_v1 : FVec F S8x1024x1024 .bf16 := broadcastInDim S8x1024x1024 ![] bcast_S_S8x1024x1024 main_cst
  let main_v2 : IVec S8x1024x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S8x1024x64x128 .bf16 := Host.absf main_arg2
  let main_cst_1 : FVec F S_ .bf16 := constant S_ .bf16 0x7F80#16
  let main_v7 : FVec F S8x1024x64x128 .bf16 := broadcastInDim S8x1024x64x128 ![] bcast_S_S8x1024x64x128 main_cst_1
  let main_v8 : IVec S8x1024x64x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩
abbrev S1x1024x64x128 : Shape := ⟨4, ![1, 1024, 64, 128]⟩
abbrev S1024x64x128 : Shape := ⟨3, ![1024, 64, 128]⟩
abbrev S1024x8192 : Shape := ⟨2, ![1024, 8192]⟩
abbrev S7x1024x1024 : Shape := ⟨3, ![7, 1024, 1024]⟩
abbrev S4x256x512 : Shape := ⟨3, ![4, 256, 512]⟩
abbrev S2x1024x1024 : Shape := ⟨3, ![2, 1024, 1024]⟩
abbrev S7 : Shape := ⟨1, ![7]⟩
abbrev S256x512 : Shape := ⟨2, ![256, 512]⟩
abbrev S1x256x512 : Shape := ⟨3, ![1, 256, 512]⟩
abbrev S1 : Shape := ⟨1, ![1]⟩
abbrev S256x1024 : Shape := ⟨2, ![256, 1024]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S1x256x1024 : Shape := ⟨3, ![1, 256, 1024]⟩
abbrev S1x256x128 : Shape := ⟨3, ![1, 256, 128]⟩

abbrev nBuf : Space → Nat
  | .hbm => 35
  | .vmem => 12
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S8x1024x64x128, .bf16⟩
  | .hbm, ⟨3, _⟩ => ⟨S8x1024x64x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1x1024x64x128, .bf16⟩
  | .hbm, ⟨21, _⟩ => ⟨S1024x64x128, .bf16⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024x64x128, .bf16⟩
  | .hbm, ⟨31, _⟩ => ⟨S1024x64x128, .bf16⟩
  | .hbm, ⟨32, _⟩ => ⟨S1024x8192, .bf16⟩
  | .hbm, ⟨33, _⟩ => ⟨S1024x8192, .bf16⟩
  | .hbm, ⟨34, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S7x1024x1024, .bf16⟩
  | .local _ .vmem, ⟨5, _⟩ => ⟨S7x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S4x256x512, .bf16⟩
  | .local _ .vmem, ⟨11, _⟩ => ⟨S2x1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_c_0 : Ref sig .tc := ⟨.hbm, 14, rfl⟩
abbrev main_call0_v1 : Ref sig .tc := ⟨.hbm, 15, rfl⟩
abbrev main_call0_v2 : Ref sig .tc := ⟨.hbm, 16, rfl⟩
abbrev main_call0_c_1 : Ref sig .tc := ⟨.hbm, 17, rfl⟩
abbrev main_call0_c_2 : Ref sig .tc := ⟨.hbm, 18, rfl⟩
abbrev main_call0_c_3 : Ref sig .tc := ⟨.hbm, 19, rfl⟩
abbrev main_call0_v3 : Ref sig .tc := ⟨.hbm, 20, rfl⟩
abbrev main_v6 : Ref sig .tc := ⟨.hbm, 21, rfl⟩
abbrev main_call1_c : Ref sig .tc := ⟨.hbm, 22, rfl⟩
abbrev main_call1_v0 : Ref sig .tc := ⟨.hbm, 23, rfl⟩
abbrev main_call1_c_0 : Ref sig .tc := ⟨.hbm, 24, rfl⟩
abbrev main_call1_v1 : Ref sig .tc := ⟨.hbm, 25, rfl⟩
abbrev main_call1_v2 : Ref sig .tc := ⟨.hbm, 26, rfl⟩
abbrev main_call1_c_1 : Ref sig .tc := ⟨.hbm, 27, rfl⟩
abbrev main_call1_c_2 : Ref sig .tc := ⟨.hbm, 28, rfl⟩
abbrev main_call1_c_3 : Ref sig .tc := ⟨.hbm, 29, rfl⟩
abbrev main_call1_v3 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_27 : BitVec 32 := 1#32
  let v77 : BitVec 32 := Scalar.muli v7 c1_i32_27
  let v78 : BitVec 32 := Scalar.addi c0_i32_28 v77
  v78.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_30 : BitVec 32 := 1#32
  let v79 : BitVec 32 := Scalar.muli v4 c1_i32_30
  let v80 : BitVec 32 := Scalar.addi c0_i32_31 v79
  v80.toNat
def k0_off1 (d0 : Dev nD) (c0_i32_32 : BitVec 32) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v81 : BitVec 32 := Scalar.addi v2 c0_i32_32
  let c8_i32_33 : BitVec 32 := 8#32
  let v82 : BitVec 32 := Scalar.addi v81 c8_i32_33
  let c8_i32_34 : BitVec 32 := 8#32
  let v83 : BitVec 32 := Scalar.remsi v82 c8_i32_34
  let c1024_i32 : BitVec 32 := 1024#32
  let v84 : BitVec 32 := Scalar.muli v83 c1024_i32
  ![0, v84.toNat]
def k0_off1_at (r : Fin 8) : BitVec 32 :=
  if r.val < 4 then
    if r.val < 2 then
      if r.val < 1 then
        0#32
      else
        4294967295#32
    else
      if r.val < 3 then
        4294967294#32
      else
        4#32
  else
    if r.val < 6 then
      if r.val < 5 then
        3#32
      else
        4294967293#32
    else
      if r.val < 7 then
        2#32
      else
        1#32
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_41 : BitVec 32 := 1#32
  let v88 : BitVec 32 := Scalar.muli v4 c1_i32_41
  let v89 : BitVec 32 := Scalar.addi c0_i32_42 v88
  v89.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_48 : BitVec 32 := 1#32
  let v96 : BitVec 32 := Scalar.muli v7 c1_i32_48
  let v97 : BitVec 32 := Scalar.addi c0_i32_49 v96
  v97.toNat
@[reducible] def k0_t1_loop : Scf.Loop 32 :=
  let c0_i32_82 : BitVec 32 := 0#32
  let c8_i32_83 : BitVec 32 := 8#32
  let v149 : BitVec 32 := Scalar.addi c0_i32_82 c8_i32_83
  let c1_i32_84 : BitVec 32 := 1#32
  ⟨c0_i32_82, v149, c1_i32_84⟩
def k0_off2 (k0_t1 : Fin k0_t1_loop.trips) : Fin 2 → Nat :=
  let c0_1097 : Index := 0#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1110 : Index := Scalar.indexCast v1109
  ![0, v1110.toNat]
def k0_off3 (k0_t1 : Fin k0_t1_loop.trips) : Fin 2 → Nat :=
  let c0_1098 : Index := 0#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1112 : Index := Scalar.indexCast v1109
  ![0, v1112.toNat]
def k0_off4 (k0_t1 : Fin k0_t1_loop.trips) : Fin 2 → Nat :=
  let c256_1107 : Index := 256#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1133 : Index := Scalar.indexCast v1109
  ![256, v1133.toNat]
def k0_off5 (k0_t1 : Fin k0_t1_loop.trips) : Fin 2 → Nat :=
  let c128 : Index := 128#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1135 : Index := Scalar.indexCast v1109
  ![128, v1135.toNat]
def k0_off6 (k0_t1 : Fin k0_t1_loop.trips) : Fin 2 → Nat :=
  let c512_1116 : Index := 512#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1156 : Index := Scalar.indexCast v1109
  ![512, v1156.toNat]
def k0_off7 (k0_t1 : Fin k0_t1_loop.trips) : Fin 2 → Nat :=
  let c384 : Index := 384#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1158 : Index := Scalar.indexCast v1109
  ![384, v1158.toNat]
def k0_off8 (k0_t1 : Fin k0_t1_loop.trips) : Fin 2 → Nat :=
  let c768_1125 : Index := 768#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1179 : Index := Scalar.indexCast v1109
  ![768, v1179.toNat]
def k0_off9 (k0_t1 : Fin k0_t1_loop.trips) : Fin 2 → Nat :=
  let c512_1126 : Index := 512#32
  let c0_i32_82 : BitVec 32 := 0#32
  let c1_i32_84 : BitVec 32 := 1#32
  let arg20 : BitVec 32 := Scf.iv c0_i32_82 c1_i32_84 k0_t1
  let c128_i32_1096 : BitVec 32 := 128#32
  let v1109 : BitVec 32 := Scalar.muli arg20 c128_i32_1096
  let v1181 : Index := Scalar.indexCast v1109
  ![512, v1181.toNat]
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_142 : BitVec 32 := 1#32
  let v195 : BitVec 32 := Scalar.muli v4 c1_i32_142
  let v196 : BitVec 32 := Scalar.addi c0_i32_143 v195
  v196.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_152 : BitVec 32 := 1#32
  let v205 : BitVec 32 := Scalar.muli v7 c1_i32_152
  let v206 : BitVec 32 := Scalar.addi c0_i32_153 v205
  v206.toNat
@[reducible] def k0_t2_loop : Scf.Loop 32 :=
  let c0_i32_193 : BitVec 32 := 0#32
  let c8_i32_194 : BitVec 32 := 8#32
  let v260 : BitVec 32 := Scalar.addi c0_i32_193 c8_i32_194
  let c1_i32_195 : BitVec 32 := 1#32
  ⟨c0_i32_193, v260, c1_i32_195⟩
def k0_off10 (k0_t2 : Fin k0_t2_loop.trips) : Fin 2 → Nat :=
  let c0_1097 : Index := 0#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1110 : Index := Scalar.indexCast v1109
  ![0, v1110.toNat]
def k0_off11 (k0_t2 : Fin k0_t2_loop.trips) : Fin 2 → Nat :=
  let c0_1098 : Index := 0#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1112 : Index := Scalar.indexCast v1109
  ![0, v1112.toNat]
def k0_off12 (k0_t2 : Fin k0_t2_loop.trips) : Fin 3 → Nat :=
  let c0_i32_192 : BitVec 32 := 0#32
  let c0_i32_1106 : BitVec 32 := 0#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1131 : Index := Scalar.indexCast v1109
  ![0, 0, v1131.toNat]
def k0_off13 (k0_t2 : Fin k0_t2_loop.trips) : Fin 2 → Nat :=
  let c256_1109 : Index := 256#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1135 : Index := Scalar.indexCast v1109
  ![256, v1135.toNat]
def k0_off14 (k0_t2 : Fin k0_t2_loop.trips) : Fin 2 → Nat :=
  let c128 : Index := 128#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1137 : Index := Scalar.indexCast v1109
  ![128, v1137.toNat]
def k0_off15 (k0_t2 : Fin k0_t2_loop.trips) : Fin 3 → Nat :=
  let c0_i32_192 : BitVec 32 := 0#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1156 : Index := Scalar.indexCast v1109
  ![0, 256, v1156.toNat]
def k0_off16 (k0_t2 : Fin k0_t2_loop.trips) : Fin 2 → Nat :=
  let c512_1120 : Index := 512#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1160 : Index := Scalar.indexCast v1109
  ![512, v1160.toNat]
def k0_off17 (k0_t2 : Fin k0_t2_loop.trips) : Fin 2 → Nat :=
  let c384 : Index := 384#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1162 : Index := Scalar.indexCast v1109
  ![384, v1162.toNat]
def k0_off18 (k0_t2 : Fin k0_t2_loop.trips) : Fin 3 → Nat :=
  let c0_i32_192 : BitVec 32 := 0#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1181 : Index := Scalar.indexCast v1109
  ![0, 512, v1181.toNat]
def k0_off19 (k0_t2 : Fin k0_t2_loop.trips) : Fin 2 → Nat :=
  let c768_1131 : Index := 768#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1185 : Index := Scalar.indexCast v1109
  ![768, v1185.toNat]
def k0_off20 (k0_t2 : Fin k0_t2_loop.trips) : Fin 2 → Nat :=
  let c512_1132 : Index := 512#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1187 : Index := Scalar.indexCast v1109
  ![512, v1187.toNat]
def k0_off21 (k0_t2 : Fin k0_t2_loop.trips) : Fin 3 → Nat :=
  let c0_i32_192 : BitVec 32 := 0#32
  let c0_i32_193 : BitVec 32 := 0#32
  let c1_i32_195 : BitVec 32 := 1#32
  let arg20 : BitVec 32 := Scf.iv c0_i32_193 c1_i32_195 k0_t2
  let c128_i32_1096 : BitVec 32 := 128#32
  let v1109 : BitVec 32 := Scalar.muli arg20 c128_i32_1096
  let v1206 : Index := Scalar.indexCast v1109
  ![0, 768, v1206.toNat]
def k0_dev7 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_227 : BitVec 32 := 1#32
  let v284 : BitVec 32 := Scalar.muli v4 c1_i32_227
  let v285 : BitVec 32 := Scalar.addi c0_i32_228 v284
  v285.toNat
def k0_dev8 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_237 : BitVec 32 := 1#32
  let v294 : BitVec 32 := Scalar.muli v7 c1_i32_237
  let v295 : BitVec 32 := Scalar.addi c0_i32_238 v294
  v295.toNat
@[reducible] def k0_t3_loop : Scf.Loop 32 :=
  let c0_i32_278 : BitVec 32 := 0#32
  let c8_i32_279 : BitVec 32 := 8#32
  let v349 : BitVec 32 := Scalar.addi c0_i32_278 c8_i32_279
  let c1_i32_280 : BitVec 32 := 1#32
  ⟨c0_i32_278, v349, c1_i32_280⟩
def k0_off22 (k0_t3 : Fin k0_t3_loop.trips) : Fin 2 → Nat :=
  let c0_1097 : Index := 0#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1110 : Index := Scalar.indexCast v1109
  ![0, v1110.toNat]
def k0_off23 (k0_t3 : Fin k0_t3_loop.trips) : Fin 2 → Nat :=
  let c0_1098 : Index := 0#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1112 : Index := Scalar.indexCast v1109
  ![0, v1112.toNat]
def k0_off24 (k0_t3 : Fin k0_t3_loop.trips) : Fin 3 → Nat :=
  let c1_i32_277 : BitVec 32 := 1#32
  let c0_i32_1106 : BitVec 32 := 0#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1131 : Index := Scalar.indexCast v1109
  ![1, 0, v1131.toNat]
def k0_off25 (k0_t3 : Fin k0_t3_loop.trips) : Fin 2 → Nat :=
  let c256_1109 : Index := 256#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1135 : Index := Scalar.indexCast v1109
  ![256, v1135.toNat]
def k0_off26 (k0_t3 : Fin k0_t3_loop.trips) : Fin 2 → Nat :=
  let c128 : Index := 128#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1137 : Index := Scalar.indexCast v1109
  ![128, v1137.toNat]
def k0_off27 (k0_t3 : Fin k0_t3_loop.trips) : Fin 3 → Nat :=
  let c1_i32_277 : BitVec 32 := 1#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1156 : Index := Scalar.indexCast v1109
  ![1, 256, v1156.toNat]
def k0_off28 (k0_t3 : Fin k0_t3_loop.trips) : Fin 2 → Nat :=
  let c512_1120 : Index := 512#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1160 : Index := Scalar.indexCast v1109
  ![512, v1160.toNat]
def k0_off29 (k0_t3 : Fin k0_t3_loop.trips) : Fin 2 → Nat :=
  let c384 : Index := 384#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1162 : Index := Scalar.indexCast v1109
  ![384, v1162.toNat]
def k0_off30 (k0_t3 : Fin k0_t3_loop.trips) : Fin 3 → Nat :=
  let c1_i32_277 : BitVec 32 := 1#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1181 : Index := Scalar.indexCast v1109
  ![1, 512, v1181.toNat]
def k0_off31 (k0_t3 : Fin k0_t3_loop.trips) : Fin 2 → Nat :=
  let c768_1131 : Index := 768#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1185 : Index := Scalar.indexCast v1109
  ![768, v1185.toNat]
def k0_off32 (k0_t3 : Fin k0_t3_loop.trips) : Fin 2 → Nat :=
  let c512_1132 : Index := 512#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1187 : Index := Scalar.indexCast v1109
  ![512, v1187.toNat]
def k0_off33 (k0_t3 : Fin k0_t3_loop.trips) : Fin 3 → Nat :=
  let c1_i32_277 : BitVec 32 := 1#32
  let c0_i32_278 : BitVec 32 := 0#32
  let c1_i32_280 : BitVec 32 := 1#32
  let arg20 : BitVec 32 := Scf.iv c0_i32_278 c1_i32_280 k0_t3
  let c128_i32_1096 : BitVec 32 := 128#32
  let v1109 : BitVec 32 := Scalar.muli arg20 c128_i32_1096
  let v1206 : Index := Scalar.indexCast v1109
  ![1, 768, v1206.toNat]
def k0_dev9 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_311 : BitVec 32 := 1#32
  let v373 : BitVec 32 := Scalar.muli v4 c1_i32_311
  let v374 : BitVec 32 := Scalar.addi c0_i32_312 v373
  v374.toNat
def k0_dev10 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_321 : BitVec 32 := 1#32
  let v383 : BitVec 32 := Scalar.muli v7 c1_i32_321
  let v384 : BitVec 32 := Scalar.addi c0_i32_322 v383
  v384.toNat
def k0_dev11 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_351 : BitVec 32 := 1#32
  let v409 : BitVec 32 := Scalar.muli v4 c1_i32_351
  let v410 : BitVec 32 := Scalar.addi c0_i32_352 v409
  v410.toNat
def k0_dev12 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_361 : BitVec 32 := 1#32
  let v419 : BitVec 32 := Scalar.muli v7 c1_i32_361
  let v420 : BitVec 32 := Scalar.addi c0_i32_362 v419
  v420.toNat
@[reducible] def k0_t4_loop : Scf.Loop 32 :=
  let c0_i32_401 : BitVec 32 := 0#32
  let c8_i32_402 : BitVec 32 := 8#32
  let v474 : BitVec 32 := Scalar.addi c0_i32_401 c8_i32_402
  let c1_i32_403 : BitVec 32 := 1#32
  ⟨c0_i32_401, v474, c1_i32_403⟩
def k0_off34 (k0_t4 : Fin k0_t4_loop.trips) : Fin 2 → Nat :=
  let c0_1097 : Index := 0#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1110 : Index := Scalar.indexCast v1109
  ![0, v1110.toNat]
def k0_off35 (k0_t4 : Fin k0_t4_loop.trips) : Fin 2 → Nat :=
  let c0_1098 : Index := 0#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1112 : Index := Scalar.indexCast v1109
  ![0, v1112.toNat]
def k0_off36 (k0_t4 : Fin k0_t4_loop.trips) : Fin 2 → Nat :=
  let c256_1107 : Index := 256#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1133 : Index := Scalar.indexCast v1109
  ![256, v1133.toNat]
def k0_off37 (k0_t4 : Fin k0_t4_loop.trips) : Fin 2 → Nat :=
  let c128 : Index := 128#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1135 : Index := Scalar.indexCast v1109
  ![128, v1135.toNat]
def k0_off38 (k0_t4 : Fin k0_t4_loop.trips) : Fin 2 → Nat :=
  let c512_1116 : Index := 512#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1156 : Index := Scalar.indexCast v1109
  ![512, v1156.toNat]
def k0_off39 (k0_t4 : Fin k0_t4_loop.trips) : Fin 2 → Nat :=
  let c384 : Index := 384#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1158 : Index := Scalar.indexCast v1109
  ![384, v1158.toNat]
def k0_off40 (k0_t4 : Fin k0_t4_loop.trips) : Fin 2 → Nat :=
  let c768_1125 : Index := 768#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1179 : Index := Scalar.indexCast v1109
  ![768, v1179.toNat]
def k0_off41 (k0_t4 : Fin k0_t4_loop.trips) : Fin 2 → Nat :=
  let c512_1126 : Index := 512#32
  let c0_i32_401 : BitVec 32 := 0#32
  let c1_i32_403 : BitVec 32 := 1#32
  let arg20 : BitVec 32 := Scf.iv c0_i32_401 c1_i32_403 k0_t4
  let c128_i32_1096 : BitVec 32 := 128#32
  let v1109 : BitVec 32 := Scalar.muli arg20 c128_i32_1096
  let v1181 : Index := Scalar.indexCast v1109
  ![512, v1181.toNat]
def k0_dev13 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_474 : BitVec 32 := 1#32
  let v532 : BitVec 32 := Scalar.muli v4 c1_i32_474
  let v533 : BitVec 32 := Scalar.addi c0_i32_475 v532
  v533.toNat
def k0_dev14 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_484 : BitVec 32 := 1#32
  let v542 : BitVec 32 := Scalar.muli v7 c1_i32_484
  let v543 : BitVec 32 := Scalar.addi c0_i32_485 v542
  v543.toNat
@[reducible] def k0_t5_loop : Scf.Loop 32 :=
  let c0_i32_523 : BitVec 32 := 0#32
  let c8_i32_524 : BitVec 32 := 8#32
  let v597 : BitVec 32 := Scalar.addi c0_i32_523 c8_i32_524
  let c1_i32_525 : BitVec 32 := 1#32
  ⟨c0_i32_523, v597, c1_i32_525⟩
def k0_off42 (k0_t5 : Fin k0_t5_loop.trips) : Fin 2 → Nat :=
  let c0_1097 : Index := 0#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1110 : Index := Scalar.indexCast v1109
  ![0, v1110.toNat]
def k0_off43 (k0_t5 : Fin k0_t5_loop.trips) : Fin 2 → Nat :=
  let c0_1098 : Index := 0#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1112 : Index := Scalar.indexCast v1109
  ![0, v1112.toNat]
def k0_off44 (k0_t5 : Fin k0_t5_loop.trips) : Fin 2 → Nat :=
  let c256_1107 : Index := 256#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1133 : Index := Scalar.indexCast v1109
  ![256, v1133.toNat]
def k0_off45 (k0_t5 : Fin k0_t5_loop.trips) : Fin 2 → Nat :=
  let c128 : Index := 128#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1135 : Index := Scalar.indexCast v1109
  ![128, v1135.toNat]
def k0_off46 (k0_t5 : Fin k0_t5_loop.trips) : Fin 2 → Nat :=
  let c512_1116 : Index := 512#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1156 : Index := Scalar.indexCast v1109
  ![512, v1156.toNat]
def k0_off47 (k0_t5 : Fin k0_t5_loop.trips) : Fin 2 → Nat :=
  let c384 : Index := 384#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1158 : Index := Scalar.indexCast v1109
  ![384, v1158.toNat]
def k0_off48 (k0_t5 : Fin k0_t5_loop.trips) : Fin 2 → Nat :=
  let c768_1125 : Index := 768#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1179 : Index := Scalar.indexCast v1109
  ![768, v1179.toNat]
def k0_off49 (k0_t5 : Fin k0_t5_loop.trips) : Fin 2 → Nat :=
  let c512_1126 : Index := 512#32
  let c0_i32_523 : BitVec 32 := 0#32
  let c1_i32_525 : BitVec 32 := 1#32
  let arg20 : BitVec 32 := Scf.iv c0_i32_523 c1_i32_525 k0_t5
  let c128_i32_1096 : BitVec 32 := 128#32
  let v1109 : BitVec 32 := Scalar.muli arg20 c128_i32_1096
  let v1181 : Index := Scalar.indexCast v1109
  ![512, v1181.toNat]
@[reducible] def k0_t6_loop : Scf.Loop 32 :=
  let c0_i32_606 : BitVec 32 := 0#32
  let c8_i32_607 : BitVec 32 := 8#32
  let v684 : BitVec 32 := Scalar.addi c0_i32_606 c8_i32_607
  let c1_i32_608 : BitVec 32 := 1#32
  ⟨c0_i32_606, v684, c1_i32_608⟩
def k0_off50 (k0_t6 : Fin k0_t6_loop.trips) : Fin 2 → Nat :=
  let c0_1097 : Index := 0#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1110 : Index := Scalar.indexCast v1109
  ![0, v1110.toNat]
def k0_off51 (k0_t6 : Fin k0_t6_loop.trips) : Fin 2 → Nat :=
  let c0_1098 : Index := 0#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1112 : Index := Scalar.indexCast v1109
  ![0, v1112.toNat]
def k0_off52 (k0_t6 : Fin k0_t6_loop.trips) : Fin 2 → Nat :=
  let c256_1107 : Index := 256#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1133 : Index := Scalar.indexCast v1109
  ![256, v1133.toNat]
def k0_off53 (k0_t6 : Fin k0_t6_loop.trips) : Fin 2 → Nat :=
  let c128 : Index := 128#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1135 : Index := Scalar.indexCast v1109
  ![128, v1135.toNat]
def k0_off54 (k0_t6 : Fin k0_t6_loop.trips) : Fin 2 → Nat :=
  let c512_1116 : Index := 512#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1156 : Index := Scalar.indexCast v1109
  ![512, v1156.toNat]
def k0_off55 (k0_t6 : Fin k0_t6_loop.trips) : Fin 2 → Nat :=
  let c384 : Index := 384#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1158 : Index := Scalar.indexCast v1109
  ![384, v1158.toNat]
def k0_off56 (k0_t6 : Fin k0_t6_loop.trips) : Fin 2 → Nat :=
  let c768_1125 : Index := 768#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1179 : Index := Scalar.indexCast v1109
  ![768, v1179.toNat]
def k0_off57 (k0_t6 : Fin k0_t6_loop.trips) : Fin 2 → Nat :=
  let c512_1126 : Index := 512#32
  let c0_i32_606 : BitVec 32 := 0#32
  let c1_i32_608 : BitVec 32 := 1#32
  let arg20 : BitVec 32 := Scf.iv c0_i32_606 c1_i32_608 k0_t6
  let c128_i32_1096 : BitVec 32 := 128#32
  let v1109 : BitVec 32 := Scalar.muli arg20 c128_i32_1096
  let v1181 : Index := Scalar.indexCast v1109
  ![512, v1181.toNat]
def k0_dev15 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_679 : BitVec 32 := 1#32
  let v742 : BitVec 32 := Scalar.muli v4 c1_i32_679
  let v743 : BitVec 32 := Scalar.addi c0_i32_680 v742
  v743.toNat
def k0_dev16 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_689 : BitVec 32 := 1#32
  let v752 : BitVec 32 := Scalar.muli v7 c1_i32_689
  let v753 : BitVec 32 := Scalar.addi c0_i32_690 v752
  v753.toNat
@[reducible] def k0_t7_loop : Scf.Loop 32 :=
  let c0_i32_779 : BitVec 32 := 0#32
  let c8_i32_780 : BitVec 32 := 8#32
  let v849 : BitVec 32 := Scalar.addi c0_i32_779 c8_i32_780
  let c1_i32_781 : BitVec 32 := 1#32
  ⟨c0_i32_779, v849, c1_i32_781⟩
def k0_off58 (k0_t7 : Fin k0_t7_loop.trips) : Fin 2 → Nat :=
  let c0_1097 : Index := 0#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1110 : Index := Scalar.indexCast v1109
  ![0, v1110.toNat]
def k0_off59 (k0_t7 : Fin k0_t7_loop.trips) : Fin 2 → Nat :=
  let c0_1098 : Index := 0#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1112 : Index := Scalar.indexCast v1109
  ![0, v1112.toNat]
def k0_off60 (k0_t7 : Fin k0_t7_loop.trips) : Fin 2 → Nat :=
  let c256_1107 : Index := 256#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1133 : Index := Scalar.indexCast v1109
  ![256, v1133.toNat]
def k0_off61 (k0_t7 : Fin k0_t7_loop.trips) : Fin 2 → Nat :=
  let c128 : Index := 128#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1135 : Index := Scalar.indexCast v1109
  ![128, v1135.toNat]
def k0_off62 (k0_t7 : Fin k0_t7_loop.trips) : Fin 2 → Nat :=
  let c512_1116 : Index := 512#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1156 : Index := Scalar.indexCast v1109
  ![512, v1156.toNat]
def k0_off63 (k0_t7 : Fin k0_t7_loop.trips) : Fin 2 → Nat :=
  let c384 : Index := 384#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1158 : Index := Scalar.indexCast v1109
  ![384, v1158.toNat]
def k0_off64 (k0_t7 : Fin k0_t7_loop.trips) : Fin 2 → Nat :=
  let c768_1125 : Index := 768#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1179 : Index := Scalar.indexCast v1109
  ![768, v1179.toNat]
def k0_off65 (k0_t7 : Fin k0_t7_loop.trips) : Fin 2 → Nat :=
  let c512_1126 : Index := 512#32
  let c0_i32_779 : BitVec 32 := 0#32
  let c1_i32_781 : BitVec 32 := 1#32
  let arg20 : BitVec 32 := Scf.iv c0_i32_779 c1_i32_781 k0_t7
  let c128_i32_1096 : BitVec 32 := 128#32
  let v1109 : BitVec 32 := Scalar.muli arg20 c128_i32_1096
  let v1181 : Index := Scalar.indexCast v1109
  ![512, v1181.toNat]
@[reducible] def k0_t8_loop : Scf.Loop 32 :=
  let c0_i32_933 : BitVec 32 := 0#32
  let c8_i32_934 : BitVec 32 := 8#32
  let v994 : BitVec 32 := Scalar.addi c0_i32_933 c8_i32_934
  let c1_i32_935 : BitVec 32 := 1#32
  ⟨c0_i32_933, v994, c1_i32_935⟩
def k0_off66 (k0_t8 : Fin k0_t8_loop.trips) : Fin 2 → Nat :=
  let c0_1097 : Index := 0#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1110 : Index := Scalar.indexCast v1109
  ![0, v1110.toNat]
def k0_off67 (k0_t8 : Fin k0_t8_loop.trips) : Fin 2 → Nat :=
  let c0_1098 : Index := 0#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1112 : Index := Scalar.indexCast v1109
  ![0, v1112.toNat]
def k0_off68 (k0_t8 : Fin k0_t8_loop.trips) : Fin 2 → Nat :=
  let c256_1107 : Index := 256#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1133 : Index := Scalar.indexCast v1109
  ![256, v1133.toNat]
def k0_off69 (k0_t8 : Fin k0_t8_loop.trips) : Fin 2 → Nat :=
  let c128 : Index := 128#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1135 : Index := Scalar.indexCast v1109
  ![128, v1135.toNat]
def k0_off70 (k0_t8 : Fin k0_t8_loop.trips) : Fin 2 → Nat :=
  let c512_1116 : Index := 512#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1156 : Index := Scalar.indexCast v1109
  ![512, v1156.toNat]
def k0_off71 (k0_t8 : Fin k0_t8_loop.trips) : Fin 2 → Nat :=
  let c384 : Index := 384#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1158 : Index := Scalar.indexCast v1109
  ![384, v1158.toNat]
def k0_off72 (k0_t8 : Fin k0_t8_loop.trips) : Fin 2 → Nat :=
  let c768_1125 : Index := 768#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1179 : Index := Scalar.indexCast v1109
  ![768, v1179.toNat]
def k0_off73 (k0_t8 : Fin k0_t8_loop.trips) : Fin 2 → Nat :=
  let c512_1126 : Index := 512#32
  let c0_i32_933 : BitVec 32 := 0#32
  let c1_i32_935 : BitVec 32 := 1#32
  let arg20 : BitVec 32 := Scf.iv c0_i32_933 c1_i32_935 k0_t8
  let c128_i32_1096 : BitVec 32 := 128#32
  let v1109 : BitVec 32 := Scalar.muli arg20 c128_i32_1096
  let v1181 : Index := Scalar.indexCast v1109
  ![512, v1181.toNat]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S8x1024x8192 : Shape := ⟨3, ![8, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S8x64x1024x1024 : Shape := ⟨4, ![8, 64, 1024, 1024]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S1x1x1024x1 : Shape := ⟨4, ![1, 1, 1024, 1]⟩
abbrev S8x64x128x1024 : Shape := ⟨4, ![8, 64, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x8192, .bf16⟩
  | .hbm, ⟨2, _⟩ => ⟨S8x1024x64x128, .bf16⟩
  | .hbm, ⟨3, _⟩ => ⟨S8x1024x64x128, .bf16⟩
  | .hbm, ⟨4, _⟩ => ⟨S8192x1024, .bf16⟩
  | .hbm, ⟨5, _⟩ => ⟨S8x1024x8192, .f32⟩
  | .hbm, ⟨6, _⟩ => ⟨S8x1024x8192, .bf16⟩
  | .hbm, ⟨7, _⟩ => ⟨S8x1024x64x128, .bf16⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i1⟩
  | .hbm, ⟨19, _⟩ => ⟨S8x64x1024x1024, .f32⟩
  | .hbm, ⟨20, _⟩ => ⟨S8x64x1024x1024, .bf16⟩
  | .hbm, ⟨21, _⟩ => ⟨S8x64x1024x1024, .f32⟩
  | .hbm, ⟨22, _⟩ => ⟨S_, .f32⟩
  | .hbm, ⟨23, _⟩ => ⟨S8x64x1024x1024, .f32⟩
  | .hbm, ⟨24, _⟩ => ⟨S8x64x1024x1024, .f32⟩
  | .hbm, ⟨25, _⟩ => ⟨S1x1x1024x1024, .i1⟩
  | .hbm, ⟨26, _⟩ => ⟨S_, .f32⟩
  | .hbm, ⟨27, _⟩ => ⟨S_, .f32⟩
  | .hbm, ⟨28, _⟩ => ⟨S8x64x1024x1024, .i1⟩
  | .hbm, ⟨29, _⟩ => ⟨S8x64x1024x1024, .f32⟩
  | .hbm, ⟨30, _⟩ => ⟨S8x64x1024x1024, .f32⟩
  | .hbm, ⟨31, _⟩ => ⟨S_, .f32⟩
  | .hbm, ⟨32, _⟩ => ⟨S8x64x1024, .f32⟩
  | .hbm, ⟨33, _⟩ => ⟨S8x64x1024x1, .f32⟩
  | .hbm, ⟨34, _⟩ => ⟨S8x64x1024x1024, .f32⟩
  | .hbm, ⟨35, _⟩ => ⟨S8x64x1024x1024, .f32⟩
  | .hbm, ⟨36, _⟩ => ⟨S8x64x1024x1024, .f32⟩
  | .hbm, ⟨37, _⟩ => ⟨S_, .i1⟩
  | .hbm, ⟨38, _⟩ => ⟨S1024, .i1⟩
  | .hbm, ⟨39, _⟩ => ⟨S1x1x1024x1, .i1⟩
  | .hbm, ⟨40, _⟩ => ⟨S_, .f32⟩
  | .hbm, ⟨41, _⟩ => ⟨S8x64x1024, .f32⟩
  | .hbm, ⟨42, _⟩ => ⟨S8x64x1024x1, .f32⟩
  | .hbm, ⟨43, _⟩ => ⟨S_, .f32⟩
  | .hbm, ⟨44, _⟩ => ⟨S_, .f32⟩
  | .hbm, ⟨45, _⟩ => ⟨S8x64x1024x1, .i1⟩
  | .hbm, ⟨46, _⟩ => ⟨S8x64x1024x1, .f32⟩
  | .hbm, ⟨47, _⟩ => ⟨S8x64x1024x1, .f32⟩
  | .hbm, ⟨48, _⟩ => ⟨S8x64x1024x1024, .f32⟩
  | .hbm, ⟨49, _⟩ => ⟨S8x64x1024x1024, .f32⟩
  | .hbm, ⟨50, _⟩ => ⟨S1x1x1024x1, .i1⟩
  | .hbm, ⟨51, _⟩ => ⟨S_, .f32⟩
  | .hbm, ⟨52, _⟩ => ⟨S_, .f32⟩
  | .hbm, ⟨53, _⟩ => ⟨S8x64x1024x1024, .i1⟩
  | .hbm, ⟨54, _⟩ => ⟨S8x64x1024x1024, .f32⟩
  | .hbm, ⟨55, _⟩ => ⟨S8x64x1024x1024, .f32⟩
  | .hbm, ⟨56, _⟩ => ⟨S8x1024x64x128, .f32⟩
  | .hbm, ⟨57, _⟩ => ⟨S8x64x128x1024, .f32⟩
  | .hbm, ⟨58, _⟩ => ⟨S8x1024x64x128, .f32⟩
  | .hbm, ⟨59, _⟩ => ⟨S8x1024x8192, .f32⟩
  | .hbm, ⟨60, _⟩ => ⟨S8192x1024, .f32⟩
  | .hbm, ⟨61, _⟩ => ⟨S8x1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Clean.lean ====
/- The kernel's body cut where it works: the operations of `cc0__body`, in its order, as one small
   program per stage (the mask, the barrier, a copy of K and V, the queries, a head of attention, the
   projection, a hop around the ring), each over the bundle of the body's operands. The printed body
   is their sequence, `body_eq`. -/
module

public import proofs.«01_k».proof.Proof.Gen.KernelIdeal
public import Idealize.ShloMosaic.Lib.Pipeline.Regions
public import Idealize.ShloMosaic.Lib.Tactic

@[expose] public section

set_option maxRecDepth 100000
set_option maxHeartbeats 0

noncomputable section

namespace Cert.KernelIdeal.Att

open Idealize.ShloMosaic Idealize.SL.Sem
open Cert.KernelIdeal Cert.KernelIdeal.Gen

variable {F : FTy → Type} [FloatOps F] [Named F]

/-- The operands of the body. -/
structure Refs where
  x : Memref sig .tc .vmem S1024x1024 .bf16
  hx : x.IsWhole
  wq : Memref sig .tc .vmem S1024x1024 .bf16
  hwq : wq.IsWhole
  wo : Memref sig .tc .vmem S1024x1024 .bf16
  hwo : wo.IsWhole
  kt : Memref sig .tc .hbm S1024x8192 .bf16
  hkt : kt.IsWhole
  vt : Memref sig .tc .hbm S1024x8192 .bf16
  hvt : vt.IsWhole
  out : Memref sig .tc .vmem S1x1024x1024 .f32
  hout : out.IsWhole
  rq : Memref sig .tc .vmem S7x1024x1024 .bf16
  hrq : rq.IsWhole
  ro : Memref sig .tc .vmem S7x1024x1024 .bf16
  hro : ro.IsWhole
  kb : Memref sig .tc .vmem S1024x1024 .bf16
  hkb : kb.IsWhole
  vb : Memref sig .tc .vmem S1024x1024 .bf16
  hvb : vb.IsWhole
  ctx : Memref sig .tc .vmem S1024x1024 .bf16
  hctx : ctx.IsWhole
  q : Memref sig .tc .vmem S1024x1024 .bf16
  hq : q.IsWhole
  bias : Memref sig .tc .vmem S4x256x512 .bf16
  hbias : bias.IsWhole
  st : Memref sig .tc .vmem S2x1024x1024 .bf16
  hst : st.IsWhole
  sQs : DmaSems sig S7
  sQr : DmaSems sig S7
  sOs : DmaSems sig S7
  sOr : DmaSems sig S7
  sK : DmaSems sig S_
  sV : DmaSems sig S_

/-- A program of the TensorCore. -/
abbrev Pg (F : FTy → Type) (A : Type) := Prog (TpuEff nD τ sig (Elt F) Λ₀ .tc) A

/-! ## Places in the buffers -/

theorem rowInb (b : Fin 4) : ∀ a, (![256 * b.val, 0] : Fin 2 → Nat) a + S256x1024.size a ≤ S1024x1024.size a := by
  revert b; decide
theorem rowPacked (b : Fin 4) : (Rect.unit (s := S1024x1024) ![256 * b.val, 0] S256x1024.size (rowInb b)).PackedRows (EltTy.packing .bf16) := by
  revert b; decide +kernel
theorem outInb (b : Fin 4) : ∀ a, (![0, 256 * b.val, 0] : Fin 3 → Nat) a + S1x256x1024.size a ≤ S1x1024x1024.size a := by
  revert b; decide
theorem biasInb (b : Fin 4) : ∀ a, (![b.val, 0, 0] : Fin 3 → Nat) a + S1x256x512.size a ≤ S4x256x512.size a := by
  revert b; decide
theorem biasPacked (b : Fin 4) : (Rect.unit (s := S4x256x512) ![b.val, 0, 0] S1x256x512.size (biasInb b)).PackedRows (EltTy.packing .bf16) := by
  revert b; decide +kernel
theorem slotInb (t : Fin 7) : ∀ a, (![t.val, 0, 0] : Fin 3 → Nat) a + S1x1024x1024.size a ≤ S7x1024x1024.size a := by
  revert t; decide
theorem slotWords (t : Fin 7) : (Rect.unit (s := S7x1024x1024) ![t.val, 0, 0] S1x1024x1024.size (slotInb t)).WholeWords (EltTy.packing .bf16) := by
  revert t; decide +kernel
theorem semInb (t : Fin 7) : ∀ a, (![t.val] : Fin 1 → Nat) a + S1.size a ≤ S7.size a := by
  revert t; decide
theorem stInb (s : Fin 2) : ∀ a, (![s.val, 0, 0] : Fin 3 → Nat) a + S1x1024x1024.size a ≤ S2x1024x1024.size a := by
  revert s; decide

/-- Slot `t` of a ring of seven blocks. -/
abbrev slot (m : Memref sig .tc .vmem S7x1024x1024 .bf16) (t : Fin 7) : Memref sig .tc .vmem S1024x1024 .bf16 :=
  (m.slice (Rect.unit (s := S7x1024x1024) ![t.val, 0, 0] S1x1024x1024.size (slotInb t)) (fun _ => rfl)).squeeze S1024x1024 squeezes_S1x1024x1024_S1024x1024

/-- Semaphore `t` of seven. -/
abbrev semAt (m : DmaSems sig S7) (t : Fin 7) :=
  ((m.slice (Rect.unit (s := S7) ![t.val] S1.size (semInb t))).squeeze S_ squeezes_S1_S_).sem

/-- Place `s` of the two stashed contexts. -/
abbrev stash (m : Memref sig .tc .vmem S2x1024x1024 .bf16) (s : Fin 2) : Memref sig .tc .vmem S1024x1024 .bf16 :=
  (m.slice (Rect.unit (s := S2x1024x1024) ![s.val, 0, 0] S1x1024x1024.size (stInb s)) (fun _ => rfl)).squeeze S1024x1024 squeezes_S1x1024x1024_S1024x1024

/-- The columns of K (or V) that device `d` reads in its part `r`. -/
abbrev kvBlk (m : Memref sig .tc .hbm S1024x8192 .bf16) (d : Dev nD) (r : Fin 8) : Memref sig .tc .hbm S1024x1024 .bf16 :=
  m.slice (Rect.unit (s := S1024x8192) (k0_off1 d (k0_off1_at r)) S1024x1024.size (k0_off1_inb d r)) (fun _ => rfl)

/-! ## Values -/

/-- The additive mask of one block of queries: zero inside the band, the mask constant outside. -/
def biasVal (qo ko : BitVec 32) : Vec F S1x256x512 .bf16 :=
  shapeCast S1x256x512
    (truncf .bf16
      (select
        (cmpi .sle
          (absi (subi (addi (broadcast S256x512 qo) (iota .tc S256x512 32 [0] iota_S256x512_d0_w32))
            (addi (broadcast S256x512 ko) (iota .tc S256x512 32 [1] iota_S256x512_d1_w32))))
          (broadcast S256x512 128#32))
        (broadcast S256x512 (Scalar.ofBits .f32 0x00000000#32 : F .f32))
        (broadcast S256x512 (Named.named κ "mask" 0xCE6E6B28#32 : F .f32)))
      bitsLt_bf16_f32)
    shapeCasts_S256x512_S1x256x512

/-- A block of queries: rows of x times a block of Wq, scaled. -/
def qVal (x : Vec F S256x1024 .bf16) (wq : Vec F S1024x1024 .bf16) : Vec F S256x1024 .bf16 :=
  shapeCast S256x1024
    (truncf .bf16
      (mulf (matmul dot_S256x1024_S1024x1024_S256x1024_1_0_0_1_n_n none
          (shapeCast S256x1024 x shapeCasts_S256x1024_S256x1024) wq (constant S256x1024 .f32 0x00000000#32))
        (broadcast S256x1024 (Scalar.ofBits .f32 0x3DB504F3#32)))
      bitsLt_bf16_f32)
    shapeCasts_S256x1024_S256x1024

/-- One head of attention on one block of queries: the weights of a window of keys times its values. -/
def headVal (q : Vec F S256x128 .bf16) (k : Vec F S512x128 .bf16) (b : Vec F S1x256x512 .bf16)
    (v : Vec F S512x128 .bf16) : Vec F S256x128 .bf16 :=
  let e : FVec F S256x512 .f32 :=
    exp (addf (matmul dot_S256x128_S512x128_S256x512_1_1_0_0_n_n none q k (constant S256x512 .f32 0x00000000#32))
      (extf .f32 (shapeCast S256x512 b shapeCasts_S1x256x512_S256x512) bitsLt_bf16_f32))
  shapeCast S256x128
    (truncf .bf16
      (matmul dot_S256x512_S512x128_S256x128_1_0_0_1_n_n none
        (truncf .bf16
          (divf e
            (broadcastTo S256x512
              (shapeCast S256x1
                (multiReduction .add [1] S256 e 0x00000000#32 reduces_S256x512_S256 (.inl rfl) rfl)
                shapeCasts_S256_S256x1)
              broadcasts_S256x1_S256x512))
          bitsLt_bf16_f32)
        v (constant S256x128 .f32 0x00000000#32))
      bitsLt_bf16_f32)
    shapeCasts_S256x128_S256x128

/-- Rows of a context times a block of Wo. -/
def projVal (a : Vec F S256x1024 .bf16) (wo : Vec F S1024x1024 .bf16) : FVec F S256x1024 .f32 :=
  matmul dot_S256x1024_S1024x1024_S256x1024_1_0_0_1_n_n none a wo (constant S256x1024 .f32 0x00000000#32)

/-- The first contribution to rows of the result. -/
def outInit (a : Vec F S256x1024 .bf16) (wo : Vec F S1024x1024 .bf16) : Vec F S1x256x1024 .f32 :=
  shapeCast S1x256x1024 (projVal a wo) shapeCasts_S256x1024_S1x256x1024

/-- A later contribution, added to the rows the result holds. -/
def outAdd (a : Vec F S256x1024 .bf16) (wo : Vec F S1024x1024 .bf16) (o : Vec F S1x256x1024 .f32) :
    Vec F S1x256x1024 .f32 :=
  shapeCast S1x256x1024
    (addf (shapeCast S256x1024 o shapeCasts_S1x256x1024_S256x1024 : FVec F S256x1024 .f32) (projVal a wo))
    shapeCasts_S256x1024_S1x256x1024

/-! ## Stages -/

section stages
variable (R : Refs)

/-- The mask of query block `b` is written. -/
def biasRow (b : Fin 4) (qo ko : BitVec 32) : Pg F PUnit := do
  let _d : Vec F S1x256x512 .bf16 ← Prog.lift (.load R.bias (Rect.unit (s := S4x256x512) ![b.val, 0, 0] S1x256x512.size (biasInb b)).toLoadRect (View.loadsAt_vmem h_S1x256x512))
  Prog.lift (.store R.bias (Rect.unit (s := S4x256x512) ![b.val, 0, 0] S1x256x512.size (biasInb b)) (biasVal qo ko) Finset.univ (View.stores_vmem h_S1x256x512 (R.hbias.storeExact_slice rfl _ (biasPacked b)) (fun _ => rfl)) (.inl rfl))

def biasStage : Pg F PUnit := do
  biasRow R 0 0#32 0#32
  biasRow R 1 256#32 128#32
  biasRow R 2 512#32 384#32
  biasRow R 3 768#32 512#32

/-- Both neighbours are told that this device has started, and both are waited for. -/
def barrierStage (d0 : Dev nD) : Pg F PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32

/-- The copies of part `r`'s K and V start. -/
def kvStart (d0 : Dev nD) (r : Fin 8) : Pg F PUnit := do
  Prog.lift (.enqueueDma (kvBlk R.kt d0 r) (.here R.kb) (.dma R.sK.sem) (R.hkt.wordExact_slice rfl _ (k0_off1_wordsbf16 d0 r)) R.hkb.wordExact ⟨Or.inl rfl, trivial⟩)
  Prog.lift (.enqueueDma (kvBlk R.vt d0 r) (.here R.vb) (.dma R.sV.sem) (R.hvt.wordExact_slice rfl _ (k0_off1_wordsbf16 d0 r)) R.hvb.wordExact ⟨Or.inl rfl, trivial⟩)

/-- The copies of part `r`'s K and V have landed. -/
def kvWait (d0 : Dev nD) (r : Fin 8) : Pg F PUnit := do
  Prog.lift (.waitDma2 R.sK.sem (kvBlk R.kt d0 r) R.kb (R.hkt.wordExact_slice rfl _ (k0_off1_wordsbf16 d0 r)) R.hkb.wordExact)
  Prog.lift (.waitDma2 R.sV.sem (kvBlk R.vt d0 r) R.vb (R.hvt.wordExact_slice rfl _ (k0_off1_wordsbf16 d0 r)) R.hvb.wordExact)

/-- This device's own block of Wq goes to device `dv`, into slot 0 of its ring. -/
def sendQ0 (dv : Dev nD) : Pg F PUnit :=
  Prog.lift (.enqueueDma R.wq (.remote (Dev.tc dv) (slot R.rq 0) (.dma (semAt R.sQs 0))) (.dma (semAt R.sQr 0)) R.hwq.wordExact ((R.hrq.wordExact_slice rfl _ (slotWords 0)).reshape _ _) ⟨⟨rfl, Or.inl rfl⟩, trivial⟩)

def sendO0 (dv : Dev nD) : Pg F PUnit :=
  Prog.lift (.enqueueDma R.wo (.remote (Dev.tc dv) (slot R.ro 0) (.dma (semAt R.sOs 0))) (.dma (semAt R.sOr 0)) R.hwo.wordExact ((R.hro.wordExact_slice rfl _ (slotWords 0)).reshape _ _) ⟨⟨rfl, Or.inl rfl⟩, trivial⟩)

/-- The block of slot `s` goes on to device `dv`, into slot `t`. -/
def sendQ (s t : Fin 7) (dv : Dev nD) : Pg F PUnit :=
  Prog.lift (.enqueueDma (slot R.rq s) (.remote (Dev.tc dv) (slot R.rq t) (.dma (semAt R.sQs t))) (.dma (semAt R.sQr t)) ((R.hrq.wordExact_slice rfl _ (slotWords s)).reshape _ _) ((R.hrq.wordExact_slice rfl _ (slotWords t)).reshape _ _) ⟨⟨rfl, Or.inl rfl⟩, trivial⟩)

def sendO (s t : Fin 7) (dv : Dev nD) : Pg F PUnit :=
  Prog.lift (.enqueueDma (slot R.ro s) (.remote (Dev.tc dv) (slot R.ro t) (.dma (semAt R.sOs t))) (.dma (semAt R.sOr t)) ((R.hro.wordExact_slice rfl _ (slotWords s)).reshape _ _) ((R.hro.wordExact_slice rfl _ (slotWords t)).reshape _ _) ⟨⟨rfl, Or.inl rfl⟩, trivial⟩)

/-- The blocks that arrive in slot `t` of both rings have landed. -/
def recvWait (t : Fin 7) : Pg F PUnit := do
  Prog.lift (.waitDma2 (semAt R.sQr t) (slot R.rq t) (slot R.rq t) ((R.hrq.wordExact_slice rfl _ (slotWords t)).reshape _ _) ((R.hrq.wordExact_slice rfl _ (slotWords t)).reshape _ _))
  Prog.lift (.waitDma2 (semAt R.sOr t) (slot R.ro t) (slot R.ro t) ((R.hro.wordExact_slice rfl _ (slotWords t)).reshape _ _) ((R.hro.wordExact_slice rfl _ (slotWords t)).reshape _ _))

/-- The sends of this device's own blocks have left. -/
def sendWait0 : Pg F PUnit := do
  Prog.lift (.waitDma2 (semAt R.sQs 0) (slot R.rq 0) R.wq ((R.hrq.wordExact_slice rfl _ (slotWords 0)).reshape _ _) R.hwq.wordExact)
  Prog.lift (.waitDma2 (semAt R.sOs 0) (slot R.ro 0) R.wo ((R.hro.wordExact_slice rfl _ (slotWords 0)).reshape _ _) R.hwo.wordExact)

def sendWait (s t : Fin 7) : Pg F PUnit := do
  Prog.lift (.waitDma2 (semAt R.sQs t) (slot R.rq t) (slot R.rq s) ((R.hrq.wordExact_slice rfl _ (slotWords t)).reshape _ _) ((R.hrq.wordExact_slice rfl _ (slotWords s)).reshape _ _))
  Prog.lift (.waitDma2 (semAt R.sOs t) (slot R.ro t) (slot R.ro s) ((R.hro.wordExact_slice rfl _ (slotWords t)).reshape _ _) ((R.hro.wordExact_slice rfl _ (slotWords s)).reshape _ _))

/-- A block held whole, read. -/
def loadW (m : Memref sig .tc .vmem S1024x1024 .bf16) : Pg F (Vec F S1024x1024 .bf16) := do
  let v : Vec F S1024x1024 .bf16 ← Prog.lift (.load m (Rect.unit (s := S1024x1024) ![0, 0] S1024x1024.size inb_S1024x1024_S1024x1024_0_0).toLoadRect (View.loadsAt_vmem h_S1024x1024))
  pure (shapeCast S1024x1024 v shapeCasts_S1024x1024_S1024x1024)

/-- The block of slot `t` of a ring, read. -/
def loadSlot (m : Memref sig .tc .vmem S7x1024x1024 .bf16) (t : Fin 7) : Pg F (Vec F S1024x1024 .bf16) := do
  let v : Vec F S1x1024x1024 .bf16 ← Prog.lift (.load m (Rect.unit (s := S7x1024x1024) ![t.val, 0, 0] S1x1024x1024.size (slotInb t)).toLoadRect (View.loadsAt_vmem h_S1x1024x1024))
  pure (shapeCast S1024x1024 v shapeCasts_S1x1024x1024_S1024x1024)

/-- The queries of row block `b`. -/
def qRow (wq : Vec F S1024x1024 .bf16) (b : Fin 4) : Pg F PUnit := do
  let x : Vec F S256x1024 .bf16 ← Prog.lift (.load R.x (Rect.unit (s := S1024x1024) ![256 * b.val, 0] S256x1024.size (rowInb b)).toLoadRect (View.loadsAt_vmem h_S256x1024))
  let _d : Vec F S256x1024 .bf16 ← Prog.lift (.load R.q (Rect.unit (s := S1024x1024) ![256 * b.val, 0] S256x1024.size (rowInb b)).toLoadRect (View.loadsAt_vmem h_S256x1024))
  Prog.lift (.store R.q (Rect.unit (s := S1024x1024) ![256 * b.val, 0] S256x1024.size (rowInb b)) (qVal x wq) Finset.univ (View.stores_vmem h_S256x1024 (R.hq.storeExact_slice rfl _ (rowPacked b)) (fun _ => rfl)) (.inl rfl))

def qStage (wq : Vec F S1024x1024 .bf16) : Pg F PUnit := do
  qRow R wq 0
  qRow R wq 1
  qRow R wq 2
  qRow R wq 3

/-- One head on query block `b`, its context written among the contexts. -/
def headRow (b : Fin 4) (oq ok : Fin 2 → Nat) (hq : ∀ a, oq a + S256x128.size a ≤ S1024x1024.size a)
    (hk : ∀ a, ok a + S512x128.size a ≤ S1024x1024.size a)
    (hp : (Rect.unit (s := S1024x1024) oq S256x128.size hq).PackedRows (EltTy.packing .bf16)) : Pg F PUnit := do
  let q : Vec F S256x128 .bf16 ← Prog.lift (.load R.q (Rect.unit (s := S1024x1024) oq S256x128.size hq).toLoadRect (View.loadsAt_vmem h_S256x128))
  let k : Vec F S512x128 .bf16 ← Prog.lift (.load R.kb (Rect.unit (s := S1024x1024) ok S512x128.size hk).toLoadRect (View.loadsAt_vmem h_S512x128))
  let m : Vec F S1x256x512 .bf16 ← Prog.lift (.load R.bias (Rect.unit (s := S4x256x512) ![b.val, 0, 0] S1x256x512.size (biasInb b)).toLoadRect (View.loadsAt_vmem h_S1x256x512))
  let v : Vec F S512x128 .bf16 ← Prog.lift (.load R.vb (Rect.unit (s := S1024x1024) ok S512x128.size hk).toLoadRect (View.loadsAt_vmem h_S512x128))
  let _d : Vec F S256x128 .bf16 ← Prog.lift (.load R.ctx (Rect.unit (s := S1024x1024) oq S256x128.size hq).toLoadRect (View.loadsAt_vmem h_S256x128))
  Prog.lift (.store R.ctx (Rect.unit (s := S1024x1024) oq S256x128.size hq) (headVal q k m v) Finset.univ (View.stores_vmem h_S256x128 (R.hctx.storeExact_slice rfl _ hp) (fun _ => rfl)) (.inl rfl))

/-- One head on query block `b`, its context written to place `s` of the stash. -/
def headRowSt (s : Fin 2) (b : Fin 4) (oq ok : Fin 2 → Nat) (os : Fin 3 → Nat) (hq : ∀ a, oq a + S256x128.size a ≤ S1024x1024.size a)
    (hk : ∀ a, ok a + S512x128.size a ≤ S1024x1024.size a)
    (hs : ∀ a, os a + S1x256x128.size a ≤ S2x1024x1024.size a)
    (hp : (Rect.unit (s := S2x1024x1024) os S1x256x128.size hs).PackedRows (EltTy.packing .bf16)) : Pg F PUnit := do
  let q : Vec F S256x128 .bf16 ← Prog.lift (.load R.q (Rect.unit (s := S1024x1024) oq S256x128.size hq).toLoadRect (View.loadsAt_vmem h_S256x128))
  let k : Vec F S512x128 .bf16 ← Prog.lift (.load R.kb (Rect.unit (s := S1024x1024) ok S512x128.size hk).toLoadRect (View.loadsAt_vmem h_S512x128))
  let m : Vec F S1x256x512 .bf16 ← Prog.lift (.load R.bias (Rect.unit (s := S4x256x512) ![b.val, 0, 0] S1x256x512.size (biasInb b)).toLoadRect (View.loadsAt_vmem h_S1x256x512))
  let v : Vec F S512x128 .bf16 ← Prog.lift (.load R.vb (Rect.unit (s := S1024x1024) ok S512x128.size hk).toLoadRect (View.loadsAt_vmem h_S512x128))
  let _d : Vec F S256x128 .bf16 ← Prog.lift (.load (stash R.st s) (Rect.unit (s := S1024x1024) oq S256x128.size hq).toLoadRect (View.loadsAt_vmem h_S256x128))
  Prog.lift (.store R.st (Rect.unit (s := S2x1024x1024) os S1x256x128.size hs) (shapeCast S1x256x128 (headVal q k m v) shapeCasts_S256x128_S1x256x128) Finset.univ (View.stores_vmem h_S1x256x128 (R.hst.storeExact_slice rfl _ hp) (fun _ => rfl)) (.inl rfl))

/-- Rows of the contexts times a block of Wo start the result. -/
def projRow0 (wo : Vec F S1024x1024 .bf16) (b : Fin 4) : Pg F PUnit := do
  let a : Vec F S256x1024 .bf16 ← Prog.lift (.load R.ctx (Rect.unit (s := S1024x1024) ![256 * b.val, 0] S256x1024.size (rowInb b)).toLoadRect (View.loadsAt_vmem h_S256x1024))
  let _d : Vec F S1x256x1024 .f32 ← Prog.lift (.load R.out (Rect.unit (s := S1x1024x1024) ![0, 256 * b.val, 0] S1x256x1024.size (outInb b)).toLoadRect (View.loadsAt_vmem h_S1x256x1024))
  Prog.lift (.store R.out (Rect.unit (s := S1x1024x1024) ![0, 256 * b.val, 0] S1x256x1024.size (outInb b)) (outInit a wo) Finset.univ (View.stores_vmem_bits_univ h_S1x256x1024 rfl) (.inl rfl))

def projStage0 (wo : Vec F S1024x1024 .bf16) : Pg F PUnit := do
  projRow0 R wo 0
  projRow0 R wo 1
  projRow0 R wo 2
  projRow0 R wo 3

/-- Rows of a context times a block of Wo are added to the result. -/
def projRow (src : Memref sig .tc .vmem S1024x1024 .bf16) (wo : Vec F S1024x1024 .bf16) (b : Fin 4) : Pg F PUnit := do
  let a : Vec F S256x1024 .bf16 ← Prog.lift (.load src (Rect.unit (s := S1024x1024) ![256 * b.val, 0] S256x1024.size (rowInb b)).toLoadRect (View.loadsAt_vmem h_S256x1024))
  let o : Vec F S1x256x1024 .f32 ← Prog.lift (.load R.out (Rect.unit (s := S1x1024x1024) ![0, 256 * b.val, 0] S1x256x1024.size (outInb b)).toLoadRect (View.loadsAt_vmem h_S1x256x1024))
  let _d : Vec F S1x256x1024 .f32 ← Prog.lift (.load R.out (Rect.unit (s := S1x1024x1024) ![0, 256 * b.val, 0] S1x256x1024.size (outInb b)).toLoadRect (View.loadsAt_vmem h_S1x256x1024))
  Prog.lift (.store R.out (Rect.unit (s := S1x1024x1024) ![0, 256 * b.val, 0] S1x256x1024.size (outInb b)) (outAdd a wo o) Finset.univ (View.stores_vmem_bits_univ h_S1x256x1024 rfl) (.inl rfl))

def projStage (src : Memref sig .tc .vmem S1024x1024 .bf16) (wo : Vec F S1024x1024 .bf16) : Pg F PUnit := do
  projRow R src wo 0
  projRow R src wo 1
  projRow R src wo 2
  projRow R src wo 3

/-! ## The heads of the eight parts -/

/-- The eight heads of part 0, their contexts among the contexts. -/
def heads1 : Pg F PUnit := do
  Scf.Loop.for k0_t1_loop k0_t1_ok ⟨⟩ fun t _ => do
    headRow R 0 (k0_off2 t) (k0_off3 t) (k0_off2_inb t) (k0_off3_inb t) (k0_off2_packedbf16 t)
    headRow R 1 (k0_off4 t) (k0_off5 t) (k0_off4_inb t) (k0_off5_inb t) (k0_off4_packedbf16 t)
    headRow R 2 (k0_off6 t) (k0_off7 t) (k0_off6_inb t) (k0_off7_inb t) (k0_off6_packedbf16 t)
    headRow R 3 (k0_off8 t) (k0_off9 t) (k0_off8_inb t) (k0_off9_inb t) (k0_off8_packedbf16 t)
    pure ⟨⟩

/-- The eight heads of part 1, their contexts at place 0 of the stash. -/
def heads2 : Pg F PUnit := do
  Scf.Loop.for k0_t2_loop k0_t2_ok ⟨⟩ fun t _ => do
    headRowSt R 0 0 (k0_off10 t) (k0_off11 t) (k0_off12 t) (k0_off10_inb t) (k0_off11_inb t) (k0_off12_inb t) (k0_off12_packedbf16 t)
    headRowSt R 0 1 (k0_off13 t) (k0_off14 t) (k0_off15 t) (k0_off13_inb t) (k0_off14_inb t) (k0_off15_inb t) (k0_off15_packedbf16 t)
    headRowSt R 0 2 (k0_off16 t) (k0_off17 t) (k0_off18 t) (k0_off16_inb t) (k0_off17_inb t) (k0_off18_inb t) (k0_off18_packedbf16 t)
    headRowSt R 0 3 (k0_off19 t) (k0_off20 t) (k0_off21 t) (k0_off19_inb t) (k0_off20_inb t) (k0_off21_inb t) (k0_off21_packedbf16 t)
    pure ⟨⟩

/-- The eight heads of part 2, their contexts at place 1 of the stash. -/
def heads3 : Pg F PUnit := do
  Scf.Loop.for k0_t3_loop k0_t3_ok ⟨⟩ fun t _ => do
    headRowSt R 1 0 (k0_off22 t) (k0_off23 t) (k0_off24 t) (k0_off22_inb t) (k0_off23_inb t) (k0_off24_inb t) (k0_off24_packedbf16 t)
    headRowSt R 1 1 (k0_off25 t) (k0_off26 t) (k0_off27 t) (k0_off25_inb t) (k0_off26_inb t) (k0_off27_inb t) (k0_off27_packedbf16 t)
    headRowSt R 1 2 (k0_off28 t) (k0_off29 t) (k0_off30 t) (k0_off28_inb t) (k0_off29_inb t) (k0_off30_inb t) (k0_off30_packedbf16 t)
    headRowSt R 1 3 (k0_off31 t) (k0_off32 t) (k0_off33 t) (k0_off31_inb t) (k0_off32_inb t) (k0_off33_inb t) (k0_off33_packedbf16 t)
    pure ⟨⟩

/-- The eight heads of part 3, their contexts among the contexts. -/
def heads4 : Pg F PUnit := do
  Scf.Loop.for k0_t4_loop k0_t4_ok ⟨⟩ fun t _ => do
    headRow R 0 (k0_off34 t) (k0_off35 t) (k0_off34_inb t) (k0_off35_inb t) (k0_off34_packedbf16 t)
    headRow R 1 (k0_off36 t) (k0_off37 t) (k0_off36_inb t) (k0_off37_inb t) (k0_off36_packedbf16 t)
    headRow R 2 (k0_off38 t) (k0_off39 t) (k0_off38_inb t) (k0_off39_inb t) (k0_off38_packedbf16 t)
    headRow R 3 (k0_off40 t) (k0_off41 t) (k0_off40_inb t) (k0_off41_inb t) (k0_off40_packedbf16 t)
    pure ⟨⟩

/-- The eight heads of part 4, their contexts among the contexts. -/
def heads5 : Pg F PUnit := do
  Scf.Loop.for k0_t5_loop k0_t5_ok ⟨⟩ fun t _ => do
    headRow R 0 (k0_off42 t) (k0_off43 t) (k0_off42_inb t) (k0_off43_inb t) (k0_off42_packedbf16 t)
    headRow R 1 (k0_off44 t) (k0_off45 t) (k0_off44_inb t) (k0_off45_inb t) (k0_off44_packedbf16 t)
    headRow R 2 (k0_off46 t) (k0_off47 t) (k0_off46_inb t) (k0_off47_inb t) (k0_off46_packedbf16 t)
    headRow R 3 (k0_off48 t) (k0_off49 t) (k0_off48_inb t) (k0_off49_inb t) (k0_off48_packedbf16 t)
    pure ⟨⟩

/-- The eight heads of part 5, their contexts among the contexts. -/
def heads6 : Pg F PUnit := do
  Scf.Loop.for k0_t6_loop k0_t6_ok ⟨⟩ fun t _ => do
    headRow R 0 (k0_off50 t) (k0_off51 t) (k0_off50_inb t) (k0_off51_inb t) (k0_off50_packedbf16 t)
    headRow R 1 (k0_off52 t) (k0_off53 t) (k0_off52_inb t) (k0_off53_inb t) (k0_off52_packedbf16 t)
    headRow R 2 (k0_off54 t) (k0_off55 t) (k0_off54_inb t) (k0_off55_inb t) (k0_off54_packedbf16 t)
    headRow R 3 (k0_off56 t) (k0_off57 t) (k0_off56_inb t) (k0_off57_inb t) (k0_off56_packedbf16 t)
    pure ⟨⟩

/-- The eight heads of part 6, their contexts among the contexts. -/
def heads7 : Pg F PUnit := do
  Scf.Loop.for k0_t7_loop k0_t7_ok ⟨⟩ fun t _ => do
    headRow R 0 (k0_off58 t) (k0_off59 t) (k0_off58_inb t) (k0_off59_inb t) (k0_off58_packedbf16 t)
    headRow R 1 (k0_off60 t) (k0_off61 t) (k0_off60_inb t) (k0_off61_inb t) (k0_off60_packedbf16 t)
    headRow R 2 (k0_off62 t) (k0_off63 t) (k0_off62_inb t) (k0_off63_inb t) (k0_off62_packedbf16 t)
    headRow R 3 (k0_off64 t) (k0_off65 t) (k0_off64_inb t) (k0_off65_inb t) (k0_off64_packedbf16 t)
    pure ⟨⟩

/-- The eight heads of part 7, their contexts among the contexts. -/
def heads8 : Pg F PUnit := do
  Scf.Loop.for k0_t8_loop k0_t8_ok ⟨⟩ fun t _ => do
    headRow R 0 (k0_off66 t) (k0_off67 t) (k0_off66_inb t) (k0_off67_inb t) (k0_off66_packedbf16 t)
    headRow R 1 (k0_off68 t) (k0_off69 t) (k0_off68_inb t) (k0_off69_inb t) (k0_off68_packedbf16 t)
    headRow R 2 (k0_off70 t) (k0_off71 t) (k0_off70_inb t) (k0_off71_inb t) (k0_off70_packedbf16 t)
    headRow R 3 (k0_off72 t) (k0_off73 t) (k0_off72_inb t) (k0_off73_inb t) (k0_off72_packedbf16 t)
    pure ⟨⟩

/-! ## The steps -/

/-- This device's own blocks go out, into slots 0. -/
def firstHops (dq dO : Dev nD) : Pg F PUnit := do
  sendQ0 R dq
  sendO0 R dO

/-- The blocks of slots `s` have landed and go on, into slots `t`. -/
def hopOn (s t : Fin 7) (dq dO : Dev nD) : Pg F PUnit := do
  recvWait R s
  sendQ R s t dq
  sendO R s t dO

/-- The heads of part `r`, with the block of Wq in slot `a`. -/
def groupStage (d0 : Dev nD) (a : Fin 7) (r : Fin 8) (heads : Pg F PUnit) : Pg F PUnit := do
  let wq ← loadSlot R.rq a
  kvWait R d0 r
  qStage R wq
  heads

/-- Contexts times the block of Wo in slot `b`, added to the result. -/
def addStage (b : Fin 7) (src : Memref sig .tc .vmem S1024x1024 .bf16) : Pg F PUnit := do
  let wo ← loadSlot R.ro b
  projStage R src wo

/-- Part `r` in full, and the fetch of part `r'`. -/
def ctxPart (d0 : Dev nD) (a : Fin 7) (r r' : Fin 8) (heads : Pg F PUnit) (b : Fin 7) : Pg F PUnit := do
  groupStage R d0 a r heads
  kvStart R d0 r'
  addStage R b R.ctx

/-- The first step: the mask, the barrier, the first hops, and part 0 on this device's own blocks. -/
def step0 (d0 : Dev nD) : Pg F PUnit := do
  biasStage R
  barrierStage d0
  kvStart R d0 0
  firstHops R ⟨k0_dev3 d0, k0_dev3_lt d0⟩ ⟨k0_dev4 d0, k0_dev4_lt d0⟩
  let wq ← loadW R.wq
  kvWait R d0 0
  qStage R wq
  heads1 R
  kvStart R d0 1
  let wo ← loadW R.wo
  projStage0 R wo

def step1 (d0 : Dev nD) : Pg F PUnit := do
  hopOn R 0 1 ⟨k0_dev5 d0, k0_dev5_lt d0⟩ ⟨k0_dev6 d0, k0_dev6_lt d0⟩
  groupStage R d0 0 1 (heads2 R)
  kvStart R d0 2

def step2 (d0 : Dev nD) : Pg F PUnit := do
  hopOn R 1 2 ⟨k0_dev7 d0, k0_dev7_lt d0⟩ ⟨k0_dev8 d0, k0_dev8_lt d0⟩
  groupStage R d0 1 2 (heads3 R)
  kvStart R d0 3

def step3 (d0 : Dev nD) : Pg F PUnit := do
  hopOn R 2 3 ⟨k0_dev9 d0, k0_dev9_lt d0⟩ ⟨k0_dev10 d0, k0_dev10_lt d0⟩

def step4 (d0 : Dev nD) : Pg F PUnit := do
  hopOn R 3 4 ⟨k0_dev11 d0, k0_dev11_lt d0⟩ ⟨k0_dev12 d0, k0_dev12_lt d0⟩
  ctxPart R d0 3 3 4 (heads4 R) 3

def step5 (d0 : Dev nD) : Pg F PUnit := do
  hopOn R 4 5 ⟨k0_dev13 d0, k0_dev13_lt d0⟩ ⟨k0_dev14 d0, k0_dev14_lt d0⟩
  ctxPart R d0 4 4 5 (heads5 R) 2
  ctxPart R d0 2 5 6 (heads6 R) 4

def step6 (d0 : Dev nD) : Pg F PUnit := do
  hopOn R 5 6 ⟨k0_dev15 d0, k0_dev15_lt d0⟩ ⟨k0_dev16 d0, k0_dev16_lt d0⟩
  addStage R 5 (stash R.st 1)
  ctxPart R d0 5 6 7 (heads7 R) 1

def step7 (d0 : Dev nD) : Pg F PUnit := do
  recvWait R 6
  addStage R 6 (stash R.st 0)
  groupStage R d0 6 7 (heads8 R)
  addStage R 0 R.ctx

/-- All the sends have left. -/
def drain : Pg F PUnit := do
  sendWait0 R
  sendWait R 0 1
  sendWait R 1 2
  sendWait R 2 3
  sendWait R 3 4
  sendWait R 4 5
  sendWait R 5 6

/-- The whole body. -/
def staged : Pg F PUnit := do
  let d0 : Dev nD ← Prog.lift .deviceId
  step0 R d0
  step1 R d0
  step2 R d0
  step3 R d0
  step4 R d0
  step5 R d0
  step6 R d0
  step7 R d0
  drain R
  pure ⟨⟩

end stages

/-- The printed body is the sequence of the stages. -/
theorem body_eq (R : Refs) :
    (cc0__body R.x R.hx R.wq R.hwq R.wo R.hwo R.kt R.hkt R.vt R.hvt R.out R.hout R.rq R.hrq R.ro R.hro R.kb R.hkb R.vb R.hvb
      R.ctx R.hctx R.q R.hq R.bias R.hbias R.st R.hst R.sQs R.sQr R.sOs R.sOr R.sK R.sV : Pg F PUnit) = staged R := by
  unfold cc0__body k0_part56 k0_part21 k0_part25 k0_part28 k0_part33 k0_part37 k0_part40 k0_part46 k0_part51
  simp only [staged, step0, step1, step2, step3, step4, step5, step6, step7, firstHops, ctxPart, hopOn, groupStage, addStage, Prog.bind_assoc]
  chain_rfl

end Cert.KernelIdeal.Att
-- ==== Proof.Rules.lean ====
/- The rules the stages are run by: a load, a store through a rectangle, of a buffer whose contents are
   known as one function of the index; the same through a slice of the buffer, and of a slice through
   the buffer; shares and slots. -/
module

public import proofs.«01_k».proof.Proof.Clean
public import Idealize.ShloMosaic.Lib.Rounds
public import Idealize.ShloMosaic.Lib.Memref
public import Idealize.ShloMosaic.Lib.ValueIdxCore
public import Idealize.ShloMosaic.Lib.Pipeline.RegionTalk
public import Idealize.ShloMosaic.Lib.Pipeline.Launch

@[expose] public section

set_option maxRecDepth 100000

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

/-- The protocol's own ghost state: rounds with up to two duties. -/
abbrev UB : Type := URounds (GSem nD τ sig) Bool
abbrev UU : Type := UR sig nD τ × UB

local notation "𝕄" => MT nD τ sig Unit (Elt F) ℕ UU ℕ

abbrev 𝒱₀ : Variants := Variants.none

/-- A program of device `c`'s TensorCore reaches `Φ`. -/
abbrev WP (c : Dev nD) {A : Type} (p : Pg F A) (Φ : A → sProp 𝕄) : sProp 𝕄 :=
  wp frame (wpE (defs₀ (F := F)) 𝒱₀ (c : Thread nD τ) none) Set.univ p Φ

section rules
variable (c : Dev nD) {sp : Space} {s s' : Shape} {e : EltTy}

theorem lift_eq {A : Type} (o : TpuEff nD τ sig (Elt F) Λ₀ .tc A) : (Prog.lift o : Pg F A) = .op o .ret := rfl

theorem owns_def (m : Memref sig .tc sp s e) (q : PosShare TreeShare) (X : s.Idx → Elt F e) :
    (ownsTc c m q X : sProp 𝕄) ⊢ iprop(∃ f, ⌜m.view.read (Elt F) f = X⌝ ∗ (m.view.loc (c : Thread nD τ) ↦[m.view.set]{q} f)) := .rfl

/-- A load of a rectangle of a memref owned at `X`. -/
theorem ld {cs : CoreSpace} (m : Memref sig .tc cs s e) (r : Rect s) {hl : m.view.LoadsAt r.toLoadRect} (q : PosShare TreeShare)
    (X : s.Idx → Elt F e) (Φ : (r.toLoadRect.shape.Idx → Elt F e) → sProp 𝕄) :
    (ownsTc c m q X : sProp 𝕄)
      ⊢ iprop((ownsTc c m q X -∗ Φ (fun j => X (r.emb j))) -∗ WP c (Prog.lift (.load m r.toLoadRect hl)) Φ) := by
  iintro H Hk
  ihave H' := (owns_def c m q X) $$ H
  icases H' with ⟨%f, %hf, H⟩
  rw [lift_eq]
  iapply (wp_load 𝒱₀ (c : Thread nD τ) none Set.univ (m := m) (r := r.toLoadRect) (View.setOn_subset_set _ _)) $$ [H]
  · iexact H
  iintro H
  rw [wp_ret]
  imodintro
  rw [show (m.view.readAt (Elt F) r.toLoadRect f) = fun j => X (r.emb j) from by rw [← hf]; rfl]
  iapply Hk
  rw [← hf]
  iapply (owns_intro (c : Thread nD τ) m q f)
  iexact H

/-- A store over a whole rectangle: the contents become `X'`, the stored value on the rectangle and the old contents off it. -/
theorem st_ {cs : CoreSpace} (m : Memref sig .tc cs s e) (r : Rect s) (w : r.shape.Idx → Elt F e)
    {hx : (m.access r).Stores Finset.univ} {hm : Finset.univ = Finset.univ ∨ ∀ a, r.stride a = 1}
    (X X' : s.Idx → Elt F e) (h₁ : ∀ j, X' (r.emb j) = w j) (h₂ : ∀ i, i ∉ r.set → X' i = X i) (Φ : PUnit → sProp 𝕄) :
    (ownsTc c m fullShare X : sProp 𝕄)
      ⊢ iprop((ownsTc c m fullShare X' -∗ Φ ⟨⟩) -∗ WP c (Prog.lift (.store m r w Finset.univ hx hm)) Φ) := by
  iintro H Hk
  ihave H' := (owns_def c m fullShare X) $$ H
  icases H' with ⟨%f, %hf, H⟩
  rw [lift_eq]
  iapply (wp_store 𝒱₀ (c : Thread nD τ) none Set.univ (m := m) (r := r) (w := w) (Mk := Finset.univ) (S := m.view.set) (f := f)
    (View.set_slice_subset m.view r)) $$ [H]
  · iexact H
  iintro H
  rw [wp_ret]
  imodintro
  iapply Hk
  have hX : m.view.read (Elt F) ((m.access r).write (Elt F) f w Finset.univ) = X' := by
    funext i
    by_cases hi : i ∈ r.set
    · obtain ⟨j, rfl⟩ : ∃ j, r.emb j = i := r.exists_idx_of_mem hi
      rw [h₁]
      exact View.read_slice_write_emb (v := m.view) (r := r) f w (Finset.mem_univ j)
    · rw [h₂ i hi, ← hf]
      exact View.read_slice_write_of_not_mem (v := m.view) (r := r) f w _ (by rw [Rect.map_emb_univ]; exact hi)
  rw [← hX]
  iapply (owns_intro (c : Thread nD τ) m fullShare _)
  iexact H

/-- Two shares of a memref's elements are one, and the contents agree. -/
theorem owns_split (m : Memref sig .tc sp s e) (X : s.Idx → Elt F e) :
    (ownsTc c m fullShare X : sProp 𝕄) ⊢ iprop(ownsTc c m fullShare.left X ∗ ownsTc c m fullShare.right X) := by
  iintro H
  ihave H' := (owns_def c m _ X) $$ H
  icases H' with ⟨%f, %hf, H⟩
  rw [← hf]
  ihave H' := (pointsTo_share (PosShare.mem_left_op_right fullShare)).1 $$ H
  icases H' with ⟨H1, H2⟩
  isplitl [H1]
  · iapply (owns_intro (c : Thread nD τ) m _ f); iexact H1
  · iapply (owns_intro (c : Thread nD τ) m _ f); iexact H2

theorem owns_merge (m : Memref sig .tc sp s e) (X Y : s.Idx → Elt F e) :
    iprop(ownsTc c m fullShare.left X ∗ ownsTc c m fullShare.right Y) ⊢ (ownsTc c m fullShare X : sProp 𝕄) := by
  iintro ⟨H1, H2⟩
  ihave H1' := (owns_def c m _ X) $$ H1
  icases H1' with ⟨%f, %hf, H1⟩
  ihave H2' := (owns_def c m _ Y) $$ H2
  icases H2' with ⟨%g, %hg, H2⟩
  icombine H1 H2 as H
  ihave %hfg := pointsTo_agree $$ H
  have e : (m.view.loc (c : Thread nD τ) ↦[m.view.set]{fullShare.right} g : sProp 𝕄)
      = m.view.loc (c : Thread nD τ) ↦[m.view.set]{fullShare.right} f :=
    pointsTo_congr fun i hi => (hfg i (Finset.mem_inter.mpr ⟨hi, hi⟩)).1.symm
  rw [e]
  rw [← hf]
  iapply (owns_intro (c : Thread nD τ) m _ f)
  iapply (pointsTo_share (PosShare.mem_left_op_right fullShare)).2
  iexact H

theorem slot_set (m : Memref sig .tc .vmem S7x1024x1024 .bf16) (t : Fin 7) :
    (slot m t).view.set = m.view.setOn (Rect.unit (s := S7x1024x1024) ![t.val, 0, 0] S1x1024x1024.size (slotInb t)).set := by
  show ((m.view.slice _).reshape _ _).set = _
  rw [View.set_reshape, View.set_slice]; rfl

/-- Slot `t` of a ring, held by itself, is read through the ring. -/
theorem loadSlot_spec (m : Memref sig .tc .vmem S7x1024x1024 .bf16) (t : Fin 7) (q : PosShare TreeShare)
    (X : Vec F S1024x1024 .bf16) (Φ : Vec F S1024x1024 .bf16 → sProp 𝕄) :
    (ownsTc c (slot m t) q X : sProp 𝕄)
      ⊢ iprop((ownsTc c (slot m t) q X -∗ Φ X) -∗ WP c (loadSlot m t) Φ) := by
  iintro H Hk
  ihave H' := (owns_def c (slot m t) q X) $$ H
  icases H' with ⟨%f, %hf, H⟩
  unfold loadSlot WP
  rw [wp_bind, lift_eq]
  iapply (wp_load 𝒱₀ (c : Thread nD τ) none Set.univ (m := m)
    (r := (Rect.unit (s := S7x1024x1024) ![t.val, 0, 0] S1x1024x1024.size (slotInb t)).toLoadRect)
    (S := (slot m t).view.set) (q := q) (f := f) (by rw [slot_set])) $$ [H]
  · iexact H
  iintro H
  rw [wp_ret]
  imodintro
  rw [show (pure (shapeCast S1024x1024 (m.view.readAt (Elt F)
      (Rect.unit (s := S7x1024x1024) ![t.val, 0, 0] S1x1024x1024.size (slotInb t)).toLoadRect f) shapeCasts_S1x1024x1024_S1024x1024)
      : Pg F (Vec F S1024x1024 .bf16)) = .ret X from by rw [← hf]; rfl]
  rw [wp_ret]
  imodintro
  iapply Hk
  rw [← hf]
  iapply (owns_intro (c : Thread nD τ) (slot m t) q f)
  iexact H

/-- An index of a place of the stash, as an index of the stash. -/
def stIdx (s : Fin 2) (i : S1024x1024.Idx) : S2x1024x1024.Idx := ValueIdx.ix3 s (i 0) (i 1)

theorem stIdx_eq (s : Fin 2) (i : S1024x1024.Idx) :
    (Rect.unit (s := S2x1024x1024) ![s.val, 0, 0] S1x1024x1024.size (stInb s)).emb
      (Shape.reshapeEquiv squeezes_S1x1024x1024_S1024x1024.numel_eq i) = stIdx s i := by
  rw [show Shape.reshapeEquiv squeezes_S1x1024x1024_S1024x1024.numel_eq i = Fin.cons ⟨0, Nat.one_pos⟩ i from
    Shape.reshapeEquiv_cons_one _ i]
  funext a
  apply Fin.ext
  rw [Rect.emb_apply]
  fin_cases a
  · show s.val + 1 * 0 = s.val; omega
  · show 0 + 1 * (i 0).val = (i 0).val; omega
  · show 0 + 1 * (i 1).val = (i 1).val; omega

/-- A place of the stash is read out of the stash held whole. -/
theorem ld_stash (m : Memref sig .tc .vmem S2x1024x1024 .bf16) (s : Fin 2) (r : Rect S1024x1024)
    {hl : (stash m s).view.LoadsAt r.toLoadRect} (q : PosShare TreeShare)
    (X : Vec F S2x1024x1024 .bf16) (Φ : (r.toLoadRect.shape.Idx → Elt F .bf16) → sProp 𝕄) :
    (ownsTc c m q X : sProp 𝕄)
      ⊢ iprop((ownsTc c m q X -∗ Φ (fun j => X (stIdx s (r.emb j)))) -∗ WP c (Prog.lift (.load (stash m s) r.toLoadRect hl)) Φ) := by
  iintro H Hk
  ihave H' := (owns_def c m q X) $$ H
  icases H' with ⟨%f, %hf, H⟩
  rw [lift_eq]
  have hS : (stash m s).view.setOn r.toLoadRect.set ⊆ m.view.set := by
    refine (View.setOn_subset_set _ _).trans ?_
    show ((m.view.slice _).reshape _ _).set ⊆ _
    rw [View.set_reshape]; exact View.set_slice_subset _ _
  iapply (wp_load 𝒱₀ (c : Thread nD τ) none Set.univ (m := stash m s) (r := r.toLoadRect) (S := m.view.set) (f := f) hS) $$ [H]
  · iexact H
  iintro H
  rw [wp_ret]
  imodintro
  rw [show ((stash m s).view.readAt (Elt F) r.toLoadRect f) = fun j => X (stIdx s (r.emb j)) from by
    rw [← hf]; funext j; rw [← stIdx_eq]; rfl]
  iapply Hk
  rw [← hf]
  iapply (owns_intro (c : Thread nD τ) m q f)
  iexact H

end rules

end Cert.KernelIdeal.Att
-- ==== Proof.Compute.lean ====
/- What the computing stages leave: the mask, the queries, the contexts of eight heads, the projection
   added to the result; each as one function of the contents the stage reads. -/
module

public import proofs.«01_k».proof.Proof.Rules

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

/-! ## Places -/

/-- The rows of query block `b`. -/
abbrev rowR (b : Fin 4) : Rect S1024x1024 := Rect.unit (s := S1024x1024) ![256 * b.val, 0] S256x1024.size (rowInb b)
abbrev outR (b : Fin 4) : Rect S1x1024x1024 := Rect.unit (s := S1x1024x1024) ![0, 256 * b.val, 0] S1x256x1024.size (outInb b)
abbrev biasR (b : Fin 4) : Rect S4x256x512 := Rect.unit (s := S4x256x512) ![b.val, 0, 0] S1x256x512.size (biasInb b)

theorem tileInb (b : Fin 4) (t : Fin 8) : ∀ a, (![256 * b.val, 128 * t.val] : Fin 2 → Nat) a + S256x128.size a ≤ S1024x1024.size a := by
  revert b t; decide
/-- The first key of the window of query block `b`. -/
def kOf (b : Fin 4) : ℕ := ![0, 128, 384, 512] b
theorem winInb (b : Fin 4) (t : Fin 8) : ∀ a, (![kOf b, 128 * t.val] : Fin 2 → Nat) a + S512x128.size a ≤ S1024x1024.size a := by
  revert b t; decide
theorem stTileInb (s : Fin 2) (b : Fin 4) (t : Fin 8) : ∀ a, (![s.val, 256 * b.val, 128 * t.val] : Fin 3 → Nat) a + S1x256x128.size a ≤ S2x1024x1024.size a := by
  revert s b t; decide
/-- Head `t` of query block `b`, its window of keys, its place in the stash. -/
abbrev tileR (b : Fin 4) (t : Fin 8) : Rect S1024x1024 := Rect.unit (s := S1024x1024) ![256 * b.val, 128 * t.val] S256x128.size (tileInb b t)
abbrev winR (b : Fin 4) (t : Fin 8) : Rect S1024x1024 := Rect.unit (s := S1024x1024) ![kOf b, 128 * t.val] S512x128.size (winInb b t)
abbrev stTileR (s : Fin 2) (b : Fin 4) (t : Fin 8) : Rect S2x1024x1024 := Rect.unit (s := S2x1024x1024) ![s.val, 256 * b.val, 128 * t.val] S1x256x128.size (stTileInb s b t)

/-- The query block of a row and the row's place in it; the head of a column and the column's place in it. -/
def blkOf (r : Fin 1024) : Fin 4 := ⟨r.val / 256, by have := r.isLt; omega⟩
def inBlk (r : Fin 1024) : Fin 256 := ⟨r.val % 256, Nat.mod_lt _ (by decide)⟩
def headOf (r : Fin 1024) : Fin 8 := ⟨r.val / 128, by have := r.isLt; omega⟩
def inHead (r : Fin 1024) : Fin 128 := ⟨r.val % 128, Nat.mod_lt _ (by decide)⟩

theorem mem_rowR (b : Fin 4) (i : S1024x1024.Idx) : i ∈ (rowR b).set ↔ blkOf (i 0) = b := by
  have h1 : (i 1).val < 1024 := (i 1).isLt
  rw [LoadRect.mem_set]
  constructor
  · intro h
    obtain ⟨j, hj, e⟩ := h 0
    apply Fin.ext
    have e' : (i 0).val = 256 * b.val + 1 * j := e
    have hj' : j < 256 := hj
    show (i 0).val / 256 = b.val
    omega
  · intro h a
    have h' : (i 0).val / 256 = b.val := congrArg Fin.val h
    fin_cases a
    · refine ⟨(i 0).val - 256 * b.val, ?_, ?_⟩
      · show _ < 256; omega
      · show (i 0).val = 256 * b.val + 1 * _; omega
    · exact ⟨(i 1).val, h1, by show (i 1).val = 0 + 1 * _; omega⟩

theorem mem_outR (b : Fin 4) (i : S1x1024x1024.Idx) : i ∈ (outR b).set ↔ blkOf (i 1) = b := by
  have h2 : (i 2).val < 1024 := (i 2).isLt
  have h0 : (i 0).val < 1 := (i 0).isLt
  rw [LoadRect.mem_set]
  constructor
  · intro h
    obtain ⟨j, hj, e⟩ := h 1
    apply Fin.ext
    have e' : (i 1).val = 256 * b.val + 1 * j := e
    have hj' : j < 256 := hj
    show (i 1).val / 256 = b.val
    omega
  · intro h a
    have h' : (i 1).val / 256 = b.val := congrArg Fin.val h
    fin_cases a
    · exact ⟨(i 0).val, h0, by show (i 0).val = 0 + 1 * _; omega⟩
    · refine ⟨(i 1).val - 256 * b.val, ?_, ?_⟩
      · show _ < 256; omega
      · show (i 1).val = 256 * b.val + 1 * _; omega
    · exact ⟨(i 2).val, h2, by show (i 2).val = 0 + 1 * _; omega⟩

theorem mem_biasR (b : Fin 4) (i : S4x256x512.Idx) : i ∈ (biasR b).set ↔ (i 0) = b := by
  have h1 : (i 1).val < 256 := (i 1).isLt
  have h2 : (i 2).val < 512 := (i 2).isLt
  rw [LoadRect.mem_set]
  constructor
  · intro h
    obtain ⟨j, hj, e⟩ := h 0
    apply Fin.ext
    have e' : (i 0).val = b.val + 1 * j := e
    have hj' : j < 1 := hj
    show (i 0).val = b.val
    omega
  · intro h a
    have h' : (i 0).val = b.val := congrArg Fin.val h
    fin_cases a
    · refine ⟨0, ?_, ?_⟩
      · show 0 < 1; omega
      · show (i 0).val = b.val + 1 * _; omega
    · exact ⟨(i 1).val, h1, by show (i 1).val = 0 + 1 * _; omega⟩
    · exact ⟨(i 2).val, h2, by show (i 2).val = 0 + 1 * _; omega⟩

theorem mem_tileR (b : Fin 4) (t : Fin 8) (i : S1024x1024.Idx) : i ∈ (tileR b t).set ↔ blkOf (i 0) = b ∧ headOf (i 1) = t := by
  rw [LoadRect.mem_set]
  constructor
  · intro h
    obtain ⟨j, hj, e⟩ := h 0
    obtain ⟨k, hk, e₂⟩ := h 1
    have e' : (i 0).val = 256 * b.val + 1 * j := e
    have hj' : j < 256 := hj
    have e₂' : (i 1).val = 128 * t.val + 1 * k := e₂
    have hk' : k < 128 := hk
    constructor
    · apply Fin.ext; show (i 0).val / 256 = b.val; omega
    · apply Fin.ext; show (i 1).val / 128 = t.val; omega
  · rintro ⟨h, h₂⟩ a
    have h' : (i 0).val / 256 = b.val := congrArg Fin.val h
    have h₂' : (i 1).val / 128 = t.val := congrArg Fin.val h₂
    fin_cases a
    · refine ⟨(i 0).val - 256 * b.val, ?_, ?_⟩
      · show _ < 256; omega
      · show (i 0).val = 256 * b.val + 1 * _; omega
    · refine ⟨(i 1).val - 128 * t.val, ?_, ?_⟩
      · show _ < 128; omega
      · show (i 1).val = 128 * t.val + 1 * _; omega

theorem mem_stTileR (s : Fin 2) (b : Fin 4) (t : Fin 8) (i : S2x1024x1024.Idx) :
    i ∈ (stTileR s b t).set ↔ (i 0) = s ∧ blkOf (i 1) = b ∧ headOf (i 2) = t := by
  rw [LoadRect.mem_set]
  constructor
  · intro h
    obtain ⟨l, hl, e₀⟩ := h 0
    obtain ⟨j, hj, e⟩ := h 1
    obtain ⟨k, hk, e₂⟩ := h 2
    have e₀' : (i 0).val = s.val + 1 * l := e₀
    have hl' : l < 1 := hl
    have e' : (i 1).val = 256 * b.val + 1 * j := e
    have hj' : j < 256 := hj
    have e₂' : (i 2).val = 128 * t.val + 1 * k := e₂
    have hk' : k < 128 := hk
    refine ⟨?_, ?_, ?_⟩
    · apply Fin.ext; show (i 0).val = s.val; omega
    · apply Fin.ext; show (i 1).val / 256 = b.val; omega
    · apply Fin.ext; show (i 2).val / 128 = t.val; omega
  · rintro ⟨h₀, h, h₂⟩ a
    have h₀' : (i 0).val = s.val := congrArg Fin.val h₀
    have h' : (i 1).val / 256 = b.val := congrArg Fin.val h
    have h₂' : (i 2).val / 128 = t.val := congrArg Fin.val h₂
    fin_cases a
    · refine ⟨0, ?_, ?_⟩
      · show 0 < 1; omega
      · show (i 0).val = s.val + 1 * _; omega
    · refine ⟨(i 1).val - 256 * b.val, ?_, ?_⟩
      · show _ < 256; omega
      · show (i 1).val = 256 * b.val + 1 * _; omega
    · refine ⟨(i 2).val - 128 * t.val, ?_, ?_⟩
      · show _ < 128; omega
      · show (i 2).val = 128 * t.val + 1 * _; omega

/-- An index of a row block placed among the rows falls in that block, at its own coordinates. -/
theorem row_emb (b : Fin 4) (j : S256x1024.Idx) : blkOf ((rowR b).emb j 0) = b ∧ inBlk ((rowR b).emb j 0) = j 0 ∧ (rowR b).emb j 1 = j 1 := by
  have h0 : (j 0).val < 256 := (j 0).isLt
  refine ⟨?_, ?_, ?_⟩
  · apply Fin.ext; show (256 * b.val + 1 * (j 0).val) / 256 = b.val; omega
  · apply Fin.ext; show (256 * b.val + 1 * (j 0).val) % 256 = (j 0).val; omega
  · apply Fin.ext; show (0 + 1 * (j 1).val) = (j 1).val; omega
theorem out_emb (b : Fin 4) (j : S1x256x1024.Idx) : blkOf ((outR b).emb j 1) = b ∧ inBlk ((outR b).emb j 1) = j 1 ∧ (outR b).emb j 2 = j 2 := by
  have h0 : (j 1).val < 256 := (j 1).isLt
  refine ⟨?_, ?_, ?_⟩
  · apply Fin.ext; show (256 * b.val + 1 * (j 1).val) / 256 = b.val; omega
  · apply Fin.ext; show (256 * b.val + 1 * (j 1).val) % 256 = (j 1).val; omega
  · apply Fin.ext; show (0 + 1 * (j 2).val) = (j 2).val; omega
theorem bias_emb (b : Fin 4) (j : S1x256x512.Idx) : (biasR b).emb j 0 = b ∧ (biasR b).emb j 1 = j 1 ∧ (biasR b).emb j 2 = j 2 := by
  have h0 : (j 0).val < 1 := (j 0).isLt
  refine ⟨?_, ?_, ?_⟩
  · apply Fin.ext; show (b.val + 1 * (j 0).val) = b.val; omega
  · apply Fin.ext; show (0 + 1 * (j 1).val) = (j 1).val; omega
  · apply Fin.ext; show (0 + 1 * (j 2).val) = (j 2).val; omega
theorem tile_emb (b : Fin 4) (t : Fin 8) (j : S256x128.Idx) : blkOf ((tileR b t).emb j 0) = b ∧ inBlk ((tileR b t).emb j 0) = j 0
    ∧ headOf ((tileR b t).emb j 1) = t ∧ inHead ((tileR b t).emb j 1) = j 1 := by
  have h0 : (j 0).val < 256 := (j 0).isLt
  have h1 : (j 1).val < 128 := (j 1).isLt
  refine ⟨?_, ?_, ?_, ?_⟩
  · apply Fin.ext; show (256 * b.val + 1 * (j 0).val) / 256 = b.val; omega
  · apply Fin.ext; show (256 * b.val + 1 * (j 0).val) % 256 = (j 0).val; omega
  · apply Fin.ext; show (128 * t.val + 1 * (j 1).val) / 128 = t.val; omega
  · apply Fin.ext; show (128 * t.val + 1 * (j 1).val) % 128 = (j 1).val; omega
theorem stTile_emb (s : Fin 2) (b : Fin 4) (t : Fin 8) (j : S1x256x128.Idx) : (stTileR s b t).emb j 0 = s ∧ blkOf ((stTileR s b t).emb j 1) = b
    ∧ inBlk ((stTileR s b t).emb j 1) = j 1 ∧ headOf ((stTileR s b t).emb j 2) = t ∧ inHead ((stTileR s b t).emb j 2) = j 2 := by
  have h0 : (j 0).val < 1 := (j 0).isLt
  have h1 : (j 1).val < 256 := (j 1).isLt
  have h2 : (j 2).val < 128 := (j 2).isLt
  refine ⟨?_, ?_, ?_, ?_, ?_⟩
  · apply Fin.ext; show (s.val + 1 * (j 0).val) = s.val; omega
  · apply Fin.ext; show (256 * b.val + 1 * (j 1).val) / 256 = b.val; omega
  · apply Fin.ext; show (256 * b.val + 1 * (j 1).val) % 256 = (j 1).val; omega
  · apply Fin.ext; show (128 * t.val + 1 * (j 2).val) / 128 = t.val; omega
  · apply Fin.ext; show (128 * t.val + 1 * (j 2).val) % 128 = (j 2).val; omega

/-! ## What the stages leave -/

/-- The additive mask of all four query blocks. -/
def qo (b : Fin 4) : BitVec 32 := ![0#32, 256#32, 512#32, 768#32] b
def ko (b : Fin 4) : BitVec 32 := ![0#32, 128#32, 384#32, 512#32] b
def biasMat : Vec F S4x256x512 .bf16 := fun i => biasVal (qo (i 0)) (ko (i 0)) (ix3 0 (i 1) (i 2))

/-- The scaled queries. -/
def qMat (x wq : Vec F S1024x1024 .bf16) : Vec F S1024x1024 .bf16 := fun i =>
  qVal (fun j => x ((rowR (blkOf (i 0))).emb j)) wq (ix2 (inBlk (i 0)) (i 1))

/-- The contexts of the eight heads. -/
def ctxMat (q k : Vec F S1024x1024 .bf16) (m : Vec F S4x256x512 .bf16) (v : Vec F S1024x1024 .bf16) : Vec F S1024x1024 .bf16 := fun i =>
  headVal (fun j => q ((tileR (blkOf (i 0)) (headOf (i 1))).emb j)) (fun j => k ((winR (blkOf (i 0)) (headOf (i 1))).emb j))
    (fun j => m ((biasR (blkOf (i 0))).emb j)) (fun j => v ((winR (blkOf (i 0)) (headOf (i 1))).emb j))
    (ix2 (inBlk (i 0)) (inHead (i 1)))

/-- The result after its first contribution. -/
def outMat0 (a wo : Vec F S1024x1024 .bf16) : Vec F S1x1024x1024 .f32 := fun i =>
  outInit (fun j => a ((rowR (blkOf (i 1))).emb j)) wo (ix3 0 (inBlk (i 1)) (i 2))

/-- The result after a later one. -/
def outMat (a wo : Vec F S1024x1024 .bf16) (o : Vec F S1x1024x1024 .f32) : Vec F S1x1024x1024 .f32 := fun i =>
  outAdd (fun j => a ((rowR (blkOf (i 1))).emb j)) wo (fun j => o ((outR (blkOf (i 1))).emb j)) (ix3 0 (inBlk (i 1)) (i 2))

/-- The row blocks before the `n`-th. -/
def rowsBelow (n : ℕ) (i : S1024x1024.Idx) : Prop := (blkOf (i 0)).val < n
def outBelow (n : ℕ) (i : S1x1024x1024.Idx) : Prop := (blkOf (i 1)).val < n
def biasBelow (n : ℕ) (i : S4x256x512.Idx) : Prop := (i 0).val < n

/-- Contents `X`, replaced by `G` where `P` holds. -/
def upd {ι α : Type} (P : ι → Prop) (G X : ι → α) : ι → α := fun i => if P i then G i else X i

theorem upd_all {ι α : Type} {P : ι → Prop} {G X : ι → α} (h : ∀ i, P i) : upd P G X = G := funext fun i => if_pos (h i)
theorem upd_none {ι α : Type} {P : ι → Prop} {G X : ι → α} (h : ∀ i, ¬ P i) : upd P G X = X := funext fun i => if_neg (h i)
theorem upd_congr {ι α : Type} {P P' : ι → Prop} {G X : ι → α} (h : ∀ i, P i ↔ P' i) : upd P G X = upd P' G X := by
  rw [show P = P' from funext fun i => propext (h i)]
theorem upd_off {ι α : Type} {P P' : ι → Prop} {G X : ι → α} {i : ι} (h : P i ↔ P' i) : upd P' G X i = upd P G X i := by
  unfold upd; simp only [h]

theorem biasMat_emb (b : Fin 4) (j : S1x256x512.Idx) : biasMat (F := F) ((biasR b).emb j) = biasVal (qo b) (ko b) j := by
  obtain ⟨h0, h1, h2⟩ := bias_emb b j
  have hj : ix3 (0 : Fin 1) (j 1) (j 2) = j := by
    rw [show (0 : Fin 1) = j 0 from Subsingleton.elim _ _]; exact (eq_ix3 j).symm
  unfold biasMat
  rw [h0, h1, h2]
  exact congrArg _ hj

theorem qMat_emb (x wq : Vec F S1024x1024 .bf16) (b : Fin 4) (j : S256x1024.Idx) :
    qMat x wq ((rowR b).emb j) = qVal (fun j => x ((rowR b).emb j)) wq j := by
  obtain ⟨h0, h1, h2⟩ := row_emb b j
  unfold qMat
  rw [h0, h1, h2]
  exact congrArg _ (eq_ix2 j).symm

theorem ctxMat_emb (q k : Vec F S1024x1024 .bf16) (m : Vec F S4x256x512 .bf16) (v : Vec F S1024x1024 .bf16) (b : Fin 4) (t : Fin 8) (j : S256x128.Idx) :
    ctxMat q k m v ((tileR b t).emb j) = headVal (fun j => q ((tileR b t).emb j)) (fun j => k ((winR b t).emb j))
      (fun j => m ((biasR b).emb j)) (fun j => v ((winR b t).emb j)) j := by
  obtain ⟨h0, h1, h2, h3⟩ := tile_emb b t j
  unfold ctxMat
  rw [h0, h1, h2, h3]
  exact congrArg _ (eq_ix2 j).symm

theorem outMat0_emb (a wo : Vec F S1024x1024 .bf16) (b : Fin 4) (j : S1x256x1024.Idx) :
    outMat0 a wo ((outR b).emb j) = outInit (fun j => a ((rowR b).emb j)) wo j := by
  obtain ⟨h0, h1, h2⟩ := out_emb b j
  have hj : ix3 (0 : Fin 1) (j 1) (j 2) = j := by
    rw [show (0 : Fin 1) = j 0 from Subsingleton.elim _ _]; exact (eq_ix3 j).symm
  unfold outMat0
  rw [h0, h1, h2]
  exact congrArg _ hj

theorem outMat_emb (a wo : Vec F S1024x1024 .bf16) (o : Vec F S1x1024x1024 .f32) (b : Fin 4) (j : S1x256x1024.Idx) :
    outMat a wo o ((outR b).emb j) = outAdd (fun j => a ((rowR b).emb j)) wo (fun j => o ((outR b).emb j)) j := by
  obtain ⟨h0, h1, h2⟩ := out_emb b j
  have hj : ix3 (0 : Fin 1) (j 1) (j 2) = j := by
    rw [show (0 : Fin 1) = j 0 from Subsingleton.elim _ _]; exact (eq_ix3 j).symm
  unfold outMat
  rw [h0, h1, h2]
  exact congrArg _ hj

/-- A context in place `s` of the stash. -/
def atStash (C : Vec F S1024x1024 .bf16) : Vec F S2x1024x1024 .bf16 := fun i => C (ix2 (i 1) (i 2))

/-- Coordinates `(r, d)` of head `t` of query block `b`. -/
def ctxAt (q k : Vec F S1024x1024 .bf16) (m : Vec F S4x256x512 .bf16) (v : Vec F S1024x1024 .bf16) (b : Fin 4) (t : Fin 8) (r : Fin 256) (d : Fin 128) : Elt F .bf16 :=
  headVal (fun j => q ((tileR b t).emb j)) (fun j => k ((winR b t).emb j)) (fun j => m ((biasR b).emb j)) (fun j => v ((winR b t).emb j)) (ix2 r d)

theorem ctxMat_at (q k : Vec F S1024x1024 .bf16) (m : Vec F S4x256x512 .bf16) (v : Vec F S1024x1024 .bf16) (r d : Fin 1024) :
    ctxMat q k m v (ix2 r d) = ctxAt q k m v (blkOf r) (headOf d) (inBlk r) (inHead d) := rfl

theorem atStash_emb (q k : Vec F S1024x1024 .bf16) (m : Vec F S4x256x512 .bf16) (v : Vec F S1024x1024 .bf16) (s : Fin 2) (b : Fin 4) (t : Fin 8) (j : S1x256x128.Idx) :
    atStash (ctxMat q k m v) ((stTileR s b t).emb j)
      = shapeCast S1x256x128 (headVal (fun j => q ((tileR b t).emb j)) (fun j => k ((winR b t).emb j))
      (fun j => m ((biasR b).emb j)) (fun j => v ((winR b t).emb j))) shapeCasts_S256x128_S1x256x128 j := by
  obtain ⟨h0, h1, h2, h3, h4⟩ := stTile_emb s b t j
  show ctxMat q k m v (ix2 _ _) = headVal _ _ _ _ (Shape.reshapeEquiv _ j)
  have hj : Shape.reshapeEquiv shapeCasts_S256x128_S1x256x128 j = (ix2 (j 1) (j 2) : S256x128.Idx) := by
    have h' : S256x128.numel = S1x256x128.numel := by decide
    have e : j = Shape.reshapeEquiv h' (ix2 (j 1) (j 2) : S256x128.Idx) := by
      refine Eq.trans ?_ (Shape.reshapeEquiv_cons_one (d := ![256, 128]) h' (ix2 (j 1) (j 2) : S256x128.Idx)).symm
      funext a
      fin_cases a
      · exact Subsingleton.elim (α := Fin 1) _ _
      · rfl
      · rfl
    exact (congrArg _ e).trans ((Shape.reshapeEquiv_reshapeEquiv _ _ _).trans (Shape.reshapeEquiv_self _ _))
  rw [hj]
  refine (ctxMat_at q k m v _ _).trans ?_
  rw [h1, h2, h3, h4]
  rfl

section stages
variable (c : Dev nD) (R : Refs)

/-- A store that extends the part of the contents already replaced. -/
theorem st_upd {cs : CoreSpace} {s : Shape} {e : EltTy} (m : Memref sig .tc cs s e) (r : Rect s) (w : r.shape.Idx → Elt F e)
    {hx : (m.access r).Stores Finset.univ} {hm : Finset.univ = Finset.univ ∨ ∀ a, r.stride a = 1}
    (P P' : s.Idx → Prop) (G X : s.Idx → Elt F e) (hP : ∀ i, P' i ↔ (P i ∨ i ∈ r.set)) (hG : ∀ j, G (r.emb j) = w j)
    (Φ : PUnit → sProp 𝕄) :
    (ownsTc c m fullShare (upd P G X) : sProp 𝕄)
      ⊢ iprop((ownsTc c m fullShare (upd P' G X) -∗ Φ ⟨⟩) -∗ WP c (Prog.lift (.store m r w Finset.univ hx hm)) Φ) :=
  st_ c m r w _ _ (fun j => by
      have hj : r.emb j ∈ r.set := by rw [← Rect.map_emb_univ]; exact Finset.mem_map_of_mem _ (Finset.mem_univ j)
      rw [← hG j]; exact if_pos ((hP _).2 (.inr hj)))
    (fun i hi => upd_off ⟨fun h => (hP i).2 (.inl h), fun h => ((hP i).1 h).resolve_right hi⟩) Φ

theorem hP_rows (b : Fin 4) (i : S1024x1024.Idx) : rowsBelow (b.val + 1) i ↔ (rowsBelow b.val i ∨ i ∈ (rowR b).set) := by
  rw [mem_rowR, Fin.ext_iff]; unfold rowsBelow; omega
theorem hP_out (b : Fin 4) (i : S1x1024x1024.Idx) : outBelow (b.val + 1) i ↔ (outBelow b.val i ∨ i ∈ (outR b).set) := by
  rw [mem_outR, Fin.ext_iff]; unfold outBelow; omega
theorem hP_bias (b : Fin 4) (i : S4x256x512.Idx) : biasBelow (b.val + 1) i ↔ (biasBelow b.val i ∨ i ∈ (biasR b).set) := by
  rw [mem_biasR]; unfold biasBelow
  rw [show (i 0 = b) = ((i 0).val = b.val) from propext Fin.ext_iff]; omega

/-! ## The mask -/

theorem biasRow_spec (b : Fin 4) (X : Vec F S4x256x512 .bf16) (Φ : PUnit → sProp 𝕄) :
    (ownsTc c R.bias fullShare (upd (biasBelow b.val) biasMat X) : sProp 𝕄)
      ⊢ iprop((ownsTc c R.bias fullShare (upd (biasBelow (b.val + 1)) biasMat X) -∗ Φ ⟨⟩)
          -∗ WP c (biasRow R b (qo b) (ko b)) Φ) := by
  iintro H Hk
  unfold biasRow WP
  rw [wp_bind]
  iapply (ld c R.bias (biasR b) fullShare _) $$ [H]
  · iexact H
  iintro H
  iapply (st_upd c R.bias (biasR b) (biasVal (qo b) (ko b)) (biasBelow b.val) (biasBelow (b.val + 1)) biasMat X (hP_bias b) (biasMat_emb b)) $$ [H]
  · iexact H
  · iexact Hk

theorem biasStage_spec (X : Vec F S4x256x512 .bf16) (Φ : PUnit → sProp 𝕄) :
    (ownsTc c R.bias fullShare X : sProp 𝕄)
      ⊢ iprop((ownsTc c R.bias fullShare biasMat -∗ Φ ⟨⟩) -∗ WP c (biasStage R) Φ) := by
  iintro H Hk
  unfold biasStage WP
  rw [← upd_none (P := biasBelow 0) (G := biasMat) (X := X) (fun i => Nat.not_lt_zero _), wp_bind]
  iapply (biasRow_spec c R 0 X) $$ [H]
  · iexact H
  iintro H
  rw [wp_bind]
  iapply (biasRow_spec c R 1 X) $$ [H]
  · iexact H
  iintro H
  rw [wp_bind]
  iapply (biasRow_spec c R 2 X) $$ [H]
  · iexact H
  iintro H
  iapply (biasRow_spec c R 3 X) $$ [H]
  · iexact H
  iintro H
  iapply Hk
  rw [upd_all (P := biasBelow ((3 : Fin 4).val + 1)) fun i => (i 0).isLt]
  iexact H

/-! ## The queries -/

theorem qRow_spec (qs : PosShare TreeShare) (x wq X : Vec F S1024x1024 .bf16) (b : Fin 4) (Φ : PUnit → sProp 𝕄) :
    iprop(ownsTc c R.x qs x ∗ ownsTc c R.q fullShare (upd (rowsBelow b.val) (qMat x wq) X))
      ⊢ iprop(((ownsTc c R.x qs x ∗ ownsTc c R.q fullShare (upd (rowsBelow (b.val + 1)) (qMat x wq) X)) -∗ Φ ⟨⟩)
          -∗ WP c (qRow R wq b) Φ) := by
  iintro ⟨Hx, H⟩ Hk
  unfold qRow WP
  rw [wp_bind]
  iapply (ld c R.x (rowR b) qs x) $$ [Hx]
  · iexact Hx
  iintro Hx
  rw [wp_bind]
  iapply (ld c R.q (rowR b) fullShare _) $$ [H]
  · iexact H
  iintro H
  iapply (st_upd c R.q (rowR b) (qVal (fun j => x ((rowR b).emb j)) wq) (rowsBelow b.val) (rowsBelow (b.val + 1))
    (qMat x wq) X (hP_rows b) (qMat_emb x wq b)) $$ [H]
  · iexact H
  iintro H
  iapply Hk
  isplitl [Hx] <;> iassumption

theorem qStage_spec (qs : PosShare TreeShare) (x wq X : Vec F S1024x1024 .bf16) (Φ : PUnit → sProp 𝕄) :
    iprop(ownsTc c R.x qs x ∗ ownsTc c R.q fullShare X)
      ⊢ iprop(((ownsTc c R.x qs x ∗ ownsTc c R.q fullShare (qMat x wq)) -∗ Φ ⟨⟩) -∗ WP c (qStage R wq) Φ) := by
  iintro H Hk
  unfold qStage WP
  rw [← upd_none (P := rowsBelow 0) (G := qMat x wq) (X := X) (fun i => Nat.not_lt_zero _), wp_bind]
  iapply (qRow_spec c R qs x wq X 0) $$ [H]
  · iexact H
  iintro H
  rw [wp_bind]
  iapply (qRow_spec c R qs x wq X 1) $$ [H]
  · iexact H
  iintro H
  rw [wp_bind]
  iapply (qRow_spec c R qs x wq X 2) $$ [H]
  · iexact H
  iintro H
  iapply (qRow_spec c R qs x wq X 3) $$ [H]
  · iexact H
  iintro H
  iapply Hk
  rw [upd_all (P := rowsBelow ((3 : Fin 4).val + 1)) fun i => (blkOf (i 0)).isLt]
  iexact H

/-! ## The projection -/

theorem projRow0_spec (a wo : Vec F S1024x1024 .bf16) (X : Vec F S1x1024x1024 .f32) (b : Fin 4) (Φ : PUnit → sProp 𝕄) :
    iprop(ownsTc c R.ctx fullShare a ∗ ownsTc c R.out fullShare (upd (outBelow b.val) (outMat0 a wo) X))
      ⊢ iprop(((ownsTc c R.ctx fullShare a ∗ ownsTc c R.out fullShare (upd (outBelow (b.val + 1)) (outMat0 a wo) X)) -∗ Φ ⟨⟩)
          -∗ WP c (projRow0 R wo b) Φ) := by
  iintro ⟨Hx, H⟩ Hk
  unfold projRow0 WP
  rw [wp_bind]
  iapply (ld c R.ctx (rowR b) fullShare a) $$ [Hx]
  · iexact Hx
  iintro Hx
  rw [wp_bind]
  iapply (ld c R.out (outR b) fullShare _) $$ [H]
  · iexact H
  iintro H
  iapply (st_upd c R.out (outR b) (outInit (fun j => a ((rowR b).emb j)) wo) (outBelow b.val) (outBelow (b.val + 1))
    (outMat0 a wo) X (hP_out b) (outMat0_emb a wo b)) $$ [H]
  · iexact H
  iintro H
  iapply Hk
  isplitl [Hx] <;> iassumption

theorem projStage0_spec (a wo : Vec F S1024x1024 .bf16) (X : Vec F S1x1024x1024 .f32) (Φ : PUnit → sProp 𝕄) :
    iprop(ownsTc c R.ctx fullShare a ∗ ownsTc c R.out fullShare X)
      ⊢ iprop(((ownsTc c R.ctx fullShare a ∗ ownsTc c R.out fullShare (outMat0 a wo)) -∗ Φ ⟨⟩) -∗ WP c (projStage0 R wo) Φ) := by
  iintro H Hk
  unfold projStage0 WP
  rw [← upd_none (P := outBelow 0) (G := outMat0 a wo) (X := X) (fun i => Nat.not_lt_zero _), wp_bind]
  iapply (projRow0_spec c R a wo X 0) $$ [H]
  · iexact H
  iintro H
  rw [wp_bind]
  iapply (projRow0_spec c R a wo X 1) $$ [H]
  · iexact H
  iintro H
  rw [wp_bind]
  iapply (projRow0_spec c R a wo X 2) $$ [H]
  · iexact H
  iintro H
  iapply (projRow0_spec c R a wo X 3) $$ [H]
  · iexact H
  iintro H
  iapply Hk
  rw [upd_all (P := outBelow ((3 : Fin 4).val + 1)) fun i => (blkOf (i 1)).isLt]
  iexact H

/-- The rows of `a` can be read through `src` while `I` is held. -/
def Reads (src : Memref sig .tc .vmem S1024x1024 .bf16) (I : sProp 𝕄) (a : Vec F S1024x1024 .bf16) : Prop :=
  ∀ (b : Fin 4) (hl : src.view.LoadsAt (rowR b).toLoadRect) (Φ : ((rowR b).toLoadRect.shape.Idx → Elt F .bf16) → sProp 𝕄),
    I ⊢ iprop((I -∗ Φ (fun j => a ((rowR b).emb j))) -∗ WP c (Prog.lift (.load src (rowR b).toLoadRect hl)) Φ)

theorem reads_ctx (a : Vec F S1024x1024 .bf16) : Reads c R.ctx (ownsTc c R.ctx fullShare a) a := fun b hl Φ => ld c R.ctx (rowR b) fullShare a Φ
theorem reads_stash (s : Fin 2) (Z : Vec F S2x1024x1024 .bf16) : Reads c (stash R.st s) (ownsTc c R.st fullShare Z) (fun i => Z (stIdx s i)) :=
  fun b hl Φ => ld_stash c R.st s (rowR b) fullShare Z Φ

theorem projRow_spec (src : Memref sig .tc .vmem S1024x1024 .bf16) (I : sProp 𝕄) (a wo : Vec F S1024x1024 .bf16) (hI : Reads c src I a)
    (X : Vec F S1x1024x1024 .f32) (b : Fin 4) (Φ : PUnit → sProp 𝕄) :
    iprop(I ∗ ownsTc c R.out fullShare (upd (outBelow b.val) (outMat a wo X) X))
      ⊢ iprop(((I ∗ ownsTc c R.out fullShare (upd (outBelow (b.val + 1)) (outMat a wo X) X)) -∗ Φ ⟨⟩)
          -∗ WP c (projRow R src wo b) Φ) := by
  iintro ⟨Hx, H⟩ Hk
  unfold projRow WP
  rw [wp_bind]
  iapply (hI b _ _) $$ [Hx]
  · iexact Hx
  iintro Hx
  rw [wp_bind]
  iapply (ld c R.out (outR b) fullShare _) $$ [H]
  · iexact H
  iintro H
  rw [wp_bind]
  iapply (ld c R.out (outR b) fullShare _) $$ [H]
  · iexact H
  iintro H
  have hw : (outAdd (fun j => a ((rowR b).emb j)) wo (fun j => (upd (outBelow b.val) (outMat a wo X) X) ((outR b).emb j)))
      = outAdd (fun j => a ((rowR b).emb j)) wo (fun j => X ((outR b).emb j)) := by
    congr 1; funext j
    exact if_neg (show ¬ (blkOf ((outR b).emb j 1)).val < b.val by rw [(out_emb b j).1]; exact Nat.lt_irrefl _)
  iapply (st_upd c R.out (outR b) (outAdd (fun j => a ((rowR b).emb j)) wo (fun j => (upd (outBelow b.val) (outMat a wo X) X) ((outR b).emb j)))
    (outBelow b.val) (outBelow (b.val + 1))
    (outMat a wo X) X (hP_out b) (fun j => by rw [hw]; exact outMat_emb a wo X b j)) $$ [H]
  · iexact H
  iintro H
  iapply Hk
  isplitl [Hx] <;> iassumption

theorem projStage_spec (src : Memref sig .tc .vmem S1024x1024 .bf16) (I : sProp 𝕄) (a wo : Vec F S1024x1024 .bf16) (hI : Reads c src I a)
    (X : Vec F S1x1024x1024 .f32) (Φ : PUnit → sProp 𝕄) :
    iprop(I ∗ ownsTc c R.out fullShare X)
      ⊢ iprop(((I ∗ ownsTc c R.out fullShare (outMat a wo X)) -∗ Φ ⟨⟩) -∗ WP c (projStage R src wo) Φ) := by
  iintro ⟨HI, H⟩ Hk
  unfold projStage WP
  ihave H := (Entails.of_eq (congrArg (ownsTc c R.out fullShare)
    (upd_none (P := outBelow 0) (G := outMat a wo X) (X := X) (fun i => Nat.not_lt_zero _)).symm)) $$ H
  rw [wp_bind]
  iapply (projRow_spec c R src I a wo hI X 0) $$ [HI H]
  · isplitl [HI]
    · iexact HI
    · iexact H
  iintro H
  rw [wp_bind]
  iapply (projRow_spec c R src I a wo hI X 1) $$ [H]
  · iexact H
  iintro H
  rw [wp_bind]
  iapply (projRow_spec c R src I a wo hI X 2) $$ [H]
  · iexact H
  iintro H
  iapply (projRow_spec c R src I a wo hI X 3) $$ [H]
  · iexact H
  iintro H
  iapply Hk
  rw [upd_all (P := outBelow ((3 : Fin 4).val + 1)) fun i => (blkOf (i 1)).isLt]
  iexact H

end stages

end Cert.KernelIdeal.Att
-- ==== Proof.Heads.lean ====
/- The loops over the eight heads of a part: what they leave among the contexts, or in the stash. -/
module

public import proofs.«01_k».proof.Proof.Compute

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

/-- The heads before the `t`-th, and of the `t`-th the row blocks before the `b`-th. -/
def cellsBelow (t b : ℕ) (r d : Fin 1024) : Prop := (headOf d).val < t ∨ ((headOf d).val = t ∧ (blkOf r).val < b)
def ctxBelow (t b : ℕ) (i : S1024x1024.Idx) : Prop := cellsBelow t b (i 0) (i 1)
def stBelow (s : Fin 2) (t b : ℕ) (i : S2x1024x1024.Idx) : Prop := i 0 = s ∧ cellsBelow t b (i 1) (i 2)

theorem cellsBelow_next (t : ℕ) (r d : Fin 1024) : cellsBelow t 4 r d ↔ cellsBelow (t + 1) 0 r d := by
  have := (blkOf r).isLt
  unfold cellsBelow; omega

theorem hP_ctx (b : Fin 4) (t : Fin 8) (i : S1024x1024.Idx) : ctxBelow t.val (b.val + 1) i ↔ (ctxBelow t.val b.val i ∨ i ∈ (tileR b t).set) := by
  rw [mem_tileR, Fin.ext_iff, Fin.ext_iff]; unfold ctxBelow cellsBelow; omega
theorem hP_st (s : Fin 2) (b : Fin 4) (t : Fin 8) (i : S2x1024x1024.Idx) :
    stBelow s t.val (b.val + 1) i ↔ (stBelow s t.val b.val i ∨ i ∈ (stTileR s b t).set) := by
  refine Iff.trans ?_ (or_congr_right (mem_stTileR s b t i)).symm
  have e1 := Fin.ext_iff (a := blkOf (i 1)) (b := b)
  have e2 := Fin.ext_iff (a := headOf (i 2)) (b := t)
  unfold stBelow cellsBelow
  constructor
  · rintro ⟨h, hh⟩
    by_cases g : (headOf (i 2)).val < t.val ∨ ((headOf (i 2)).val = t.val ∧ (blkOf (i 1)).val < b.val)
    · exact Or.inl ⟨h, g⟩
    · exact Or.inr ⟨h, e1.mpr (by omega), e2.mpr (by omega)⟩
  · rintro (⟨h, hh⟩ | ⟨h, hb, ht⟩)
    · exact ⟨h, by omega⟩
    · exact ⟨h, by have := e1.mp hb; have := e2.mp ht; omega⟩

section stages
variable (c : Dev nD) (R : Refs)

/-- What a head reads: the queries, the keys, the mask, the values. -/
def Hd (q k : Vec F S1024x1024 .bf16) (m : Vec F S4x256x512 .bf16) (v : Vec F S1024x1024 .bf16) : sProp 𝕄 :=
  iprop(ownsTc c R.q fullShare q ∗ ownsTc c R.kb fullShare k ∗ ownsTc c R.bias fullShare m ∗ ownsTc c R.vb fullShare v)

section rows
variable (q k : Vec F S1024x1024 .bf16) (m : Vec F S4x256x512 .bf16) (v : Vec F S1024x1024 .bf16)

theorem headRow_spec (X : Vec F S1024x1024 .bf16) (b : Fin 4) (t : Fin 8) (oq ok : Fin 2 → Nat)
    (hq : ∀ a, oq a + S256x128.size a ≤ S1024x1024.size a) (hk : ∀ a, ok a + S512x128.size a ≤ S1024x1024.size a)
    (hp : (Rect.unit (s := S1024x1024) oq S256x128.size hq).PackedRows (EltTy.packing .bf16))
    (eq : oq = ![256 * b.val, 128 * t.val]) (ek : ok = ![kOf b, 128 * t.val]) (Φ : PUnit → sProp 𝕄) :
    iprop(Hd c R q k m v ∗ ownsTc c R.ctx fullShare (upd (ctxBelow t.val b.val) (ctxMat q k m v) X))
      ⊢ iprop(((Hd c R q k m v ∗ ownsTc c R.ctx fullShare (upd (ctxBelow t.val (b.val + 1)) (ctxMat q k m v) X)) -∗ Φ ⟨⟩)
          -∗ WP c (headRow R b oq ok hq hk hp) Φ) := by
  subst eq ek
  unfold Hd
  iintro ⟨⟨Hq, Hk, Hm, Hv⟩, H⟩ HK
  unfold headRow WP
  rw [wp_bind]
  iapply (ld c R.q (tileR b t) fullShare q) $$ [Hq]
  · iexact Hq
  iintro Hq
  rw [wp_bind]
  iapply (ld c R.kb (winR b t) fullShare k) $$ [Hk]
  · iexact Hk
  iintro Hk
  rw [wp_bind]
  iapply (ld c R.bias (biasR b) fullShare m) $$ [Hm]
  · iexact Hm
  iintro Hm
  rw [wp_bind]
  iapply (ld c R.vb (winR b t) fullShare v) $$ [Hv]
  · iexact Hv
  iintro Hv
  rw [wp_bind]
  iapply (ld c R.ctx (tileR b t) fullShare _) $$ [H]
  · iexact H
  iintro H
  iapply (st_upd c R.ctx (tileR b t) (headVal (fun j => q ((tileR b t).emb j)) (fun j => k ((winR b t).emb j))
      (fun j => m ((biasR b).emb j)) (fun j => v ((winR b t).emb j))) (ctxBelow t.val b.val) (ctxBelow t.val (b.val + 1))
    (ctxMat q k m v) X (hP_ctx b t) (ctxMat_emb q k m v b t)) $$ [H]
  · iexact H
  iintro H
  iapply HK
  isplitr [H]
  · isplitl [Hq]; · iexact Hq
    isplitl [Hk]; · iexact Hk
    isplitl [Hm] <;> iassumption
  · iexact H

theorem headRowSt_spec (s : Fin 2) (X : Vec F S2x1024x1024 .bf16) (b : Fin 4) (t : Fin 8) (oq ok : Fin 2 → Nat) (os : Fin 3 → Nat)
    (hq : ∀ a, oq a + S256x128.size a ≤ S1024x1024.size a) (hk : ∀ a, ok a + S512x128.size a ≤ S1024x1024.size a)
    (hs : ∀ a, os a + S1x256x128.size a ≤ S2x1024x1024.size a)
    (hp : (Rect.unit (s := S2x1024x1024) os S1x256x128.size hs).PackedRows (EltTy.packing .bf16))
    (eq : oq = ![256 * b.val, 128 * t.val]) (ek : ok = ![kOf b, 128 * t.val]) (es : os = ![s.val, 256 * b.val, 128 * t.val]) (Φ : PUnit → sProp 𝕄) :
    iprop(Hd c R q k m v ∗ ownsTc c R.st fullShare (upd (stBelow s t.val b.val) (atStash (ctxMat q k m v)) X))
      ⊢ iprop(((Hd c R q k m v ∗ ownsTc c R.st fullShare (upd (stBelow s t.val (b.val + 1)) (atStash (ctxMat q k m v)) X)) -∗ Φ ⟨⟩)
          -∗ WP c (headRowSt R s b oq ok os hq hk hs hp) Φ) := by
  subst eq ek es
  unfold Hd
  iintro ⟨⟨Hq, Hk, Hm, Hv⟩, H⟩ HK
  unfold headRowSt WP
  rw [wp_bind]
  iapply (ld c R.q (tileR b t) fullShare q) $$ [Hq]
  · iexact Hq
  iintro Hq
  rw [wp_bind]
  iapply (ld c R.kb (winR b t) fullShare k) $$ [Hk]
  · iexact Hk
  iintro Hk
  rw [wp_bind]
  iapply (ld c R.bias (biasR b) fullShare m) $$ [Hm]
  · iexact Hm
  iintro Hm
  rw [wp_bind]
  iapply (ld c R.vb (winR b t) fullShare v) $$ [Hv]
  · iexact Hv
  iintro Hv
  rw [wp_bind]
  iapply (ld_stash c R.st s (tileR b t) fullShare _) $$ [H]
  · iexact H
  iintro H
  iapply (st_upd c R.st (stTileR s b t) (shapeCast S1x256x128 (headVal (fun j => q ((tileR b t).emb j)) (fun j => k ((winR b t).emb j))
      (fun j => m ((biasR b).emb j)) (fun j => v ((winR b t).emb j))) shapeCasts_S256x128_S1x256x128) (stBelow s t.val b.val) (stBelow s t.val (b.val + 1))
    (atStash (ctxMat q k m v)) X (hP_st s b t) (atStash_emb q k m v s b t)) $$ [H]
  · iexact H
  iintro H
  iapply HK
  isplitr [H]
  · isplitl [Hq]; · iexact Hq
    isplitl [Hk]; · iexact Hk
    isplitl [Hm] <;> iassumption
  · iexact H

end rows

/-- A loop whose every trip runs four rows, by what holds before each row of each trip. -/
theorem heads_loop (lp : Scf.Loop 32) (hok : lp.OK) (htr : lp.trips = 8) (Inv : ℕ → ℕ → sProp 𝕄) (r0 r1 r2 r3 : Fin lp.trips → Pg F PUnit)
    (h0 : ∀ t Φ, Inv t.val 0 ⊢ iprop((Inv t.val 1 -∗ Φ ⟨⟩) -∗ WP c (r0 t) Φ))
    (h1 : ∀ t Φ, Inv t.val 1 ⊢ iprop((Inv t.val 2 -∗ Φ ⟨⟩) -∗ WP c (r1 t) Φ))
    (h2 : ∀ t Φ, Inv t.val 2 ⊢ iprop((Inv t.val 3 -∗ Φ ⟨⟩) -∗ WP c (r2 t) Φ))
    (h3 : ∀ t Φ, Inv t.val 3 ⊢ iprop((Inv t.val 4 -∗ Φ ⟨⟩) -∗ WP c (r3 t) Φ))
    (hn : ∀ t, Inv t 4 ⊢ Inv (t + 1) 0) (Φ : PUnit → sProp 𝕄) :
    Inv 0 0 ⊢ iprop((Inv 8 0 -∗ Φ ⟨⟩) -∗ WP c (Scf.Loop.for lp hok PUnit.unit fun t _ => do r0 t; r1 t; r2 t; r3 t; pure ⟨⟩) Φ) := by
  iintro H HK
  unfold WP
  iapply (Scf.wp_for frame (wpE (defs₀ (F := F)) 𝒱₀ (c : Thread nD τ) none) Set.univ lp.lb lp.ub lp.st hok PUnit.unit _
    (fun n _ => Inv n 0) ?_)
  · intro t _
    iintro H
    rw [wp_bind]
    iapply (h0 t _) $$ [H]
    · iexact H
    iintro H
    rw [wp_bind]
    iapply (h1 t _) $$ [H]
    · iexact H
    iintro H
    rw [wp_bind]
    iapply (h2 t _) $$ [H]
    · iexact H
    iintro H
    rw [wp_bind]
    iapply (h3 t _) $$ [H]
    · iexact H
    iintro H
    rw [show (pure PUnit.unit : Pg F PUnit) = .ret ⟨⟩ from rfl, wp_ret]
    imodintro
    iapply (hn t.val)
    iexact H
  · isplitl [H]; · iexact H
    iintro %_ H
    iapply HK
    rw [show Scf.trips lp.lb lp.ub lp.st = 8 from htr]
    iexact H

section loops
variable (q k : Vec F S1024x1024 .bf16) (m : Vec F S4x256x512 .bf16) (v : Vec F S1024x1024 .bf16)

/-- What a loop over the heads leaves: the reads as they were, the contexts written. -/
def HeadsSpec (p : Pg F PUnit) : Prop := ∀ (X : Vec F S1024x1024 .bf16) (Φ : PUnit → sProp 𝕄),
    iprop(Hd c R q k m v ∗ ownsTc c R.ctx fullShare X)
      ⊢ iprop(((Hd c R q k m v ∗ ownsTc c R.ctx fullShare (ctxMat q k m v)) -∗ Φ ⟨⟩) -∗ WP c p Φ)

/-- The same into row `s` of the stash, whose other row stays. -/
def HeadsStSpec (s : Fin 2) (p : Pg F PUnit) : Prop := ∀ (X : Vec F S2x1024x1024 .bf16) (Φ : PUnit → sProp 𝕄),
    iprop(Hd c R q k m v ∗ ownsTc c R.st fullShare X)
      ⊢ iprop(((Hd c R q k m v ∗ ownsTc c R.st fullShare (upd (fun i => i 0 = s) (atStash (ctxMat q k m v)) X)) -∗ Φ ⟨⟩) -∗ WP c p Φ)

theorem heads_gen (lp : Scf.Loop 32) (hok : lp.OK) (htr : lp.trips = 8) (o0 o1 o2 o3 w0 w1 w2 w3 : Fin lp.trips → Fin 2 → Nat)
    (hq0 : ∀ t a, o0 t a + S256x128.size a ≤ S1024x1024.size a) (hq1 : ∀ t a, o1 t a + S256x128.size a ≤ S1024x1024.size a)
    (hq2 : ∀ t a, o2 t a + S256x128.size a ≤ S1024x1024.size a) (hq3 : ∀ t a, o3 t a + S256x128.size a ≤ S1024x1024.size a)
    (hk0 : ∀ t a, w0 t a + S512x128.size a ≤ S1024x1024.size a) (hk1 : ∀ t a, w1 t a + S512x128.size a ≤ S1024x1024.size a)
    (hk2 : ∀ t a, w2 t a + S512x128.size a ≤ S1024x1024.size a) (hk3 : ∀ t a, w3 t a + S512x128.size a ≤ S1024x1024.size a)
    (hp0 : ∀ t, (Rect.unit (s := S1024x1024) (o0 t) S256x128.size (hq0 t)).PackedRows (EltTy.packing .bf16))
    (hp1 : ∀ t, (Rect.unit (s := S1024x1024) (o1 t) S256x128.size (hq1 t)).PackedRows (EltTy.packing .bf16))
    (hp2 : ∀ t, (Rect.unit (s := S1024x1024) (o2 t) S256x128.size (hq2 t)).PackedRows (EltTy.packing .bf16))
    (hp3 : ∀ t, (Rect.unit (s := S1024x1024) (o3 t) S256x128.size (hq3 t)).PackedRows (EltTy.packing .bf16))
    (e0 : ∀ t, o0 t = ![0, 128 * t.val]) (e1 : ∀ t, o1 t = ![256, 128 * t.val]) (e2 : ∀ t, o2 t = ![512, 128 * t.val]) (e3 : ∀ t, o3 t = ![768, 128 * t.val])
    (f0 : ∀ t, w0 t = ![0, 128 * t.val]) (f1 : ∀ t, w1 t = ![128, 128 * t.val]) (f2 : ∀ t, w2 t = ![384, 128 * t.val]) (f3 : ∀ t, w3 t = ![512, 128 * t.val]) :
    HeadsSpec c R q k m v (Scf.Loop.for lp hok PUnit.unit fun t _ => do
            headRow R 0 (o0 t) (w0 t) (hq0 t) (hk0 t) (hp0 t)
            headRow R 1 (o1 t) (w1 t) (hq1 t) (hk1 t) (hp1 t)
            headRow R 2 (o2 t) (w2 t) (hq2 t) (hk2 t) (hp2 t)
            headRow R 3 (o3 t) (w3 t) (hq3 t) (hk3 t) (hp3 t)
            pure ⟨⟩) := by
  intro X Φ
  have lt : ∀ t : Fin lp.trips, t.val < 8 := fun t => lt_of_lt_of_eq t.isLt htr
  refine BI.BIBase.Entails.trans ?_ (BI.BIBase.Entails.trans (heads_loop c lp hok htr
    (fun t b => iprop(Hd c R q k m v ∗ ownsTc c R.ctx fullShare (upd (ctxBelow t b) (ctxMat q k m v) X))) _ _ _ _
    (fun t Φ => headRow_spec c R q k m v X 0 ⟨t.val, lt t⟩ (o0 t) (w0 t) (hq0 t) (hk0 t) (hp0 t) (e0 t) (f0 t) Φ)
    (fun t Φ => headRow_spec c R q k m v X 1 ⟨t.val, lt t⟩ (o1 t) (w1 t) (hq1 t) (hk1 t) (hp1 t) (e1 t) (f1 t) Φ)
    (fun t Φ => headRow_spec c R q k m v X 2 ⟨t.val, lt t⟩ (o2 t) (w2 t) (hq2 t) (hk2 t) (hp2 t) (e2 t) (f2 t) Φ)
    (fun t Φ => headRow_spec c R q k m v X 3 ⟨t.val, lt t⟩ (o3 t) (w3 t) (hq3 t) (hk3 t) (hp3 t) (e3 t) (f3 t) Φ)
    (fun t => ?_) Φ) ?_)
  · rw [upd_none (P := ctxBelow 0 0) fun i => by unfold ctxBelow cellsBelow; omega]
  · rw [show ctxBelow t 4 = ctxBelow (t + 1) 0 from funext fun i => propext (cellsBelow_next t _ _)]
  · rw [upd_all (P := ctxBelow 8 0) fun i => Or.inl (headOf (i 1)).isLt]

theorem headsSt_gen (s : Fin 2) (lp : Scf.Loop 32) (hok : lp.OK) (htr : lp.trips = 8) (o0 o1 o2 o3 w0 w1 w2 w3 : Fin lp.trips → Fin 2 → Nat)
    (s0 s1 s2 s3 : Fin lp.trips → Fin 3 → Nat)
    (hq0 : ∀ t a, o0 t a + S256x128.size a ≤ S1024x1024.size a) (hq1 : ∀ t a, o1 t a + S256x128.size a ≤ S1024x1024.size a)
    (hq2 : ∀ t a, o2 t a + S256x128.size a ≤ S1024x1024.size a) (hq3 : ∀ t a, o3 t a + S256x128.size a ≤ S1024x1024.size a)
    (hk0 : ∀ t a, w0 t a + S512x128.size a ≤ S1024x1024.size a) (hk1 : ∀ t a, w1 t a + S512x128.size a ≤ S1024x1024.size a)
    (hk2 : ∀ t a, w2 t a + S512x128.size a ≤ S1024x1024.size a) (hk3 : ∀ t a, w3 t a + S512x128.size a ≤ S1024x1024.size a)
    (hs0 : ∀ t a, s0 t a + S1x256x128.size a ≤ S2x1024x1024.size a) (hs1 : ∀ t a, s1 t a + S1x256x128.size a ≤ S2x1024x1024.size a)
    (hs2 : ∀ t a, s2 t a + S1x256x128.size a ≤ S2x1024x1024.size a) (hs3 : ∀ t a, s3 t a + S1x256x128.size a ≤ S2x1024x1024.size a)
    (hp0 : ∀ t, (Rect.unit (s := S2x1024x1024) (s0 t) S1x256x128.size (hs0 t)).PackedRows (EltTy.packing .bf16))
    (hp1 : ∀ t, (Rect.unit (s := S2x1024x1024) (s1 t) S1x256x128.size (hs1 t)).PackedRows (EltTy.packing .bf16))
    (hp2 : ∀ t, (Rect.unit (s := S2x1024x1024) (s2 t) S1x256x128.size (hs2 t)).PackedRows (EltTy.packing .bf16))
    (hp3 : ∀ t, (Rect.unit (s := S2x1024x1024) (s3 t) S1x256x128.size (hs3 t)).PackedRows (EltTy.packing .bf16))
    (e0 : ∀ t, o0 t = ![0, 128 * t.val]) (e1 : ∀ t, o1 t = ![256, 128 * t.val]) (e2 : ∀ t, o2 t = ![512, 128 * t.val]) (e3 : ∀ t, o3 t = ![768, 128 * t.val])
    (f0 : ∀ t, w0 t = ![0, 128 * t.val]) (f1 : ∀ t, w1 t = ![128, 128 * t.val]) (f2 : ∀ t, w2 t = ![384, 128 * t.val]) (f3 : ∀ t, w3 t = ![512, 128 * t.val])
    (g0 : ∀ t, s0 t = ![s.val, 0, 128 * t.val]) (g1 : ∀ t, s1 t = ![s.val, 256, 128 * t.val])
    (g2 : ∀ t, s2 t = ![s.val, 512, 128 * t.val]) (g3 : ∀ t, s3 t = ![s.val, 768, 128 * t.val]) :
    HeadsStSpec c R q k m v s (Scf.Loop.for lp hok PUnit.unit fun t _ => do
            headRowSt R s 0 (o0 t) (w0 t) (s0 t) (hq0 t) (hk0 t) (hs0 t) (hp0 t)
            headRowSt R s 1 (o1 t) (w1 t) (s1 t) (hq1 t) (hk1 t) (hs1 t) (hp1 t)
            headRowSt R s 2 (o2 t) (w2 t) (s2 t) (hq2 t) (hk2 t) (hs2 t) (hp2 t)
            headRowSt R s 3 (o3 t) (w3 t) (s3 t) (hq3 t) (hk3 t) (hs3 t) (hp3 t)
            pure ⟨⟩) := by
  intro X Φ
  have lt : ∀ t : Fin lp.trips, t.val < 8 := fun t => lt_of_lt_of_eq t.isLt htr
  refine BI.BIBase.Entails.trans ?_ (BI.BIBase.Entails.trans (heads_loop c lp hok htr
    (fun t b => iprop(Hd c R q k m v ∗ ownsTc c R.st fullShare (upd (stBelow s t b) (atStash (ctxMat q k m v)) X))) _ _ _ _
    (fun t Φ => headRowSt_spec c R q k m v s X 0 ⟨t.val, lt t⟩ (o0 t) (w0 t) (s0 t) (hq0 t) (hk0 t) (hs0 t) (hp0 t) (e0 t) (f0 t) (g0 t) Φ)
    (fun t Φ => headRowSt_spec c R q k m v s X 1 ⟨t.val, lt t⟩ (o1 t) (w1 t) (s1 t) (hq1 t) (hk1 t) (hs1 t) (hp1 t) (e1 t) (f1 t) (g1 t) Φ)
    (fun t Φ => headRowSt_spec c R q k m v s X 2 ⟨t.val, lt t⟩ (o2 t) (w2 t) (s2 t) (hq2 t) (hk2 t) (hs2 t) (hp2 t) (e2 t) (f2 t) (g2 t) Φ)
    (fun t Φ => headRowSt_spec c R q k m v s X 3 ⟨t.val, lt t⟩ (o3 t) (w3 t) (s3 t) (hq3 t) (hk3 t) (hs3 t) (hp3 t) (e3 t) (f3 t) (g3 t) Φ)
    (fun t => ?_) Φ) ?_)
  · rw [upd_none (P := stBelow s 0 0) fun i => by unfold stBelow cellsBelow; omega]
  · rw [show stBelow s t 4 = stBelow s (t + 1) 0 from funext fun i => propext (and_congr_right fun _ => cellsBelow_next t _ _)]
  · rw [show stBelow s 8 0 = fun i => i 0 = s from funext fun i => propext (and_iff_left (Or.inl (headOf (i 2)).isLt))]
    exact .rfl

theorem heads1_spec : HeadsSpec c R q k m v (heads1 R) :=
  heads_gen c R q k m v k0_t1_loop k0_t1_ok (by decide) k0_off2 k0_off4 k0_off6 k0_off8 k0_off3 k0_off5 k0_off7 k0_off9 _ _ _ _ _ _ _ _ _ _ _ _
    k0_off2_eq k0_off4_eq k0_off6_eq k0_off8_eq k0_off3_eq k0_off5_eq k0_off7_eq k0_off9_eq
theorem heads2_spec : HeadsStSpec c R q k m v 0 (heads2 R) :=
  headsSt_gen c R q k m v 0 k0_t2_loop k0_t2_ok (by decide) k0_off10 k0_off13 k0_off16 k0_off19 k0_off11 k0_off14 k0_off17 k0_off20 k0_off12 k0_off15 k0_off18 k0_off21
    _ _ _ _ _ _ _ _ _ _ _ _ _ _ _ _ k0_off10_eq k0_off13_eq k0_off16_eq k0_off19_eq k0_off11_eq k0_off14_eq k0_off17_eq k0_off20_eq k0_off12_eq k0_off15_eq k0_off18_eq k0_off21_eq
theorem heads3_spec : HeadsStSpec c R q k m v 1 (heads3 R) :=
  headsSt_gen c R q k m v 1 k0_t3_loop k0_t3_ok (by decide) k0_off22 k0_off25 k0_off28 k0_off31 k0_off23 k0_off26 k0_off29 k0_off32 k0_off24 k0_off27 k0_off30 k0_off33
    _ _ _ _ _ _ _ _ _ _ _ _ _ _ _ _ k0_off22_eq k0_off25_eq k0_off28_eq k0_off31_eq k0_off23_eq k0_off26_eq k0_off29_eq k0_off32_eq k0_off24_eq k0_off27_eq k0_off30_eq k0_off33_eq
theorem heads4_spec : HeadsSpec c R q k m v (heads4 R) :=
  heads_gen c R q k m v k0_t4_loop k0_t4_ok (by decide) k0_off34 k0_off36 k0_off38 k0_off40 k0_off35 k0_off37 k0_off39 k0_off41 _ _ _ _ _ _ _ _ _ _ _ _
    k0_off34_eq k0_off36_eq k0_off38_eq k0_off40_eq k0_off35_eq k0_off37_eq k0_off39_eq k0_off41_eq
theorem heads5_spec : HeadsSpec c R q k m v (heads5 R) :=
  heads_gen c R q k m v k0_t5_loop k0_t5_ok (by decide) k0_off42 k0_off44 k0_off46 k0_off48 k0_off43 k0_off45 k0_off47 k0_off49 _ _ _ _ _ _ _ _ _ _ _ _
    k0_off42_eq k0_off44_eq k0_off46_eq k0_off48_eq k0_off43_eq k0_off45_eq k0_off47_eq k0_off49_eq
theorem heads6_spec : HeadsSpec c R q k m v (heads6 R) :=
  heads_gen c R q k m v k0_t6_loop k0_t6_ok (by decide) k0_off50 k0_off52 k0_off54 k0_off56 k0_off51 k0_off53 k0_off55 k0_off57 _ _ _ _ _ _ _ _ _ _ _ _
    k0_off50_eq k0_off52_eq k0_off54_eq k0_off56_eq k0_off51_eq k0_off53_eq k0_off55_eq k0_off57_eq
theorem heads7_spec : HeadsSpec c R q k m v (heads7 R) :=
  heads_gen c R q k m v k0_t7_loop k0_t7_ok (by decide) k0_off58 k0_off60 k0_off62 k0_off64 k0_off59 k0_off61 k0_off63 k0_off65 _ _ _ _ _ _ _ _ _ _ _ _
    k0_off58_eq k0_off60_eq k0_off62_eq k0_off64_eq k0_off59_eq k0_off61_eq k0_off63_eq k0_off65_eq
theorem heads8_spec : HeadsSpec c R q k m v (heads8 R) :=
  heads_gen c R q k m v k0_t8_loop k0_t8_ok (by decide) k0_off66 k0_off68 k0_off70 k0_off72 k0_off67 k0_off69 k0_off71 k0_off73 _ _ _ _ _ _ _ _ _ _ _ _
    k0_off66_eq k0_off68_eq k0_off70_eq k0_off72_eq k0_off67_eq k0_off69_eq k0_off71_eq k0_off73_eq

end loops
end stages

end Cert.KernelIdeal.Att
-- ==== Proof.Protocol.lean ====
/- The talk between the devices: which semaphore is signalled by whom, in how many units, and what each
   landing hands over. Device `c` passes blocks of Wq to the right (`nbr false c`) and blocks of Wo to the
   left (`nbr true c`), seven hops each way; a hop's block lands in the hop's own slot. -/
module

public import proofs.«01_k».proof.Proof.Heads
public import proofs.«01_k».proof.Proof.Gen.KernelIdeal.Launch
public import proofs.«01_k».proof.Proof.Gen.KernelIdeal.Points

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The operands the body is called with. -/
@[reducible] def K0 : Refs where
  x := st0_0 t0_0
  hx := hstage0_0 0
  wq := st0_1 t0_0
  hwq := hstage0_1 0
  wo := st0_2 t0_0
  hwo := hstage0_2 0
  kt := Memref.whole main_v8
  hkt := Memref.isWhole_whole _
  vt := Memref.whole main_v9
  hvt := Memref.isWhole_whole _
  out := st0_3 t0_0
  hout := hstage0_3 0
  rq := Memref.whole cc0_scratch0
  hrq := Memref.isWhole_whole _
  ro := Memref.whole cc0_scratch1
  hro := Memref.isWhole_whole _
  kb := Memref.whole cc0_scratch2
  hkb := Memref.isWhole_whole _
  vb := Memref.whole cc0_scratch3
  hvb := Memref.isWhole_whole _
  ctx := Memref.whole cc0_scratch4
  hctx := Memref.isWhole_whole _
  q := Memref.whole cc0_scratch5
  hq := Memref.isWhole_whole _
  bias := Memref.whole cc0_scratch6
  hbias := Memref.isWhole_whole _
  st := Memref.whole cc0_scratch7
  hst := Memref.isWhole_whole _
  sQs := cc0_scratch8
  sQr := cc0_scratch9
  sOs := cc0_scratch10
  sOr := cc0_scratch11
  sK := cc0_scratch12
  sV := cc0_scratch13

theorem bodyAt_eq : (bodyAt0 t0_0 : Pg F PUnit) = staged K0 := body_eq K0

/-! ## The ring of devices -/

/-- The device that `c` sends blocks of Wq (`false`) or of Wo (`true`) to. -/
def nbr : Bool → Dev nD → Dev nD
  | false, c => ⟨(c.val + 1) % 8, Nat.mod_lt _ (by decide)⟩
  | true, c => ⟨(c.val + 7) % 8, Nat.mod_lt _ (by decide)⟩

theorem nbr_nbr (b : Bool) (c : Dev nD) : nbr b (nbr (!b) c) = c := by revert b c; decide
theorem nbr_nbr' (b : Bool) (c : Dev nD) : nbr (!b) (nbr b c) = c := by revert b c; decide

/-- The device whose block reaches `c` after `n` hops. -/
def got (b : Bool) (c : Dev nD) (n : ℕ) : Dev nD := (nbr (!b))^[n] c

theorem got_nbr (b : Bool) (c : Dev nD) (n : ℕ) : got b (nbr b c) (n + 1) = got b c n := by
  unfold got; rw [Function.iterate_succ_apply, nbr_nbr']

/-! ## Buffers and semaphores, by side -/

@[reducible] def own : Bool → Memref sig .tc .vmem S1024x1024 .bf16 | false => K0.wq | true => K0.wo
@[reducible] def ring : Bool → Memref sig .tc .vmem S7x1024x1024 .bf16 | false => K0.rq | true => K0.ro
@[reducible] def kvM : Bool → Memref sig .tc .hbm S1024x8192 .bf16 | false => K0.kt | true => K0.vt
@[reducible] def kvB : Bool → Memref sig .tc .vmem S1024x1024 .bf16 | false => K0.kb | true => K0.vb

/-- What hop `n` sends: the device's own block, then the slot before. -/
@[reducible] def srcM (b : Bool) (t : Fin 7) : Memref sig .tc .vmem S1024x1024 .bf16 :=
  Fin.cases (motive := fun _ => Memref sig .tc .vmem S1024x1024 .bf16) (own b) (fun s => slot (ring b) s.castSucc) t

@[reducible] def dsem : Bool → Bool → Fin 7 → DmaSem sig
  | false, false, t => semAt K0.sQs t | false, true, t => semAt K0.sQr t
  | true, false, t => semAt K0.sOs t | true, true, t => semAt K0.sOr t
@[reducible] def kvsem : Bool → DmaSem sig | false => K0.sK.sem | true => K0.sV.sem

/-- The semaphores of the talk: the barrier; per side and hop, of the sending (`false`) and the landing
    (`true`); of the copies of K (`false`) and V (`true`). -/
inductive Kind where
  | bar
  | hop (b d : Bool) (t : Fin 7)
  | kv (b : Bool)
deriving DecidableEq

/-- A semaphore of the talk, as a sum. -/
def kindEquiv : (Unit ⊕ ((Bool × Bool × Fin 7) ⊕ Bool)) ≃ Kind where
  toFun | .inl _ => .bar | .inr (.inl (b, d, t)) => .hop b d t | .inr (.inr b) => .kv b
  invFun | .bar => .inl () | .hop b d t => .inr (.inl (b, d, t)) | .kv b => .inr (.inr b)
  left_inv | .inl _ => rfl | .inr (.inl (_, _, _)) => rfl | .inr (.inr _) => rfl
  right_inv | .bar => rfl | .hop _ _ _ => rfl | .kv _ => rfl
instance : Fintype Kind := Fintype.ofEquiv _ kindEquiv

abbrev barS : Sem sig := (SemArray.scalar (sig.barrier 0 rfl) : Sems sig S_).sem

@[reducible] def semOf : Kind → SemLoc sig
  | .bar => .reg barS
  | .hop b d t => .dma (dsem b d t)
  | .kv b => .dma (kvsem b)

def kindOf : SemLoc sig → Option Kind
  | .reg _ => some .bar
  | .dma i => if i.val < 4 then none
      else if i.val < 32 then some (.hop (decide (18 ≤ i.val)) (decide (7 ≤ (i.val - 4) % 14)) ⟨(i.val - 4) % 7, Nat.mod_lt _ (by decide)⟩)
      else some (.kv (decide (i.val = 33)))

theorem kindOf_semOf : ∀ κ : Kind, kindOf (semOf κ) = some κ
  | .bar => rfl
  | .hop b d t => by revert b d t; decide +kernel
  | .kv b => by revert b; decide +kernel

theorem semOf_inj : Function.Injective semOf := fun a b h => Option.some.inj (by rw [← kindOf_semOf, h, kindOf_semOf])

abbrev cell (c : Dev nD) (κ : Kind) : GSem nD τ sig := ((c : Thread nD τ), semOf κ)

/-- The units a block's copy raises its semaphores by. -/
abbrev N : ℕ := (K0.kb).view.dmaCredit
theorem N_pos : 0 < N := View.dmaCredit_pos _ (by decide)

theorem amt_slot (b : Bool) (t : Fin 7) (s : DmaSem sig) : (slot (ring b) t).view.amount (.dma s) = N := by cases b <;> rfl
theorem amt_kvB (b : Bool) (s : DmaSem sig) : (kvB b).view.amount (.dma s) = N := by cases b <;> rfl

/-! ## Contents -/

/-- What the devices hold when the kernel starts. -/
structure Data (F : FTy → Type) where
  x : Dev nD → Vec F S1024x1024 .bf16
  w : Bool → Dev nD → Vec F S1024x1024 .bf16
  kv : Bool → Dev nD → Vec F S1024x8192 .bf16

variable (D : Data F)

/-- The block `c` holds after `n` hops. -/
def blk (b : Bool) (c : Dev nD) (n : ℕ) : Vec F S1024x1024 .bf16 := D.w b (got b c n)

abbrev kvR (c : Dev nD) (r : Fin 8) : Rect S1024x8192 := Rect.unit (s := S1024x8192) (k0_off1 c (k0_off1_at r)) S1024x1024.size (k0_off1_inb c r)

/-- K or V of `c`'s part `r`. -/
def part (b : Bool) (c : Dev nD) (r : Fin 8) : Vec F S1024x1024 .bf16 := fun j => D.kv b c ((kvR c r).emb j)

theorem blk_nbr (b : Bool) (c : Dev nD) (n : ℕ) : blk D b (nbr b c) (n + 1) = blk D b c n := by unfold blk; rw [got_nbr]

/-! ## The payloads and the schedule -/

/-- The neighbour's slots, which it hands over when it has started. -/
def barPay (b : Bool) (c : Dev nD) : sProp 𝕄 :=
  bigSep Finset.univ fun t : Fin 7 => iprop((∃ X, ownsTc (nbr b c) (slot (ring b) t) fullShare X) ∗ reached ER (cell (nbr b c) (.hop b true t)) 0)
/-- A hop's block, landed. -/
def recvPay (b : Bool) (t : Fin 7) (c : Dev nD) : sProp 𝕄 := ownsTc c (slot (ring b) t) fullShare (blk D b c (t.val + 1))
/-- A hop's source, back. -/
def sendPay (b : Bool) (t : Fin 7) (c : Dev nD) : sProp 𝕄 := ownsTc c (srcM b t) fullShare.right (blk D b c t.val)
/-- A part of K or V in its buffer, and its columns back. -/
def kvPay (b : Bool) (r : Fin 8) (c : Dev nD) : sProp 𝕄 :=
  iprop(ownsTc c (kvB b) fullShare (part D b c r) ∗ ownsTc c (kvBlk (kvM b) c r) fullShare (part D b c r))

def dutiesOf : Option Kind → ℕ → Finset Bool
  | some .bar, r => if r = 0 then {false, true} else ∅
  | some (.hop _ _ _), r => if r = 0 then {false} else ∅
  | some (.kv _), r => if r < 8 then {false} else ∅
  | none, _ => ∅
def amountOf : Option Kind → ℕ
  | some .bar => 1
  | _ => N
def payOf (c : Dev nD) : Option Kind → ℕ → Bool → sProp 𝕄
  | some .bar, _, b => barPay b c
  | some (.hop b true t), _, _ => recvPay D b t c
  | some (.hop b false t), _, _ => sendPay D b t c
  | some (.kv b), r, _ => if h : r < 8 then kvPay D b ⟨r, h⟩ c else iprop(emp)
  | none, _, _ => iprop(emp)

def rd : Rounds.Schedule (GSem nD τ sig) Bool 𝕄 where
  duties g r := if g.1.2 = .tc then dutiesOf (kindOf g.2) r else ∅
  unitless _ := False
  amount g _ _ := amountOf (kindOf g.2)
  payload g r d := payOf D g.1.1 (kindOf g.2) r d
  amount_pos g _ _ _ := by
    rcases kindOf g.2 with _ | (_ | _ | _)
    · exact N_pos
    · exact Nat.one_pos
    · exact N_pos
    · exact N_pos

instance barPay_storable (b : Bool) (c : Dev nD) : BI.Storable (upEmb : UEmb _ 𝕄) (barPay (F := F) b c) := by unfold barPay; infer_instance
instance recvPay_storable (b : Bool) (t : Fin 7) (c : Dev nD) : BI.Storable (upEmb : UEmb _ 𝕄) (recvPay D b t c) := by unfold recvPay; infer_instance
instance sendPay_storable (b : Bool) (t : Fin 7) (c : Dev nD) : BI.Storable (upEmb : UEmb _ 𝕄) (sendPay D b t c) := by unfold sendPay; infer_instance
instance kvPay_storable (b : Bool) (r : Fin 8) (c : Dev nD) : BI.Storable (upEmb : UEmb _ 𝕄) (kvPay D b r c) := by unfold kvPay; infer_instance

instance rd_payload_storable (g : GSem nD τ sig) (r : ℕ) (d : Bool) : BI.Storable (upEmb : UEmb _ 𝕄) ((rd D).payload g r d) := by
  show BI.Storable upEmb (payOf D g.1.1 (kindOf g.2) r d)
  rcases kindOf g.2 with _ | (_ | ⟨b, _ | _, t⟩ | b) <;> unfold payOf
  · infer_instance
  · infer_instance
  · infer_instance
  · infer_instance
  · dsimp only; split <;> infer_instance

section tables
variable (c : Dev nD) (κ : Kind)

theorem duties_cell (r : ℕ) : (rd D).duties (cell c κ) r = dutiesOf (some κ) r := by
  dsimp only [rd]; rw [if_pos rfl, kindOf_semOf]
theorem amount_cell (r : ℕ) (d : Bool) : (rd D).amount (cell c κ) r d = amountOf (some κ) := by
  dsimp only [rd]; rw [kindOf_semOf]
theorem payload_cell (r : ℕ) (d : Bool) : (rd D).payload (cell c κ) r d = payOf D c (some κ) r d := by
  dsimp only [rd]; rw [kindOf_semOf]

theorem mem_bar (b : Bool) : b ∈ (rd D).duties (cell c .bar) 0 := by rw [duties_cell]; cases b <;> decide
theorem mem_hop (b d : Bool) (t : Fin 7) : false ∈ (rd D).duties (cell c (.hop b d t)) 0 := by rw [duties_cell]; exact Finset.mem_singleton_self _
theorem mem_kv (b : Bool) (r : Fin 8) : false ∈ (rd D).duties (cell c (.kv b)) r.val := by
  rw [duties_cell]; show false ∈ (if r.val < 8 then ({false} : Finset Bool) else ∅); rw [if_pos r.isLt]; exact Finset.mem_singleton_self _

theorem expect_bar : (rd D).expect (cell c .bar) 0 = 2 := by
  unfold Schedule.expect Schedule.amountOf
  rw [duties_cell, Finset.sum_congr rfl fun d _ => amount_cell D c .bar 0 d]; rfl
theorem expect_hop (b d : Bool) (t : Fin 7) : (rd D).expect (cell c (.hop b d t)) 0 = N := by
  unfold Schedule.expect Schedule.amountOf
  rw [duties_cell, Finset.sum_congr rfl fun d' _ => amount_cell D c _ 0 d']; exact Finset.sum_singleton _ _
theorem expect_kv (b : Bool) (r : Fin 8) : (rd D).expect (cell c (.kv b)) r.val = N := by
  unfold Schedule.expect Schedule.amountOf
  rw [duties_cell, Finset.sum_congr rfl fun d' _ => amount_cell D c _ r.val d']
  show (∑ _d ∈ (if r.val < 8 then ({false} : Finset Bool) else ∅), N) = N
  rw [if_pos r.isLt]; exact Finset.sum_singleton _ _

theorem rest_bar : bigSep ((rd D).duties (cell c .bar) 0 \ ∅) (fun u => (rd D).payload (cell c .bar) 0 u) = iprop(barPay false c ∗ barPay true c) := by
  rw [Finset.sdiff_empty, duties_cell, bigSep_congr fun d _ => payload_cell D c .bar 0 d]
  show bigSep ({false, true} : Finset Bool) _ = _
  rw [bigSep_insert (by decide), bigSep_singleton]; rfl
theorem rest_hop (b d : Bool) (t : Fin 7) : bigSep ((rd D).duties (cell c (.hop b d t)) 0 \ ∅) (fun u => (rd D).payload (cell c (.hop b d t)) 0 u)
    = payOf D c (some (.hop b d t)) 0 false := by
  rw [Finset.sdiff_empty, duties_cell, bigSep_congr fun d' _ => payload_cell D c _ 0 d']
  exact bigSep_singleton
theorem rest_kv (b : Bool) (r : Fin 8) : bigSep ((rd D).duties (cell c (.kv b)) r.val \ ∅) (fun u => (rd D).payload (cell c (.kv b)) r.val u)
    = kvPay D b r c := by
  rw [Finset.sdiff_empty, duties_cell, bigSep_congr fun d' _ => payload_cell D c _ r.val d']
  show bigSep (if r.val < 8 then ({false} : Finset Bool) else ∅) _ = _
  rw [if_pos r.isLt, bigSep_singleton]
  show (if h : r.val < 8 then kvPay D b ⟨r.val, h⟩ c else iprop(emp)) = _
  rw [dif_pos r.isLt]

theorem pay_kv (b : Bool) (r : Fin 8) (d : Bool) : (rd D).payload (cell c (.kv b)) r.val d = kvPay D b r c := by
  rw [payload_cell]
  show (if h : r.val < 8 then kvPay D b ⟨r.val, h⟩ c else iprop(emp)) = _
  rw [dif_pos r.isLt]

/-- After its rounds a cell has no duty left. -/
def rounds : Kind → ℕ | .kv _ => 8 | _ => 1
theorem duties_later : ∀ r, rounds κ ≤ r → (rd D).duties (cell c κ) r = ∅ := by
  intro r hr
  rw [duties_cell]
  cases κ
  · exact if_neg (fun h => by subst h; exact absurd hr (Nat.not_succ_le_zero 0))
  · exact if_neg (fun h => by subst h; exact absurd hr (Nat.not_succ_le_zero 0))
  · exact if_neg (Nat.not_lt.mpr hr)

end tables

/-! ## What is owed, and the levels -/

/-- What `c` owes its neighbour's landing semaphores from hop `n` on. -/
def owR (b : Bool) (c : Dev nD) (n : ℕ) : CellTallies nD τ sig Unit :=
  ∑ t ∈ Finset.univ.filter (fun t : Fin 7 => n ≤ t.val), tallyAt (cell (nbr b c) (.hop b true t)) () N

theorem owR_step (b : Bool) (c : Dev nD) (t : Fin 7) :
    owR b c t.val = owR b c (t.val + 1) + tallyAt (cell (nbr b c) (.hop b true t)) () N := by
  unfold owR
  rw [show (Finset.univ.filter fun s : Fin 7 => t.val ≤ s.val) = insert t (Finset.univ.filter fun s : Fin 7 => t.val + 1 ≤ s.val) from by
      revert t; decide,
    Finset.sum_insert (by simp), add_comm]

theorem owR_end (b : Bool) (c : Dev nD) : owR b c 7 = 0 := by
  unfold owR
  rw [show (Finset.univ.filter fun s : Fin 7 => 7 ≤ s.val) = ∅ from by decide, Finset.sum_empty]

theorem tally_pos {g g' : GSem nD τ sig} {u : Unit} {n : ℕ} (h : 0 < tallyAt g' () n g u) : g = g' := by
  rw [tallyAt_apply] at h
  split at h
  · next hg => exact hg.1
  · exact absurd h (Nat.lt_irrefl 0)

theorem owR_pos {b : Bool} {c : Dev nD} {n : ℕ} {g : GSem nD τ sig} {u : Unit} (h : 0 < owR b c n g u) :
    ∃ t : Fin 7, n ≤ t.val ∧ g = cell (nbr b c) (.hop b true t) := by
  unfold owR at h
  rw [Finset.sum_apply, Finsupp.finset_sum_apply] at h
  obtain ⟨t, ht, hp⟩ := Finset.exists_ne_zero_of_sum_ne_zero (Nat.pos_iff_ne_zero.mp h)
  exact ⟨t, (Finset.mem_filter.mp ht).2, tally_pos (Nat.pos_iff_ne_zero.mpr hp)⟩

/-- What `c` owes when the kernel starts: a unit to each neighbour's barrier, and all its hops. -/
def O₀ (c : Dev nD) : CellTallies nD τ sig Unit :=
  ((owR false c 0 + owR true c 0) + tallyAt (cell (nbr false c) .bar) () 1) + tallyAt (cell (nbr true c) .bar) () 1

def L (g : GSem nD τ sig) : Finset Unit := if g.1.2 = .tc then {()} else ∅
def lvOf : Option Kind → ℕ
  | some .bar => 1
  | some (.hop _ true t) => t.val + 2
  | _ => 0
def lv (g : GSem nD τ sig) (_ : Unit) : ℕ := lvOf (kindOf g.2)

theorem L_of_ne (g : GSem nD τ sig) (h : g.1.2 ≠ .tc) : L g = ∅ := if_neg h
theorem mem_L (c : Dev nD) (sm : SemLoc sig) : () ∈ L ((c : Thread nD τ), sm) := by unfold L; rw [if_pos rfl]; exact Finset.mem_singleton_self _
theorem lv_cell (c : Dev nD) (κ : Kind) (u : Unit) : lv (cell c κ) u = lvOf (some κ) := by unfold lv; rw [kindOf_semOf]

/-- `c` may wait on a semaphore of its own while all it owes is to landings of a higher level. -/
theorem mayWait (c : Dev nD) (κ : Kind) (n n' : ℕ) (hn : lvOf (some κ) < n + 2) (hn' : lvOf (some κ) < n' + 2) :
    (levAts L lv : sProp 𝕄) ⊢ MayWait (c : Thread nD τ) (semOf κ) () (owR false c n + owR true c n') := by
  have key : ∀ (g : GSem nD τ sig) (u : Unit), 0 < (owR false c n + owR true c n') g u → u ∈ L g ∧ lvOf (some κ) < lv g u := by
    intro g u hg
    rw [Pi.add_apply, Finsupp.add_apply] at hg
    rcases Nat.add_pos_iff_pos_or_pos.mp hg with h | h <;> obtain ⟨t, ht, rfl⟩ := owR_pos h
    · exact ⟨mem_L _ _, by rw [lv_cell]; show _ < t.val + 2; omega⟩
    · exact ⟨mem_L _ _, by rw [lv_cell]; show _ < t.val + 2; omega⟩
  exact MayOwe.of_cut (L := L) (lev := lv) (lvOf (some κ))
    (fun p hp => by rw [Finset.mem_singleton.mp hp]; exact mem_L _ _)
    (fun g u hg => (key g u hg).1)
    (fun p hp => by rw [Finset.mem_singleton.mp hp]; exact le_of_eq (lv_cell c κ ()))
    (fun g u hg => (key g u hg).2)

end Cert.KernelIdeal.Att
-- ==== Proof.Comm.lean ====
/- The stages of the talk, one at a time: a hop sent, a hop landed, a send waited for, a part of K or V
   copied in, the barrier. Each is stated on side `b` and hop `t`, and what is owed is left open. -/
module

public import proofs.«01_k».proof.Proof.Protocol

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

theorem elimAt {I : Type} {s : Finset I} {i : I} (h : i ∈ s) {Φ : I → sProp 𝕄} : (bigSep s Φ : sProp 𝕄) ⊢ Φ i := bigSep_elim h

/-! ## What is known throughout -/

/-- The cells' invariants, the rounds reached at the start, the levels. -/
def Ctx (D : Data F) (K : GSem nD τ sig → ℕ) (c : Dev nD) : sProp 𝕄 :=
  iprop(bigSep Finset.univ (fun p : Dev nD × Kind => cellInv ER (rd D) (K (cell p.1 p.2)) (cell p.1 p.2))
    ∗ bigSep Finset.univ (fun d : Dev nD => reached ER (cell d .bar) 0)
    ∗ bigSep Finset.univ (fun κ : Kind => reached ER (cell c κ) 0)
    ∗ levAts L lv)

instance ctx_persistent (D : Data F) (K : GSem nD τ sig → ℕ) (c : Dev nD) : BI.Persistent (Ctx D K c) := by unfold Ctx; infer_instance

/-- The device owes `O`, whatever it has waited for. -/
def Ow (c : Dev nD) (O : CellTallies nD τ sig Unit) : sProp 𝕄 := iprop(∃ W, owes (c : Thread nD τ) O W)

section
variable (D : Data F) (K : GSem nD τ sig → ℕ) (c : Dev nD)

theorem ctx_inv (d : Dev nD) (κ : Kind) : Ctx D K c ⊢ cellInv ER (rd D) (K (cell d κ)) (cell d κ) := by
  unfold Ctx
  iintro ⟨H, -, -, -⟩
  iapply (elimAt (Finset.mem_univ (d, κ))) $$ H
theorem ctx_bar (d : Dev nD) : Ctx D K c ⊢ reached ER (cell d .bar) 0 := by
  unfold Ctx
  iintro ⟨-, H, -, -⟩
  iapply (elimAt (Finset.mem_univ d)) $$ H
theorem ctx_own (κ : Kind) : Ctx D K c ⊢ reached ER (cell c κ) 0 := by
  unfold Ctx
  iintro ⟨-, -, H, -⟩
  iapply (elimAt (Finset.mem_univ κ)) $$ H
theorem ctx_lev : Ctx D K c ⊢ levAts L lv := by
  unfold Ctx
  iintro ⟨-, -, -, H⟩
  iexact H

/-! ## A wait for a whole round -/

theorem wait_spec (κ : Kind) {w : TpuEff nD τ sig (Elt F) Λ₀ .tc PUnit} {k : ℕ}
    (hw : ∀ Q : PUnit → sProp 𝕄, wpE (defs₀ (F := F)) 𝒱₀ (c : Thread nD τ) none Set.univ w Q = waitSpec (c : Thread nD τ) Set.univ (semOf κ) k Q)
    (r : ℕ) (hk : k = (rd D).expect (cell c κ) r) (O : CellTallies nD τ sig Unit)
    (hO : (levAts L lv : sProp 𝕄) ⊢ MayWait (c : Thread nD τ) (semOf κ) () O) (Φ : PUnit → sProp 𝕄) :
    iprop(Ctx D K c ∗ cred (tallyAt (cell c κ) () k) ∗ Ow c O ∗ atPos ER (cell c κ) r ∅ 0)
      ⊢ iprop(((Ow c O ∗ atPos ER (cell c κ) (r + 1) ∅ 0 ∗ reached ER (cell c κ) (r + 1)
          ∗ bigSep ((rd D).duties (cell c κ) r \ ∅) (fun u => (rd D).payload (cell c κ) r u)) -∗ Φ ⟨⟩) -∗ WP c (.op w .ret) Φ) := by
  unfold Ow
  iintro ⟨#Hc, Hcr, ⟨%W, HO⟩, Hat⟩ Hk
  iapply (Rounds.wp_wait_rest_token 𝒱₀ ER (rd D) (c : Thread nD τ) none (κ := K (cell c κ)) hw (Set.mem_univ _) () (O := O) (W := W)
    (R := r) (m := 0) (T := ∅) ((Nat.zero_add _).trans hk)) $$ [Hcr HO Hat]
  · isplitr; · iapply (ctx_inv D K c c κ); iexact Hc
    isplitl [Hcr]; · iexact Hcr
    isplitl [HO]; · iexact HO
    isplitr
    · iapply hO; iapply (ctx_lev D K c); iexact Hc
    iexact Hat
  iintro ⟨HO, Hat, Hr, Hp⟩
  rw [wp_ret]
  imodintro
  iapply Hk
  isplitl [HO]; · iexists _; iexact HO
  isplitl [Hat]; · iexact Hat
  isplitl [Hr]; · iexact Hr
  iexact Hp

/-! ## Hops -/

/-- What sending hop `t` takes: the neighbour's slot, and the two tokens. -/
def Tok (b : Bool) (t : Fin 7) : sProp 𝕄 :=
  iprop((∃ X, ownsTc (nbr b c) (slot (ring b) t) fullShare X) ∗ reached ER (cell (nbr b c) (.hop b true t)) 0
    ∗ dutyTok ER (cell (nbr b c) (.hop b true t)) 0 false ∗ dutyTok ER (cell c (.hop b false t)) 0 false)

theorem send_spec (b : Bool) (t : Fin 7)
    {hsrc : (srcM b t).view.WordExact} {hdst : (slot (ring b) t).view.WordExact} {hsc : (slot (ring b) t).view.ref.isScScratch = false}
    {hsem : DmaTarget.Typed (nD := nD) (τ := τ) (sig := sig) (p := .tc) .vmem (.dma (dsem b true t)) (.remote (Dev.tc (nbr b c)) (slot (ring b) t) (.dma (dsem b false t)) hsc)}
    (O₁ O : CellTallies nD τ sig Unit) (hO : O₁ = O + tallyAt (cell (nbr b c) (.hop b true t)) () N) (Φ : PUnit → sProp 𝕄) :
    iprop(Ctx D K c ∗ Tok c b t ∗ ownsTc c (srcM b t) fullShare.right (blk D b c t.val) ∗ Ow c O₁)
      ⊢ iprop(((cred (tallyAt (cell c (.hop b false t)) () N) ∗ Ow c O) -∗ Φ ⟨⟩)
          -∗ WP c (.op (.enqueueDma (srcM b t) (.remote (Dev.tc (nbr b c)) (slot (ring b) t) (.dma (dsem b false t)) hsc) (.dma (dsem b true t)) hsrc hdst hsem) .ret) Φ) := by
  unfold Ow Tok
  iintro ⟨#Hc, ⟨⟨%X, Hd⟩, #Hr, Ht, Hs⟩, Hb, ⟨%W, HO⟩⟩ Hk
  ihave Hb' := (owns_def c (srcM b t) _ _) $$ Hb
  icases Hb' with ⟨%fs, %hfs, Hb⟩
  ihave Hd' := (owns_def (nbr b c) (slot (ring b) t) _ _) $$ Hd
  icases Hd' with ⟨%fd, %hfd, Hd⟩
  iapply (Rounds.wp_send_pointsTo 𝒱₀ ER (rd D) (c : Thread nD τ) none (c' := (nbr b c : Thread nD τ)) (src := srcM b t) (dst := slot (ring b) t)
      (sS := .dma (dsem b false t)) (sem := .dma (dsem b true t)) (q := fullShare.right) (fs := fs) (κ₁ := K (cell c (.hop b false t)))
      (κ₂ := K (cell (nbr b c) (.hop b true t))) (r₁ := 0) (r₂ := 0) (d₁ := false) (d₂ := false) (fd := fd)
      (mem_hop D c b false t) (mem_hop D (nbr b c) b true t) () () N (amt_slot b t _) (amount_cell D c (.hop b false t) 0 false) (amount_cell D (nbr b c) (.hop b true t) 0 false)
      O hO (W := W)
      (by
        refine BI.Entails.trans ?_ (Entails.of_eq (payload_cell D c (.hop b false t) 0 false).symm); show _ ⊢ sendPay D b t c; unfold sendPay; rw [← hfs]
        iintro H; iapply (owns_intro (c : Thread nD τ) (srcM b t) fullShare.right fs); iexact H)
      (by
        refine BI.Entails.trans ?_ (Entails.of_eq (payload_cell D (nbr b c) (.hop b true t) 0 false).symm); show _ ⊢ recvPay D b t (nbr b c); unfold recvPay; rw [blk_nbr, ← hfs]
        have e : (slot (ring b) t).view.read (Elt F) ((slot (ring b) t).view.write (Elt F) fd ((srcM b t).view.read (Elt F) fs) Finset.univ)
            = (srcM b t).view.read (Elt F) fs := View.read_write_univ ..
        iintro H
        iapply (Entails.of_eq (congrArg (ownsTc (nbr b c) (slot (ring b) t) fullShare) e))
        iapply (owns_intro (nbr b c : Thread nD τ) (slot (ring b) t) fullShare _); iexact H)) $$ [Hb Hd HO Ht Hs]
  · isplitr; · iapply (ctx_inv D K c c (.hop b false t)); iexact Hc
    isplitr; · iapply (ctx_inv D K c (nbr b c) (.hop b true t)); iexact Hc
    isplitl [Hb]; · iexact Hb
    isplitl [Hd]; · iexact Hd
    isplitl [HO]; · iexact HO
    isplitl [Hs]; · iexact Hs
    isplitr; · iapply (ctx_own D K c (.hop b false t)); iexact Hc
    isplitl [Ht]; · iexact Ht
    iexact Hr
  iintro ⟨Hcr, HO⟩
  rw [wp_ret]
  imodintro
  iapply Hk
  isplitl [Hcr]; · iexact Hcr
  iexists W; iexact HO

theorem recv_spec (b : Bool) (t : Fin 7) {sp : Space} {s : Shape} {e : EltTy} {src : Memref sig .tc sp s e} {dst : Memref sig .tc .vmem S1024x1024 .bf16}
    {h1 : src.view.WordExact} {h2 : dst.view.WordExact} (n n' : ℕ) (hn : t.val < n) (hn' : t.val < n')  (Φ : PUnit → sProp 𝕄)
    (hN : dst.view.dmaCredit = N) :
    iprop(Ctx D K c ∗ cred (tallyAt (cell c (.hop b true t)) () N) ∗ Ow c (owR false c n + owR true c n') ∗ atPos ER (cell c (.hop b true t)) 0 ∅ 0)
      ⊢ iprop(((Ow c (owR false c n + owR true c n') ∗ atPos ER (cell c (.hop b true t)) 1 ∅ 0 ∗ ownsTc c (slot (ring b) t) fullShare (blk D b c (t.val + 1))) -∗ Φ ⟨⟩)
          -∗ WP c (.op (.waitDma2 (dsem b true t) src dst h1 h2) .ret) Φ) := by
  iintro H Hk
  iapply (wait_spec D K c (.hop b true t) (k := N) (fun Q => (wpE_waitDma2_eq 𝒱₀ (c : Thread nD τ) none Set.univ Q).trans (by rw [hN])) 0
    (expect_hop D c b true t).symm _ (mayWait c _ n n' (by show t.val + 2 < _; omega) (by show t.val + 2 < _; omega))) $$ H
  iintro ⟨HO, Hat, -, Hp⟩
  iapply Hk
  isplitl [HO]; · iexact HO
  isplitl [Hat]; · iexact Hat
  ihave Hp := (Entails.of_eq ((rest_hop D c b true t).trans (show _ = ownsTc c (slot (ring b) t) fullShare (blk D b c (t.val + 1)) from rfl))) $$ Hp
  iexact Hp

/-- Send `t` has left: its source is back. -/
theorem sent_spec (b : Bool) (t : Fin 7) {sp : Space} {s : Shape} {e : EltTy} {src : Memref sig .tc sp s e} {dst : Memref sig .tc .vmem S1024x1024 .bf16}
    {h1 : src.view.WordExact} {h2 : dst.view.WordExact} (hN : dst.view.dmaCredit = N) (Φ : PUnit → sProp 𝕄) :
    iprop(Ctx D K c ∗ cred (tallyAt (cell c (.hop b false t)) () N) ∗ Ow c 0 ∗ atPos ER (cell c (.hop b false t)) 0 ∅ 0)
      ⊢ iprop(((Ow c 0 ∗ atPos ER (cell c (.hop b false t)) 1 ∅ 0 ∗ ownsTc c (srcM b t) fullShare.right (blk D b c t.val)) -∗ Φ ⟨⟩)
          -∗ WP c (.op (.waitDma2 (dsem b false t) src dst h1 h2) .ret) Φ) := by
  iintro H Hk
  iapply (wait_spec D K c (.hop b false t) (k := N) (fun Q => (wpE_waitDma2_eq 𝒱₀ (c : Thread nD τ) none Set.univ Q).trans (by rw [hN])) 0
    (expect_hop D c b false t).symm _ (by rw [MayWait_zero]; iintro -; iempintro)) $$ H
  iintro ⟨HO, Hat, -, Hp⟩
  iapply Hk
  isplitl [HO]; · iexact HO
  isplitl [Hat]; · iexact Hat
  ihave Hp := (Entails.of_eq ((rest_hop D c b false t).trans (show _ = ownsTc c (srcM b t) fullShare.right (blk D b c t.val) from rfl))) $$ Hp
  iexact Hp

/-! ## Parts of K and V -/

abbrev kvCol (b : Bool) (r : Fin 8) : Memref sig .tc .hbm S1024x1024 .bf16 := kvBlk (kvM b) c r

theorem fetch_spec (b : Bool) (r : Fin 8) (X : Vec F S1024x1024 .bf16)
    {hsrc : (kvCol c b r).view.WordExact} {hdst : (kvB b).view.WordExact}
    {hsem : DmaTarget.Typed (nD := nD) (τ := τ) (sig := sig) (p := .tc) .hbm (.dma (kvsem b)) (.here (kvB b))} (Φ : PUnit → sProp 𝕄) :
    iprop(Ctx D K c ∗ ownsTc c (kvCol c b r) fullShare (part D b c r) ∗ ownsTc c (kvB b) fullShare X
        ∗ dutyTok ER (cell c (.kv b)) r.val false ∗ reached ER (cell c (.kv b)) r.val)
      ⊢ iprop((cred (tallyAt (cell c (.kv b)) () N) -∗ Φ ⟨⟩)
          -∗ WP c (.op (.enqueueDma (kvCol c b r) (.here (kvB b)) (.dma (kvsem b)) hsrc hdst hsem) .ret) Φ) := by
  iintro ⟨#Hc, Hs, Hd, Ht, #Hr⟩ Hk
  ihave Hs' := (owns_def c (kvCol c b r) _ _) $$ Hs
  icases Hs' with ⟨%fs, %hfs, Hs⟩
  ihave Hd' := (owns_def c (kvB b) _ _) $$ Hd
  icases Hd' with ⟨%fd, %hfd, Hd⟩
  iapply (Rounds.wp_copy_pointsTo 𝒱₀ ER (rd D) (c : Thread nD τ) none (src := kvCol c b r) (dst := kvB b) (sem := .dma (kvsem b)) (q := fullShare)
      (fs := fs) (fd := fd) (r := r.val) (d := false) (κ := K (cell c (.kv b)))
      (mem_kv D c b r) () N (amt_kvB b _) (amount_cell D c (.kv b) r.val false)
      (by
        refine BI.Entails.trans ?_ (Entails.of_eq (pay_kv D c b r false).symm)
        unfold kvPay; rw [← hfs]
        have e : (kvB b).view.read (Elt F) ((kvB b).view.write (Elt F) fd ((kvCol c b r).view.read (Elt F) fs) Finset.univ)
            = (kvCol c b r).view.read (Elt F) fs := View.read_write_univ ..
        refine Idealize.SL.BI.sep_mono ?_ (owns_intro (c : Thread nD τ) (kvCol c b r) fullShare fs)
        exact (owns_intro (c : Thread nD τ) (kvB b) fullShare _).trans (Entails.of_eq (congrArg (ownsTc c (kvB b) fullShare) e)))) $$ [Hs Hd Ht]
  · isplitr; · iapply (ctx_inv D K c c (.kv b)); iexact Hc
    isplitl [Hs]; · iexact Hs
    isplitl [Hd]; · iexact Hd
    isplitl [Ht]; · iexact Ht
    iexact Hr
  iintro Hcr
  rw [wp_ret]
  imodintro
  iapply Hk
  iexact Hcr

theorem fetched_spec (b : Bool) (r : Fin 8) {sp : Space} {s : Shape} {e : EltTy} {src : Memref sig .tc sp s e} {dst : Memref sig .tc .vmem S1024x1024 .bf16}
    {h1 : src.view.WordExact} {h2 : dst.view.WordExact} (hN : dst.view.dmaCredit = N) (n n' : ℕ) (Φ : PUnit → sProp 𝕄) :
    iprop(Ctx D K c ∗ cred (tallyAt (cell c (.kv b)) () N) ∗ Ow c (owR false c n + owR true c n') ∗ atPos ER (cell c (.kv b)) r.val ∅ 0)
      ⊢ iprop(((Ow c (owR false c n + owR true c n') ∗ atPos ER (cell c (.kv b)) (r.val + 1) ∅ 0 ∗ reached ER (cell c (.kv b)) (r.val + 1) ∗ kvPay D b r c) -∗ Φ ⟨⟩)
          -∗ WP c (.op (.waitDma2 (kvsem b) src dst h1 h2) .ret) Φ) := by
  iintro H Hk
  iapply (wait_spec D K c (.kv b) (k := N) (fun Q => (wpE_waitDma2_eq 𝒱₀ (c : Thread nD τ) none Set.univ Q).trans (by rw [hN])) r.val
    (expect_kv D c b r).symm _ (mayWait c _ n n' (by show 0 < _; omega) (by show 0 < _; omega))) $$ H
  iintro ⟨HO, Hat, Hr, Hp⟩
  iapply Hk
  isplitl [HO]; · iexact HO
  isplitl [Hat]; · iexact Hat
  isplitl [Hr]; · iexact Hr
  ihave Hp := (Entails.of_eq (rest_kv D c b r)) $$ Hp
  iexact Hp

/-! ## The barrier -/

theorem barPay_own (b : Bool) : barPay (F := F) b (nbr (!b) c)
    = bigSep Finset.univ fun t : Fin 7 => iprop((∃ X, ownsTc c (slot (ring b) t) fullShare X) ∗ reached ER (cell c (.hop b true t)) 0) := by
  unfold barPay; rw [nbr_nbr]

/-- The slots of ring `b` of this device, any contents. -/
def slots (b : Bool) : sProp 𝕄 := bigSep Finset.univ fun t : Fin 7 => iprop(∃ X, ownsTc c (slot (ring b) t) fullShare X)

theorem barPay_give (b : Bool) : iprop(Ctx D K c ∗ slots c b) ⊢ barPay b (nbr (!b) c) := by
  rw [barPay_own]
  unfold slots
  iintro ⟨#Hc, H⟩
  iapply (bigSep_with_persistent (R := Ctx D K c) (S := Finset.univ) (Φ := fun t : Fin 7 => iprop(∃ X, ownsTc c (slot (ring b) t) fullShare X))
    (Ψ := fun t : Fin 7 => iprop((∃ X, ownsTc c (slot (ring b) t) fullShare X) ∗ reached ER (cell c (.hop b true t)) 0)) (fun t _ => by
      iintro ⟨#Hc, H⟩
      isplitl [H]; · iexact H
      iapply (ctx_own D K c (.hop b true t)); iexact Hc))
  isplitr; · iexact Hc
  iexact H

/-- One unit to the neighbour that sends on side `b`, with this device's slots. -/
theorem signal_spec (b : Bool) (O₁ O : CellTallies nD τ sig Unit) (hO : O₁ = O + tallyAt (cell (nbr (!b) c) .bar) () 1) (Φ : PUnit → sProp 𝕄) :
    iprop(Ctx D K c ∗ slots c b ∗ dutyTok ER (cell (nbr (!b) c) .bar) 0 b ∗ Ow c O₁)
      ⊢ iprop((Ow c O -∗ Φ ⟨⟩) -∗ WP c (semSignalWord (nbr (!b) c) barS 1#32) Φ) := by
  unfold Ow
  iintro ⟨#Hc, Hs, Ht, ⟨%W, HO⟩⟩ Hk
  unfold WP
  rw [show (semSignalWord (nbr (!b) c) barS 1#32 : Pg F PUnit) = .op (.semSignal (nbr (!b) c : Thread nD τ) barS 1) .ret from rfl]
  iapply (Rounds.wp_signal 𝒱₀ ER (rd D) (c : Thread nD τ) none (dst := (nbr (!b) c : Thread nD τ)) (sem := barS) (r := 0) (d := b)
      (κ := K (cell (nbr (!b) c) .bar)) (mem_bar D (nbr (!b) c) b) (amount_cell D (nbr (!b) c) .bar 0 b) () O hO (W := W)) $$ [Hs Ht HO]
  · isplitr; · iapply (ctx_inv D K c (nbr (!b) c) .bar); iexact Hc
    isplitl [HO]; · iexact HO
    isplitl [Ht]; · iexact Ht
    isplitl [Hs]
    · iapply (Entails.of_eq ((payload_cell D (nbr (!b) c) .bar 0 b).trans (show _ = barPay b (nbr (!b) c) from rfl)).symm)
      iapply (barPay_give D K c b)
      isplitr; · iexact Hc
      iexact Hs
    · iapply (ctx_bar D K c (nbr (!b) c)); iexact Hc
  iintro HO
  rw [wp_ret]
  imodintro
  iapply Hk
  iexists W; iexact HO

/-- The barrier: this device's slots out, the neighbours' in. -/
theorem barrier_spec (Φ : PUnit → sProp 𝕄) :
    iprop(Ctx D K c ∗ slots c false ∗ slots c true ∗ dutyTok ER (cell (nbr true c) .bar) 0 false ∗ dutyTok ER (cell (nbr false c) .bar) 0 true
        ∗ cred (tallyAt (cell c .bar) () 2) ∗ atPos ER (cell c .bar) 0 ∅ 0 ∗ Ow c (O₀ c))
      ⊢ iprop(((barPay false c ∗ barPay true c ∗ atPos ER (cell c .bar) 1 ∅ 0 ∗ Ow c (owR false c 0 + owR true c 0)) -∗ Φ ⟨⟩)
          -∗ WP c (barrierStage c) Φ) := by
  iintro ⟨#Hc, Hq, Ho, Ht, Ht', Hcr, Hat, HO⟩ Hk
  unfold barrierStage
  rw [show (⟨k0_dev1 c, k0_dev1_lt c⟩ : Dev nD) = nbr true c from Fin.ext (k0_dev1_eq c),
    show (⟨k0_dev2 c, k0_dev2_lt c⟩ : Dev nD) = nbr false c from Fin.ext (k0_dev2_eq c)]
  unfold WP
  rw [wp_bind]
  iapply (signal_spec D K c false (O₀ c) _ rfl) $$ [Hq Ht HO]
  · isplitr; · iexact Hc
    isplitl [Hq]; · iexact Hq
    isplitl [Ht]; · iexact Ht
    iexact HO
  iintro HO
  rw [wp_bind]
  iapply (signal_spec D K c true _ _ rfl) $$ [Ho Ht' HO]
  · isplitr; · iexact Hc
    isplitl [Ho]; · iexact Ho
    isplitl [Ht']; · iexact Ht'
    iexact HO
  iintro HO
  iapply (wait_spec D K c .bar (k := 2) (wpE_semWait_eq 𝒱₀ (c : Thread nD τ) none Set.univ) 0 (expect_bar D c).symm
    (owR false c 0 + owR true c 0) (mayWait c .bar 0 0 (by decide) (by decide))) $$ [Hcr Hat HO]
  · isplitr; · iexact Hc
    isplitl [Hcr]; · iexact Hcr
    isplitl [HO]; · iexact HO
    iexact Hat
  iintro ⟨HO, Hat, -, Hp⟩
  ihave Hp := (Entails.of_eq (rest_bar D c)) $$ Hp
  icases Hp with ⟨Hp, Hp'⟩
  iapply Hk
  isplitl [Hp]; · iexact Hp
  isplitl [Hp']; · iexact Hp'
  isplitl [Hat]; · iexact Hat
  iexact HO

end

end Cert.KernelIdeal.Att
-- ==== Proof.Rings.lean ====
/- The two rings and the fetched parts as they stand between the stages, and the stages that move them. -/
module

public import proofs.«01_k».proof.Proof.Comm

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

/-! ## Hops done and to do -/

/-- The hops, or rounds, before the `n`-th, and from it on. -/
def lo {k : ℕ} (n : ℕ) : Finset (Fin k) := Finset.univ.filter fun t => t.val < n
def hi {k : ℕ} (n : ℕ) : Finset (Fin k) := Finset.univ.filter fun t => n ≤ t.val

theorem hi_step {k : ℕ} (t : Fin k) (Φ : Fin k → sProp 𝕄) : bigSep (hi t.val) Φ = iprop(Φ t ∗ bigSep (hi (t.val + 1)) Φ) := by
  rw [show (hi t.val : Finset (Fin k)) = insert t (hi (t.val + 1)) from by
    ext s; simp only [hi, Finset.mem_filter, Finset.mem_univ, true_and, Finset.mem_insert, Fin.ext_iff]; omega]
  exact bigSep_insert (by simp [hi])
theorem lo_step {k : ℕ} (t : Fin k) (Φ : Fin k → sProp 𝕄) : bigSep (lo (t.val + 1)) Φ = iprop(Φ t ∗ bigSep (lo t.val) Φ) := by
  rw [show (lo (t.val + 1) : Finset (Fin k)) = insert t (lo t.val) from by
    ext s; simp only [lo, Finset.mem_filter, Finset.mem_univ, true_and, Finset.mem_insert, Fin.ext_iff]; omega]
  exact bigSep_insert (by simp [lo])
theorem lo_at {k : ℕ} (n : ℕ) (t : Fin k) (h : t.val < n) (Φ : Fin k → sProp 𝕄) : (bigSep (lo n) Φ : sProp 𝕄) ⊢ iprop(Φ t ∗ (Φ t -∗ bigSep (lo n) Φ)) := by
  have ht : t ∈ (lo n : Finset (Fin k)) := by simp [lo, h]
  rw [show bigSep (lo n) Φ = iprop(Φ t ∗ bigSep ((lo n).erase t) Φ) from bigSep_erase ht]
  iintro ⟨H, H'⟩
  isplitl [H]; · iexact H
  iintro H
  isplitl [H]; · iexact H
  iexact H'
theorem lo_zero {k : ℕ} : (lo 0 : Finset (Fin k)) = ∅ := by simp [lo]
theorem hi_zero {k : ℕ} : (hi 0 : Finset (Fin k)) = Finset.univ := by simp [hi]
theorem lo_all {k : ℕ} : (lo k : Finset (Fin k)) = Finset.univ := by simp [lo]
theorem hi_all {k : ℕ} : (hi k : Finset (Fin k)) = ∅ := by simp [hi]

section
variable (D : Data F) (K : GSem nD τ sig → ℕ) (c : Dev nD)

/-- Ring `b` after `n` sends and `m` landings. -/
def Ring (b : Bool) (n m : ℕ) : sProp 𝕄 :=
  iprop(bigSep (hi n) (fun t => Tok c b t)
    ∗ bigSep (lo n) (fun t : Fin 7 => cred (tallyAt (cell c (.hop b false t)) () N))
    ∗ bigSep (hi m) (fun t : Fin 7 => iprop(cred (tallyAt (cell c (.hop b true t)) () N) ∗ atPos ER (cell c (.hop b true t)) 0 ∅ 0))
    ∗ bigSep (lo m) (fun t : Fin 7 => iprop(ownsTc c (slot (ring b) t) fullShare.left (blk D b c (t.val + 1)) ∗ atPos ER (cell c (.hop b true t)) 1 ∅ 0)))

/-- Both rings, and what is owed. -/
def Hops (n m : ℕ) : sProp 𝕄 := iprop(Ring D c false n m ∗ Ring D c true n m ∗ Ow c (owR false c n + owR true c n))

theorem ring_send (b : Bool) (t : Fin 7) (m : ℕ)
    {hsrc : (srcM b t).view.WordExact} {hdst : (slot (ring b) t).view.WordExact} {hsc : (slot (ring b) t).view.ref.isScScratch = false}
    {hsem : DmaTarget.Typed (nD := nD) (τ := τ) (sig := sig) (p := .tc) .vmem (.dma (dsem b true t)) (.remote (Dev.tc (nbr b c)) (slot (ring b) t) (.dma (dsem b false t)) hsc)}
    (O₁ O : CellTallies nD τ sig Unit) (hO : O₁ = O + tallyAt (cell (nbr b c) (.hop b true t)) () N) (Φ : PUnit → sProp 𝕄) :
    iprop(Ctx D K c ∗ Ring D c b t.val m ∗ ownsTc c (srcM b t) fullShare.right (blk D b c t.val) ∗ Ow c O₁)
      ⊢ iprop(((Ring D c b (t.val + 1) m ∗ Ow c O) -∗ Φ ⟨⟩)
          -∗ WP c (.op (.enqueueDma (srcM b t) (.remote (Dev.tc (nbr b c)) (slot (ring b) t) (.dma (dsem b false t)) hsc) (.dma (dsem b true t)) hsrc hdst hsem) .ret) Φ) := by
  unfold Ring
  rw [hi_step t, lo_step t]
  iintro ⟨#Hc, ⟨⟨Ht, Hts⟩, Hcr, Hr⟩, Hb, HO⟩ Hk
  iapply (send_spec D K c b t O₁ O hO) $$ [Ht Hb HO]
  · isplitr; · iexact Hc
    isplitl [Ht]; · iexact Ht
    isplitl [Hb]; · iexact Hb
    iexact HO
  iintro ⟨Hc1, HO⟩
  iapply Hk
  isplitr [HO]
  · isplitl [Hts]; · iexact Hts
    isplitl [Hcr Hc1]
    · isplitl [Hc1]; · iexact Hc1
      iexact Hcr
    iexact Hr
  iexact HO

theorem ring_recv (b : Bool) (t : Fin 7) (n n' n'' : ℕ) {sp : Space} {s : Shape} {e : EltTy} {src : Memref sig .tc sp s e} {dst : Memref sig .tc .vmem S1024x1024 .bf16}
    {h1 : src.view.WordExact} {h2 : dst.view.WordExact} (hn : t.val < n') (hn' : t.val < n'') (hN : dst.view.dmaCredit = N) (Φ : PUnit → sProp 𝕄) :
    iprop(Ctx D K c ∗ Ring D c b n t.val ∗ Ow c (owR false c n' + owR true c n''))
      ⊢ iprop(((Ring D c b n (t.val + 1) ∗ ownsTc c (slot (ring b) t) fullShare.right (blk D b c (t.val + 1)) ∗ Ow c (owR false c n' + owR true c n'')) -∗ Φ ⟨⟩)
          -∗ WP c (.op (.waitDma2 (dsem b true t) src dst h1 h2) .ret) Φ) := by
  unfold Ring
  rw [hi_step t, lo_step t]
  iintro ⟨#Hc, ⟨Ht, Hcr, ⟨⟨Hc1, Hat⟩, Hr⟩, Hl⟩, HO⟩ Hk
  iapply (recv_spec D K c b t n' n'' hn hn' (hN := hN)) $$ [Hc1 Hat HO]
  · isplitr; · iexact Hc
    isplitl [Hc1]; · iexact Hc1
    isplitl [HO]; · iexact HO
    iexact Hat
  iintro ⟨HO, Hat, Hs⟩
  ihave Hs' := (owns_split c (slot (ring b) t) _) $$ Hs
  icases Hs' with ⟨Hs, Hs'⟩
  iapply Hk
  isplitr [HO Hs']
  · isplitl [Ht]; · iexact Ht
    isplitl [Hcr]; · iexact Hcr
    isplitl [Hr]; · iexact Hr
    isplitr [Hl]
    · isplitl [Hs]; · iexact Hs
      iexact Hat
    iexact Hl
  isplitl [Hs']; · iexact Hs'
  iexact HO

/-- A landed block is read. -/
theorem ring_read (b : Bool) (t : Fin 7) (n m : ℕ) (h : t.val < m) (Φ : Vec F S1024x1024 .bf16 → sProp 𝕄) :
    (Ring D c b n m : sProp 𝕄) ⊢ iprop((Ring D c b n m -∗ Φ (blk D b c (t.val + 1))) -∗ WP c (loadSlot (ring b) t) Φ) := by
  iintro H Hk
  unfold Ring
  icases H with ⟨Ht, Hcr, Hr, Hl⟩
  ihave Hl' := (lo_at m t h _) $$ Hl
  icases Hl' with ⟨⟨Hs, Hat⟩, Hl⟩
  iapply (loadSlot_spec c (ring b) t fullShare.left _) $$ [Hs]
  · iexact Hs
  iintro Hs
  iapply Hk
  isplitl [Ht]; · iexact Ht
  isplitl [Hcr]; · iexact Hcr
  isplitl [Hr]; · iexact Hr
  iapply Hl
  isplitl [Hs]; · iexact Hs
  iexact Hat

/-! ## The stages of the rings -/

theorem owed_hop (t : Fin 7) (n : ℕ) : owR false c t.val + owR true c n
    = (owR false c (t.val + 1) + owR true c n) + tallyAt (cell (nbr false c) (.hop false true t)) () N := by
  rw [owR_step false c t]; exact add_right_comm _ _ _
theorem owed_hop' (t : Fin 7) (n : ℕ) : owR false c n + owR true c t.val
    = (owR false c n + owR true c (t.val + 1)) + tallyAt (cell (nbr true c) (.hop true true t)) () N := by
  rw [owR_step true c t]; exact (add_assoc _ _ _).symm

theorem firstHops_spec (dq dO : Dev nD) (hq : dq = nbr false c) (hO : dO = nbr true c) (Φ : PUnit → sProp 𝕄) :
    iprop(Ctx D K c ∗ Hops D c 0 0 ∗ ownsTc c (own false) fullShare.right (D.w false c) ∗ ownsTc c (own true) fullShare.right (D.w true c))
      ⊢ iprop((Hops D c 1 0 -∗ Φ ⟨⟩) -∗ WP c (firstHops K0 dq dO) Φ) := by
  subst hq; subst hO
  unfold Hops
  iintro ⟨#Hc, ⟨Hq, Ho, HO⟩, Hb, Hb'⟩ Hk
  unfold firstHops WP
  rw [wp_bind]
  iapply (ring_send D K c false 0 0 _ _ (owed_hop c 0 0)) $$ [Hq Hb HO]
  · isplitr; · iexact Hc
    isplitl [Hq]; · iexact Hq
    isplitl [Hb]; · iexact Hb
    iexact HO
  iintro ⟨Hq, HO⟩
  iapply (ring_send D K c true 0 0 _ _ (owed_hop' c 0 1)) $$ [Ho Hb' HO]
  · isplitr; · iexact Hc
    isplitl [Ho]; · iexact Ho
    isplitl [Hb']; · iexact Hb'
    iexact HO
  iintro ⟨Ho, HO⟩
  iapply Hk
  isplitl [Hq]; · iexact Hq
  isplitl [Ho]; · iexact Ho
  iexact HO

theorem recvWait_spec (t : Fin 7) (n : ℕ) (hn : t.val < n) (Φ : PUnit → sProp 𝕄) :
    iprop(Ctx D K c ∗ Hops D c n t.val)
      ⊢ iprop(((Hops D c n (t.val + 1) ∗ ownsTc c (slot (ring false) t) fullShare.right (blk D false c (t.val + 1))
          ∗ ownsTc c (slot (ring true) t) fullShare.right (blk D true c (t.val + 1))) -∗ Φ ⟨⟩) -∗ WP c (recvWait K0 t) Φ) := by
  unfold Hops
  iintro ⟨#Hc, ⟨Hq, Ho, HO⟩⟩ Hk
  unfold recvWait WP
  rw [wp_bind]
  iapply (ring_recv D K c false t n n n hn hn (amt_slot false t (dsem false true t))) $$ [Hq HO]
  · isplitr; · iexact Hc
    isplitl [Hq]; · iexact Hq
    iexact HO
  iintro ⟨Hq, Hr, HO⟩
  iapply (ring_recv D K c true t n n n hn hn (amt_slot true t (dsem true true t))) $$ [Ho HO]
  · isplitr; · iexact Hc
    isplitl [Ho]; · iexact Ho
    iexact HO
  iintro ⟨Ho, Hr', HO⟩
  iapply Hk
  isplitr [Hr Hr']
  · isplitl [Hq]; · iexact Hq
    isplitl [Ho]; · iexact Ho
    iexact HO
  isplitl [Hr]; · iexact Hr
  iexact Hr'

theorem hopOn_spec (i : Fin 6) (s t : Fin 7) (hs : s = i.castSucc) (ht : t = i.succ) (dq dO : Dev nD) (hq : dq = nbr false c) (hO : dO = nbr true c)
    (Φ : PUnit → sProp 𝕄) :
    iprop(Ctx D K c ∗ Hops D c (i.val + 1) i.val)
      ⊢ iprop((Hops D c (i.val + 2) (i.val + 1) -∗ Φ ⟨⟩) -∗ WP c (hopOn K0 s t dq dO) Φ) := by
  subst hs; subst ht; subst hq; subst hO
  iintro ⟨#Hc, H⟩ Hk
  unfold hopOn WP
  rw [wp_bind]
  iapply (recvWait_spec D K c i.castSucc (i.val + 1) (Nat.lt_succ_self _)) $$ [H]
  · isplitr; · iexact Hc
    iexact H
  iintro ⟨H, Hb, Hb'⟩
  unfold Hops
  icases H with ⟨Hq, Ho, HO⟩
  rw [wp_bind]
  iapply (ring_send D K c false i.succ (i.val + 1) _ _ (owed_hop c i.succ (i.val + 1))) $$ [Hq Hb HO]
  · isplitr; · iexact Hc
    isplitl [Hq]; · iexact Hq
    isplitl [Hb]; · iexact Hb
    iexact HO
  iintro ⟨Hq, HO⟩
  iapply (ring_send D K c true i.succ (i.val + 1) _ _ (owed_hop' c i.succ (i.val + 2))) $$ [Ho Hb' HO]
  · isplitr; · iexact Hc
    isplitl [Ho]; · iexact Ho
    isplitl [Hb']; · iexact Hb'
    iexact HO
  iintro ⟨Ho, HO⟩
  iapply Hk
  isplitl [Hq]; · iexact Hq
  isplitl [Ho]; · iexact Ho
  iexact HO

/-! ## Parts of K and V -/

/-- The tokens of the fetches from round `r` on. -/
def toks (b : Bool) (r : ℕ) : sProp 𝕄 := bigSep (hi r) (fun s : Fin 8 => dutyTok ER (cell c (.kv b)) s.val false)

/-- Before fetch `r`: the buffer holds `X`. -/
def KV (b : Bool) (r : ℕ) (X : Vec F S1024x1024 .bf16) : sProp 𝕄 :=
  iprop(atPos ER (cell c (.kv b)) r ∅ 0 ∗ reached ER (cell c (.kv b)) r ∗ toks c b r
    ∗ ownsTc c (kvM b) fullShare (D.kv b c) ∗ ownsTc c (kvB b) fullShare X)

/-- Fetch `r` under way. -/
def KVfly (b : Bool) (r : Fin 8) : sProp 𝕄 :=
  iprop(atPos ER (cell c (.kv b)) r.val ∅ 0 ∗ cred (tallyAt (cell c (.kv b)) () N) ∗ toks c b (r.val + 1)
    ∗ ∃ f, ⌜(kvM b).view.read (Elt F) f = D.kv b c⌝ ∗ ((kvM b).view.loc (c : Thread nD τ) ↦[(kvM b).view.set \ (kvCol c b r).view.set]{fullShare} f))

theorem kv_start (b : Bool) (r : Fin 8) (X : Vec F S1024x1024 .bf16)
    {hsrc : (kvCol c b r).view.WordExact} {hdst : (kvB b).view.WordExact}
    {hsem : DmaTarget.Typed (nD := nD) (τ := τ) (sig := sig) (p := .tc) .hbm (.dma (kvsem b)) (.here (kvB b))} (Φ : PUnit → sProp 𝕄) :
    iprop(Ctx D K c ∗ KV D c b r.val X)
      ⊢ iprop((KVfly D c b r -∗ Φ ⟨⟩)
          -∗ WP c (.op (.enqueueDma (kvCol c b r) (.here (kvB b)) (.dma (kvsem b)) hsrc hdst hsem) .ret) Φ) := by
  unfold KV KVfly toks
  rw [hi_step r]
  iintro ⟨#Hc, Hat, Hr, ⟨Ht, Hts⟩, HM, HB⟩ Hk
  ihave HM' := (owns_slice_split (c : Thread nD τ) (kvM b) fullShare (kvR c r) (fun _ => rfl) (D.kv b c)) $$ HM
  icases HM' with ⟨Hs, Hrest⟩
  iapply (fetch_spec D K c b r X) $$ [Hs HB Ht Hr]
  · isplitr; · iexact Hc
    isplitl [Hs]; · iexact Hs
    isplitl [HB]; · iexact HB
    isplitl [Ht]; · iexact Ht
    iexact Hr
  iintro Hcr
  iapply Hk
  isplitl [Hat]; · iexact Hat
  isplitl [Hcr]; · iexact Hcr
  isplitl [Hts]; · iexact Hts
  iexact Hrest

theorem kv_wait (b : Bool) (r : Fin 8) {sp : Space} {s : Shape} {e : EltTy} {src : Memref sig .tc sp s e} {dst : Memref sig .tc .vmem S1024x1024 .bf16}
    {h1 : src.view.WordExact} {h2 : dst.view.WordExact} (hN : dst.view.dmaCredit = N) (n n' : ℕ) (Φ : PUnit → sProp 𝕄) :
    iprop(Ctx D K c ∗ KVfly D c b r ∗ Ow c (owR false c n + owR true c n'))
      ⊢ iprop(((KV D c b (r.val + 1) (part D b c r) ∗ Ow c (owR false c n + owR true c n')) -∗ Φ ⟨⟩)
          -∗ WP c (.op (.waitDma2 (kvsem b) src dst h1 h2) .ret) Φ) := by
  unfold KV KVfly
  iintro ⟨#Hc, ⟨Hat, Hcr, Hts, ⟨%f, %hf, Hrest⟩⟩, HO⟩ Hk
  iapply (fetched_spec D K c b r hN n n') $$ [Hat Hcr HO]
  · isplitr; · iexact Hc
    isplitl [Hcr]; · iexact Hcr
    isplitl [HO]; · iexact HO
    iexact Hat
  iintro ⟨HO, Hat, Hr, Hp⟩
  unfold kvPay
  icases Hp with ⟨HB, Hs⟩
  iapply Hk
  isplitr [HO]
  · isplitl [Hat]; · iexact Hat
    isplitl [Hr]; · iexact Hr
    isplitl [Hts]; · iexact Hts
    isplitr [HB]
    · have e : (kvR c r).overlay ((kvM b).view.read (Elt F) f) (part D b c r) = D.kv b c := by
        rw [hf]
        funext i
        by_cases hi : i ∈ (kvR c r).set
        · obtain ⟨j, rfl⟩ : ∃ j, (kvR c r).emb j = i := (kvR c r).exists_idx_of_mem hi
          rw [Rect.overlay_emb]; rfl
        · exact Rect.overlay_of_not_mem _ _ _ hi
      iapply (Entails.of_eq (congrArg (ownsTc c (kvM b) fullShare) e))
      iapply (owns_slice_join (c : Thread nD τ) (kvM b) fullShare (kvR c r) (fun _ => rfl) (part D b c r) f)
      isplitl [Hs]; · iexact Hs
      iexact Hrest
    · iexact HB
  iexact HO

/-- Both, before fetch `r` and during it. -/
def KVs (r : ℕ) (X Y : Vec F S1024x1024 .bf16) : sProp 𝕄 := iprop(KV D c false r X ∗ KV D c true r Y)
def Fly (r : Fin 8) : sProp 𝕄 := iprop(KVfly D c false r ∗ KVfly D c true r)

theorem kvStart_spec (r : Fin 8) (X Y : Vec F S1024x1024 .bf16) (Φ : PUnit → sProp 𝕄) :
    iprop(Ctx D K c ∗ KVs D c r.val X Y) ⊢ iprop((Fly D c r -∗ Φ ⟨⟩) -∗ WP c (kvStart K0 c r) Φ) := by
  unfold KVs Fly
  iintro ⟨#Hc, Hk, Hv⟩ HK
  unfold kvStart WP
  rw [wp_bind]
  iapply (kv_start D K c false r X) $$ [Hk]
  · isplitr; · iexact Hc
    iexact Hk
  iintro Hk
  iapply (kv_start D K c true r Y) $$ [Hv]
  · isplitr; · iexact Hc
    iexact Hv
  iintro Hv
  iapply HK
  isplitl [Hk]; · iexact Hk
  iexact Hv

theorem kvWait_spec (r : Fin 8) (n m : ℕ) (Φ : PUnit → sProp 𝕄) :
    iprop(Ctx D K c ∗ Fly D c r ∗ Hops D c n m)
      ⊢ iprop(((KVs D c (r.val + 1) (part D false c r) (part D true c r) ∗ Hops D c n m) -∗ Φ ⟨⟩) -∗ WP c (kvWait K0 c r) Φ) := by
  unfold KVs Fly Hops
  iintro ⟨#Hc, ⟨Hk, Hv⟩, Hq, Ho, HO⟩ HK
  unfold kvWait WP
  rw [wp_bind]
  iapply (kv_wait D K c false r (amt_kvB false (kvsem false)) n n) $$ [Hk HO]
  · isplitr; · iexact Hc
    isplitl [Hk]; · iexact Hk
    iexact HO
  iintro ⟨Hk, HO⟩
  iapply (kv_wait D K c true r (amt_kvB true (kvsem true)) n n) $$ [Hv HO]
  · isplitr; · iexact Hc
    isplitl [Hv]; · iexact Hv
    iexact HO
  iintro ⟨Hv, HO⟩
  iapply HK
  isplitl [Hk Hv]
  · isplitl [Hk]; · iexact Hk
    iexact Hv
  isplitl [Hq]; · iexact Hq
  isplitl [Ho]; · iexact Ho
  iexact HO

end

end Cert.KernelIdeal.Att
-- ==== Proof.Body.lean ====
/- The body on one device: the stages in order. -/
module

public import proofs.«01_k».proof.Proof.Rings

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

section
variable (D : Data F) (K : GSem nD τ sig → ℕ) (c : Dev nD)

theorem joinAll {I : Type} {s : Finset I} {Φ Ψ : I → sProp 𝕄} : iprop(bigSep s Φ ∗ bigSep s Ψ) ⊢ (bigSep s fun i => iprop(Φ i ∗ Ψ i) : sProp 𝕄) :=
  Entails.of_eq (bigSep_sep' s Φ Ψ).symm
theorem partAll {I : Type} {s : Finset I} {Φ Ψ : I → sProp 𝕄} : (bigSep s fun i => iprop(Φ i ∗ Ψ i) : sProp 𝕄) ⊢ iprop(bigSep s Φ ∗ bigSep s Ψ) :=
  Entails.of_eq (bigSep_sep' s Φ Ψ)
theorem monoAll {I : Type} {s : Finset I} {Φ Ψ : I → sProp 𝕄} (h : ∀ i ∈ s, Φ i ⊢ Ψ i) : (bigSep s Φ : sProp 𝕄) ⊢ bigSep s Ψ := bigSep_mono h

/-- A block held whole is read. -/
theorem loadW_spec (m : Memref sig .tc .vmem S1024x1024 .bf16) (q : PosShare TreeShare)
    (X : Vec F S1024x1024 .bf16) (Φ : Vec F S1024x1024 .bf16 → sProp 𝕄) :
    (ownsTc c m q X : sProp 𝕄) ⊢ iprop((ownsTc c m q X -∗ Φ X) -∗ WP c (loadW m) Φ) := by
  iintro H Hk
  ihave H' := (owns_def c m q X) $$ H
  icases H' with ⟨%f, %hf, H⟩
  unfold loadW WP
  rw [wp_bind, lift_eq]
  iapply (wp_load 𝒱₀ (c : Thread nD τ) none Set.univ (m := m)
    (r := (Rect.unit (s := S1024x1024) ![0, 0] S1024x1024.size inb_S1024x1024_S1024x1024_0_0).toLoadRect)
    (S := m.view.set) (q := q) (f := f) (View.setOn_subset_set _ _)) $$ [H]
  · iexact H
  iintro H
  rw [wp_ret]
  imodintro
  have e : (shapeCast S1024x1024 (m.view.readAt (Elt F)
      (Rect.unit (s := S1024x1024) ![0, 0] S1024x1024.size inb_S1024x1024_S1024x1024_0_0).toLoadRect f) shapeCasts_S1024x1024_S1024x1024) = X := by
    funext j
    rw [← hf]
    show m.view.read (Elt F) f (Rect.emb _ (Shape.reshapeEquiv _ j)) = m.view.read (Elt F) f j
    rw [Shape.reshapeEquiv_self]
    refine congrArg _ ?_
    funext a; apply Fin.ext; rw [Rect.emb_apply]
    fin_cases a
    · show 0 + 1 * (j 0).val = (j 0).val; omega
    · show 0 + 1 * (j 1).val = (j 1).val; omega
  rw [show (pure (shapeCast S1024x1024 (m.view.readAt (Elt F)
      (Rect.unit (s := S1024x1024) ![0, 0] S1024x1024.size inb_S1024x1024_S1024x1024_0_0).toLoadRect f) shapeCasts_S1024x1024_S1024x1024)
      : Pg F (Vec F S1024x1024 .bf16)) = .ret X from congrArg _ e]
  rw [wp_ret]
  imodintro
  iapply Hk
  rw [← hf]
  iapply (owns_intro (c : Thread nD τ) m q f)
  iexact H

/-- The contexts of part `r` with the block of Wq that came from device `g`. -/
def Cx (r : Fin 8) (g : Dev nD) : Vec F S1024x1024 .bf16 :=
  ctxMat (qMat (D.x c) (D.w false g)) (part D false c r) biasMat (part D true c r)

/-- What the parts read besides: the queries' rows, the mask; and the buffer of the queries. -/
def Base : sProp 𝕄 :=
  iprop(ownsTc c K0.x fullShare (D.x c) ∗ ownsTc c K0.bias fullShare biasMat ∗ ∃ X, ownsTc c K0.q fullShare X)

/-- A part's heads turn `I` into `I'` of the part's queries, keys, values. -/
def HeadsIn (p : Pg F PUnit) (I : sProp 𝕄) (I' : Vec F S1024x1024 .bf16 → sProp 𝕄) : Prop :=
  ∀ (q k : Vec F S1024x1024 .bf16) (m : Vec F S4x256x512 .bf16) (v : Vec F S1024x1024 .bf16) (Φ : PUnit → sProp 𝕄),
    iprop(Hd c K0 q k m v ∗ I) ⊢ iprop(((Hd c K0 q k m v ∗ I' (ctxMat q k m v)) -∗ Φ ⟨⟩) -∗ WP c p Φ)

theorem headsIn_ctx {p : Pg F PUnit} (h : ∀ q k m v, HeadsSpec c K0 q k m v p) (X : Vec F S1024x1024 .bf16) :
    HeadsIn c p (ownsTc c K0.ctx fullShare X) (fun C => ownsTc c K0.ctx fullShare C) := fun q k m v Φ => h q k m v X Φ
theorem headsIn_st (s : Fin 2) {p : Pg F PUnit} (h : ∀ q k m v, HeadsStSpec c K0 q k m v s p) (X : Vec F S2x1024x1024 .bf16) :
    HeadsIn c p (ownsTc c K0.st fullShare X) (fun C => ownsTc c K0.st fullShare (upd (fun i => i 0 = s) (atStash C) X)) := fun q k m v Φ => h q k m v X Φ

/-- Queries and heads of part `r`, its keys and values having been sent for. -/
theorem heads_spec (wq : Vec F S1024x1024 .bf16) (r : Fin 8) (p : Pg F PUnit) (I : sProp 𝕄) (I' : Vec F S1024x1024 .bf16 → sProp 𝕄)
    (h : HeadsIn c p I I') (n m : ℕ) (Φ : PUnit → sProp 𝕄) :
    iprop(Ctx D K c ∗ Hops D c n m ∗ Fly D c r ∗ Base D c ∗ I)
      ⊢ iprop(((Hops D c n m ∗ KVs D c (r.val + 1) (part D false c r) (part D true c r) ∗ Base D c
            ∗ I' (ctxMat (qMat (D.x c) wq) (part D false c r) biasMat (part D true c r))) -∗ Φ ⟨⟩)
          -∗ WP c (do kvWait K0 c r; qStage K0 wq; p) Φ) := by
  unfold Base
  iintro ⟨#Hc, HH, Hf, ⟨Hx, Hbias, ⟨%X, Hq⟩⟩, HI⟩ Hk
  unfold WP
  rw [wp_bind]
  iapply (kvWait_spec D K c r n m) $$ [Hf HH]
  · isplitr; · iexact Hc
    isplitl [Hf]; · iexact Hf
    iexact HH
  iintro ⟨HKV, HH⟩
  rw [wp_bind]
  iapply (qStage_spec c K0 fullShare (D.x c) wq X) $$ [Hx Hq]
  · isplitl [Hx]; · iexact Hx
    iexact Hq
  iintro ⟨Hx, Hq⟩
  unfold KVs KV
  icases HKV with ⟨⟨Hk1, Hk2, Hk3, Hk4, HKb⟩, Hv1, Hv2, Hv3, Hv4, HVb⟩
  iapply (h (qMat (D.x c) wq) (part D false c r) biasMat (part D true c r)) $$ [Hq HKb Hbias HVb HI]
  · unfold Hd
    isplitr [HI]
    · isplitl [Hq]; · iexact Hq
      isplitl [HKb]; · iexact HKb
      isplitl [Hbias]; · iexact Hbias
      iexact HVb
    iexact HI
  unfold Hd
  iintro ⟨⟨Hq, HKb, Hbias, HVb⟩, HI⟩
  iapply Hk
  isplitl [HH]; · iexact HH
  isplitl [Hk1 Hk2 Hk3 Hk4 HKb Hv1 Hv2 Hv3 Hv4 HVb]
  · isplitl [Hk1 Hk2 Hk3 Hk4 HKb]
    · isplitl [Hk1]; · iexact Hk1
      isplitl [Hk2]; · iexact Hk2
      isplitl [Hk3]; · iexact Hk3
      isplitl [Hk4]; · iexact Hk4
      iexact HKb
    · isplitl [Hv1]; · iexact Hv1
      isplitl [Hv2]; · iexact Hv2
      isplitl [Hv3]; · iexact Hv3
      isplitl [Hv4]; · iexact Hv4
      iexact HVb
  isplitl [Hx Hbias Hq]
  · isplitl [Hx]; · iexact Hx
    isplitl [Hbias]; · iexact Hbias
    iexists _; iexact Hq
  iexact HI

theorem groupStage_spec (a : Fin 7) (r : Fin 8) (p : Pg F PUnit) (I : sProp 𝕄) (I' : Vec F S1024x1024 .bf16 → sProp 𝕄)
    (h : HeadsIn c p I I') (n m : ℕ) (ha : a.val < m) (Φ : PUnit → sProp 𝕄) :
    iprop(Ctx D K c ∗ Hops D c n m ∗ Fly D c r ∗ Base D c ∗ I)
      ⊢ iprop(((Hops D c n m ∗ KVs D c (r.val + 1) (part D false c r) (part D true c r) ∗ Base D c
            ∗ I' (Cx D c r (got false c (a.val + 1)))) -∗ Φ ⟨⟩)
          -∗ WP c (groupStage K0 c a r p) Φ) := by
  iintro ⟨#Hc, HH, Hf, HB, HI⟩ Hk
  unfold groupStage WP
  rw [wp_bind]
  unfold Hops
  icases HH with ⟨Hq, Ho, HO⟩
  iapply (ring_read D c false a n m ha) $$ [Hq]
  · iexact Hq
  iintro Hq
  iapply (heads_spec D K c (blk D false c (a.val + 1)) r p I I' h n m) $$ [Hq Ho HO Hf HB HI]
  · isplitr; · iexact Hc
    isplitl [Hq Ho HO]
    · unfold Hops
      isplitl [Hq]; · iexact Hq
      isplitl [Ho]; · iexact Ho
      iexact HO
    isplitl [Hf]; · iexact Hf
    isplitl [HB]; · iexact HB
    iexact HI
  unfold Hops
  iexact Hk

theorem addStage_spec (b : Fin 7) (src : Memref sig .tc .vmem S1024x1024 .bf16) (I : sProp 𝕄) (a : Vec F S1024x1024 .bf16) (hI : Reads c src I a)
    (O : Vec F S1x1024x1024 .f32) (n m : ℕ) (hb : b.val < m) (Φ : PUnit → sProp 𝕄) :
    iprop(Hops D c n m ∗ I ∗ ownsTc c K0.out fullShare O)
      ⊢ iprop(((Hops D c n m ∗ I ∗ ownsTc c K0.out fullShare (outMat a (D.w true (got true c (b.val + 1))) O)) -∗ Φ ⟨⟩)
          -∗ WP c (addStage K0 b src) Φ) := by
  unfold Hops
  iintro ⟨⟨Hq, Ho, HO⟩, HI, Hout⟩ Hk
  unfold addStage WP
  rw [wp_bind]
  iapply (ring_read D c true b n m hb) $$ [Ho]
  · iexact Ho
  iintro Ho
  iapply (projStage_spec c K0 src I a _ hI O) $$ [HI Hout]
  · isplitl [HI]; · iexact HI
    iexact Hout
  iintro ⟨HI, Hout⟩
  iapply Hk
  isplitl [Hq Ho HO]
  · isplitl [Hq]; · iexact Hq
    isplitl [Ho]; · iexact Ho
    iexact HO
  isplitl [HI]; · iexact HI
  iexact Hout

/-- The buffer of the contexts, any contents. -/
def CtxAny : sProp 𝕄 := iprop(∃ X, ownsTc c K0.ctx fullShare X)

/-- Part `r` in full: its contexts times a block of Wo are added to the result. -/
theorem ctxPart_spec (a : Fin 7) (r r' : Fin 8) (hr : r'.val = r.val + 1) (p : Pg F PUnit) (h : ∀ q k m v, HeadsSpec c K0 q k m v p) (b : Fin 7)
    (O : Vec F S1x1024x1024 .f32) (n m : ℕ) (ha : a.val < m) (hb : b.val < m) (Φ : PUnit → sProp 𝕄) :
    iprop(Ctx D K c ∗ Hops D c n m ∗ Fly D c r ∗ Base D c ∗ CtxAny c ∗ ownsTc c K0.out fullShare O)
      ⊢ iprop(((Hops D c n m ∗ Fly D c r' ∗ Base D c ∗ CtxAny c
            ∗ ownsTc c K0.out fullShare (outMat (Cx D c r (got false c (a.val + 1))) (D.w true (got true c (b.val + 1))) O)) -∗ Φ ⟨⟩)
          -∗ WP c (ctxPart K0 c a r r' p b) Φ) := by
  unfold CtxAny
  iintro ⟨#Hc, HH, Hf, HB, ⟨%X, HX⟩, Hout⟩ Hk
  unfold ctxPart WP
  rw [wp_bind]
  iapply (groupStage_spec D K c a r p _ _ (headsIn_ctx c h X) n m ha) $$ [HH Hf HB HX]
  · isplitr; · iexact Hc
    isplitl [HH]; · iexact HH
    isplitl [Hf]; · iexact Hf
    isplitl [HB]; · iexact HB
    iexact HX
  iintro ⟨HH, HKV, HB, HX⟩
  rw [wp_bind, ← hr]
  iapply (kvStart_spec D K c r') $$ [HKV]
  · isplitr; · iexact Hc
    iexact HKV
  iintro Hf
  iapply (addStage_spec D c b K0.ctx _ _ (reads_ctx c K0 _) O n m hb) $$ [HH HX Hout]
  · isplitl [HH]; · iexact HH
    isplitl [HX]; · iexact HX
    iexact Hout
  iintro ⟨HH, HX, Hout⟩
  iapply Hk
  isplitl [HH]; · iexact HH
  isplitl [Hf]; · iexact Hf
  isplitl [HB]; · iexact HB
  isplitl [HX]; · iexists _; iexact HX
  iexact Hout

/-- What ring `b` has before the neighbour's slots are handed over. -/
def Ring0 (b : Bool) : sProp 𝕄 :=
  iprop(bigSep Finset.univ (fun t : Fin 7 => iprop(dutyTok ER (cell (nbr b c) (.hop b true t)) 0 false ∗ dutyTok ER (cell c (.hop b false t)) 0 false))
    ∗ bigSep Finset.univ (fun t : Fin 7 => iprop(cred (tallyAt (cell c (.hop b true t)) () N) ∗ atPos ER (cell c (.hop b true t)) 0 ∅ 0)))

theorem ring_start (b : Bool) : iprop(barPay b c ∗ Ring0 c b) ⊢ Ring D c b 0 0 := by
  unfold Ring Ring0 barPay Tok
  simp only [hi_zero, lo_zero, bigSep_empty]
  iintro ⟨H1, H2, H3⟩
  isplitl [H1 H2]
  · icombine H1 H2 as H
    ihave H := (joinAll (s := Finset.univ) (Φ := fun t : Fin 7 => iprop((∃ X, ownsTc (nbr b c) (slot (ring b) t) fullShare X) ∗ reached ER (cell (nbr b c) (.hop b true t)) 0))
      (Ψ := fun t : Fin 7 => iprop(dutyTok ER (cell (nbr b c) (.hop b true t)) 0 false ∗ dutyTok ER (cell c (.hop b false t)) 0 false))) $$ H
    iapply (monoAll (s := Finset.univ) (fun t _ => ?_)) $$ H
    iintro ⟨⟨H1, H2⟩, H3, H4⟩
    isplitl [H1]; · iexact H1
    isplitl [H2]; · iexact H2
    isplitl [H3]; · iexact H3
    iexact H4
  isplitr; · iempintro
  isplitl [H3]; · iexact H3
  iempintro

/-- The first step. -/
theorem step0_spec (X Y X₁ X₃ : Vec F S1024x1024 .bf16) (X₂ : Vec F S4x256x512 .bf16) (O : Vec F S1x1024x1024 .f32) (Φ : PUnit → sProp 𝕄) :
    iprop(Ctx D K c ∗ (slots c false ∗ slots c true ∗ dutyTok ER (cell (nbr true c) .bar) 0 false ∗ dutyTok ER (cell (nbr false c) .bar) 0 true
        ∗ cred (tallyAt (cell c .bar) () 2) ∗ atPos ER (cell c .bar) 0 ∅ 0 ∗ Ow c (O₀ c))
        ∗ (Ring0 c false ∗ Ring0 c true) ∗ KVs D c 0 X Y
        ∗ ownsTc c K0.x fullShare (D.x c) ∗ ownsTc c K0.wq fullShare (D.w false c) ∗ ownsTc c K0.wo fullShare (D.w true c)
        ∗ ownsTc c K0.q fullShare X₁ ∗ ownsTc c K0.bias fullShare X₂ ∗ ownsTc c K0.ctx fullShare X₃ ∗ ownsTc c K0.out fullShare O)
      ⊢ iprop(((atPos ER (cell c .bar) 1 ∅ 0 ∗ ownsTc c K0.wq fullShare.left (D.w false c) ∗ ownsTc c K0.wo fullShare.left (D.w true c)
            ∗ Hops D c 1 0 ∗ Fly D c 1 ∗ Base D c ∗ CtxAny c
            ∗ ownsTc c K0.out fullShare (outMat0 (Cx D c 0 c) (D.w true c))) -∗ Φ ⟨⟩)
          -∗ WP c (step0 K0 c) Φ) := by
  iintro ⟨#Hc, Hbar, ⟨Hr, Hr'⟩, HKV, Hx, Hwq, Hwo, Hq, Hbias, HX, Hout⟩ Hk
  unfold step0 WP
  rw [wp_bind]
  iapply (biasStage_spec c K0 X₂) $$ [Hbias]
  · iexact Hbias
  iintro Hbias
  rw [wp_bind]
  iapply (barrier_spec D K c) $$ [Hbar]
  · isplitr; · iexact Hc
    iexact Hbar
  iintro ⟨Hp, Hp', Hat, HO⟩
  rw [wp_bind]
  iapply (kvStart_spec D K c 0) $$ [HKV]
  · isplitr; · iexact Hc
    iexact HKV
  iintro Hf
  ihave Hwq' := (owns_split c K0.wq _) $$ Hwq
  icases Hwq' with ⟨Hwq, HwqR⟩
  ihave Hwo' := (owns_split c K0.wo _) $$ Hwo
  icases Hwo' with ⟨Hwo, HwoR⟩
  rw [wp_bind]
  iapply (firstHops_spec D K c _ _ (Fin.ext (k0_dev3_eq c)) (Fin.ext (k0_dev4_eq c))) $$ [Hp Hp' Hr Hr' HO HwqR HwoR]
  · isplitr; · iexact Hc
    isplitl [Hp Hp' Hr Hr' HO]
    · unfold Hops
      isplitl [Hp Hr]
      · iapply (ring_start D c false)
        isplitl [Hp]; · iexact Hp
        iexact Hr
      isplitl [Hp' Hr']
      · iapply (ring_start D c true)
        isplitl [Hp']; · iexact Hp'
        iexact Hr'
      iexact HO
    isplitl [HwqR]; · iexact HwqR
    iexact HwoR
  iintro HH
  rw [wp_bind]
  iapply (loadW_spec c K0.wq fullShare.left _) $$ [Hwq]
  · iexact Hwq
  iintro Hwq
  rw [show (kvWait K0 c 0 >>= fun _ => qStage K0 (D.w false c) >>= fun _ => heads1 K0 >>= fun _ => kvStart K0 c 1 >>= fun _ =>
      loadW K0.wo >>= fun wo => projStage0 K0 wo : Pg F PUnit)
      = ((kvWait K0 c 0 >>= fun _ => qStage K0 (D.w false c) >>= fun _ => heads1 K0) >>= fun _ => kvStart K0 c 1 >>= fun _ =>
      loadW K0.wo >>= fun wo => projStage0 K0 wo) from by simp only [Prog.bind_assoc]]
  rw [wp_bind]
  iapply (heads_spec D K c (D.w false c) 0 (heads1 K0) _ _ (headsIn_ctx c (fun q k m v => heads1_spec c K0 q k m v) X₃) 1 0) $$ [HH Hf Hx Hbias Hq HX]
  · isplitr; · iexact Hc
    isplitl [HH]; · iexact HH
    isplitl [Hf]; · iexact Hf
    isplitl [Hx Hbias Hq]
    · unfold Base
      isplitl [Hx]; · iexact Hx
      isplitl [Hbias]; · iexact Hbias
      iexists X₁; iexact Hq
    iexact HX
  iintro ⟨HH, HKV, HB, HX⟩
  rw [wp_bind]
  iapply (kvStart_spec D K c 1) $$ [HKV]
  · isplitr; · iexact Hc
    iexact HKV
  iintro Hf
  rw [wp_bind]
  iapply (loadW_spec c K0.wo fullShare.left _) $$ [Hwo]
  · iexact Hwo
  iintro Hwo
  iapply (projStage0_spec c K0 _ _ O) $$ [HX Hout]
  · isplitl [HX]; · iexact HX
    iexact Hout
  iintro ⟨HX, Hout⟩
  iapply Hk
  isplitl [Hat]; · iexact Hat
  isplitl [Hwq]; · iexact Hwq
  isplitl [Hwo]; · iexact Hwo
  isplitl [HH]; · iexact HH
  isplitl [Hf]; · iexact Hf
  isplitl [HB]; · iexact HB
  isplitl [HX]
  · unfold CtxAny; iexists _; iexact HX
  iexact Hout

/-! ## The later steps -/

/-- A part whose contexts go to place `s` of the stash, after a hop. -/
theorem stashStep_spec (i : Fin 6) (s t : Fin 7) (hs : s = i.castSucc) (ht : t = i.succ) (dq dO : Dev nD) (hq : dq = nbr false c) (hO : dO = nbr true c)
    (a : Fin 7) (ha : a.val < i.val + 1) (r r' : Fin 8) (hr : r'.val = r.val + 1) (z : Fin 2) (p : Pg F PUnit) (h : ∀ q k m v, HeadsStSpec c K0 q k m v z p)
    (Z : Vec F S2x1024x1024 .bf16) (Φ : PUnit → sProp 𝕄) :
    iprop(Ctx D K c ∗ Hops D c (i.val + 1) i.val ∗ Fly D c r ∗ Base D c ∗ ownsTc c K0.st fullShare Z)
      ⊢ iprop(((Hops D c (i.val + 2) (i.val + 1) ∗ Fly D c r' ∗ Base D c
            ∗ ownsTc c K0.st fullShare (upd (fun i => i 0 = z) (atStash (Cx D c r (got false c (a.val + 1)))) Z)) -∗ Φ ⟨⟩)
          -∗ WP c (do hopOn K0 s t dq dO; groupStage K0 c a r p; kvStart K0 c r') Φ) := by
  iintro ⟨#Hc, HH, Hf, HB, HZ⟩ Hk
  unfold WP
  rw [wp_bind]
  iapply (hopOn_spec D K c i s t hs ht dq dO hq hO) $$ [HH]
  · isplitr; · iexact Hc
    iexact HH
  iintro HH
  rw [wp_bind]
  iapply (groupStage_spec D K c a r p _ _ (headsIn_st c z h Z) _ _ ha) $$ [HH Hf HB HZ]
  · isplitr; · iexact Hc
    isplitl [HH]; · iexact HH
    isplitl [Hf]; · iexact Hf
    isplitl [HB]; · iexact HB
    iexact HZ
  iintro ⟨HH, HKV, HB, HZ⟩
  rw [← hr]
  iapply (kvStart_spec D K c r') $$ [HKV]
  · isplitr; · iexact Hc
    iexact HKV
  iintro Hf
  iapply Hk
  isplitl [HH]; · iexact HH
  isplitl [Hf]; · iexact Hf
  isplitl [HB]; · iexact HB
  iexact HZ

/-- The stash after both parts that go there. -/
def Zst (Z : Vec F S2x1024x1024 .bf16) : Vec F S2x1024x1024 .bf16 :=
  upd (fun i => i 0 = (1 : Fin 2)) (atStash (Cx D c 2 (got false c 2))) (upd (fun i => i 0 = (0 : Fin 2)) (atStash (Cx D c 1 (got false c 1))) Z)

theorem atStash_stIdx (C : Vec F S1024x1024 .bf16) (s : Fin 2) (i : S1024x1024.Idx) : atStash C (stIdx s i) = C i :=
  congrArg C (eq_ix2 i).symm

theorem Zst_one (Z : Vec F S2x1024x1024 .bf16) : (fun i => Zst D c Z (stIdx 1 i)) = Cx D c 2 (got false c 2) := by
  funext i
  unfold Zst
  exact (if_pos rfl).trans (atStash_stIdx _ _ _)
theorem Zst_zero (Z : Vec F S2x1024x1024 .bf16) : (fun i => Zst D c Z (stIdx 0 i)) = Cx D c 1 (got false c 1) := by
  funext i
  unfold Zst
  refine (if_neg (by show ¬ (0 : Fin 2) = 1; decide)).trans ?_
  exact (if_pos rfl).trans (atStash_stIdx _ _ _)

theorem step1_spec (Z : Vec F S2x1024x1024 .bf16) (Φ : PUnit → sProp 𝕄) :
    iprop(Ctx D K c ∗ Hops D c 1 0 ∗ Fly D c 1 ∗ Base D c ∗ ownsTc c K0.st fullShare Z)
      ⊢ iprop(((Hops D c 2 1 ∗ Fly D c 2 ∗ Base D c
            ∗ ownsTc c K0.st fullShare (upd (fun i => i 0 = (0 : Fin 2)) (atStash (Cx D c 1 (got false c 1))) Z)) -∗ Φ ⟨⟩)
          -∗ WP c (step1 K0 c) Φ) :=
  stashStep_spec D K c 0 0 1 rfl rfl _ _ (Fin.ext (k0_dev5_eq c)) (Fin.ext (k0_dev6_eq c)) 0 (by decide) 1 2 rfl 0 _ (fun q k m v => heads2_spec c K0 q k m v) Z Φ

theorem step2_spec (Z : Vec F S2x1024x1024 .bf16) (Φ : PUnit → sProp 𝕄) :
    iprop(Ctx D K c ∗ Hops D c 2 1 ∗ Fly D c 2 ∗ Base D c ∗ ownsTc c K0.st fullShare Z)
      ⊢ iprop(((Hops D c 3 2 ∗ Fly D c 3 ∗ Base D c
            ∗ ownsTc c K0.st fullShare (upd (fun i => i 0 = (1 : Fin 2)) (atStash (Cx D c 2 (got false c 2))) Z)) -∗ Φ ⟨⟩)
          -∗ WP c (step2 K0 c) Φ) :=
  stashStep_spec D K c 1 1 2 rfl rfl _ _ (Fin.ext (k0_dev7_eq c)) (Fin.ext (k0_dev8_eq c)) 1 (by decide) 2 3 rfl 1 _ (fun q k m v => heads3_spec c K0 q k m v) Z Φ

theorem step3_spec (Φ : PUnit → sProp 𝕄) :
    iprop(Ctx D K c ∗ Hops D c 3 2) ⊢ iprop((Hops D c 4 3 -∗ Φ ⟨⟩) -∗ WP c (step3 K0 c) Φ) :=
  hopOn_spec D K c 2 2 3 rfl rfl _ _ (Fin.ext (k0_dev9_eq c)) (Fin.ext (k0_dev10_eq c)) Φ

/-- The result after the parts whose contexts have been added, in order. -/
def out0 : Vec F S1x1024x1024 .f32 := outMat0 (Cx D c 0 c) (D.w true c)
def out3 : Vec F S1x1024x1024 .f32 := outMat (Cx D c 3 (got false c 4)) (D.w true (got true c 4)) (out0 D c)
def out4 : Vec F S1x1024x1024 .f32 := outMat (Cx D c 4 (got false c 5)) (D.w true (got true c 3)) (out3 D c)
def out5 : Vec F S1x1024x1024 .f32 := outMat (Cx D c 5 (got false c 3)) (D.w true (got true c 5)) (out4 D c)
def out2 : Vec F S1x1024x1024 .f32 := outMat (Cx D c 2 (got false c 2)) (D.w true (got true c 6)) (out5 D c)
def out6 : Vec F S1x1024x1024 .f32 := outMat (Cx D c 6 (got false c 6)) (D.w true (got true c 2)) (out2 D c)
def out1 : Vec F S1x1024x1024 .f32 := outMat (Cx D c 1 (got false c 1)) (D.w true (got true c 7)) (out6 D c)
def out7 : Vec F S1x1024x1024 .f32 := outMat (Cx D c 7 (got false c 7)) (D.w true (got true c 1)) (out1 D c)

theorem step4_spec (Φ : PUnit → sProp 𝕄) :
    iprop(Ctx D K c ∗ Hops D c 4 3 ∗ Fly D c 3 ∗ Base D c ∗ CtxAny c ∗ ownsTc c K0.out fullShare (out0 D c))
      ⊢ iprop(((Hops D c 5 4 ∗ Fly D c 4 ∗ Base D c ∗ CtxAny c ∗ ownsTc c K0.out fullShare (out3 D c)) -∗ Φ ⟨⟩)
          -∗ WP c (step4 K0 c) Φ) := by
  iintro ⟨#Hc, HH, Hrest⟩ Hk
  unfold step4 WP
  rw [wp_bind]
  iapply (hopOn_spec D K c 3 3 4 rfl rfl _ _ (Fin.ext (k0_dev11_eq c)) (Fin.ext (k0_dev12_eq c))) $$ [HH]
  · isplitr; · iexact Hc
    iexact HH
  iintro HH
  iapply (ctxPart_spec D K c 3 3 4 rfl (heads4 K0) (fun q k m v => heads4_spec c K0 q k m v) 3 (out0 D c) 5 4 (by decide) (by decide)) $$ [HH Hrest]
  · isplitr; · iexact Hc
    isplitl [HH]; · iexact HH
    iexact Hrest
  iexact Hk

theorem step5_spec (Φ : PUnit → sProp 𝕄) :
    iprop(Ctx D K c ∗ Hops D c 5 4 ∗ Fly D c 4 ∗ Base D c ∗ CtxAny c ∗ ownsTc c K0.out fullShare (out3 D c))
      ⊢ iprop(((Hops D c 6 5 ∗ Fly D c 6 ∗ Base D c ∗ CtxAny c ∗ ownsTc c K0.out fullShare (out5 D c)) -∗ Φ ⟨⟩)
          -∗ WP c (step5 K0 c) Φ) := by
  iintro ⟨#Hc, HH, Hrest⟩ Hk
  unfold step5 WP
  rw [wp_bind]
  iapply (hopOn_spec D K c 4 4 5 rfl rfl _ _ (Fin.ext (k0_dev13_eq c)) (Fin.ext (k0_dev14_eq c))) $$ [HH]
  · isplitr; · iexact Hc
    iexact HH
  iintro HH
  rw [wp_bind]
  iapply (ctxPart_spec D K c 4 4 5 rfl (heads5 K0) (fun q k m v => heads5_spec c K0 q k m v) 2 (out3 D c) 6 5 (by decide) (by decide)) $$ [HH Hrest]
  · isplitr; · iexact Hc
    isplitl [HH]; · iexact HH
    iexact Hrest
  iintro H
  iapply (ctxPart_spec D K c 2 5 6 rfl (heads6 K0) (fun q k m v => heads6_spec c K0 q k m v) 4 (out4 D c) 6 5 (by decide) (by decide)) $$ [H]
  · isplitr; · iexact Hc
    iexact H
  iexact Hk

theorem step6_spec (Z : Vec F S2x1024x1024 .bf16) (Φ : PUnit → sProp 𝕄) :
    iprop(Ctx D K c ∗ Hops D c 6 5 ∗ Fly D c 6 ∗ Base D c ∗ CtxAny c ∗ ownsTc c K0.out fullShare (out5 D c) ∗ ownsTc c K0.st fullShare (Zst D c Z))
      ⊢ iprop(((Hops D c 7 6 ∗ Fly D c 7 ∗ Base D c ∗ CtxAny c ∗ ownsTc c K0.out fullShare (out6 D c) ∗ ownsTc c K0.st fullShare (Zst D c Z)) -∗ Φ ⟨⟩)
          -∗ WP c (step6 K0 c) Φ) := by
  iintro ⟨#Hc, HH, Hf, HB, HX, Hout, HZ⟩ Hk
  unfold step6 WP
  rw [wp_bind]
  iapply (hopOn_spec D K c 5 5 6 rfl rfl _ _ (Fin.ext (k0_dev15_eq c)) (Fin.ext (k0_dev16_eq c))) $$ [HH]
  · isplitr; · iexact Hc
    iexact HH
  iintro HH
  rw [wp_bind]
  iapply (addStage_spec D c 5 (stash K0.st 1) _ _ (reads_stash c K0 1 (Zst D c Z)) (out5 D c) 7 6 (by decide)) $$ [HH HZ Hout]
  · isplitl [HH]; · iexact HH
    isplitl [HZ]; · iexact HZ
    iexact Hout
  rw [Zst_one]
  iintro ⟨HH, HZ, Hout⟩
  iapply (ctxPart_spec D K c 5 6 7 rfl (heads7 K0) (fun q k m v => heads7_spec c K0 q k m v) 1 (out2 D c) 7 6 (by decide) (by decide)) $$ [HH Hf HB HX Hout]
  · isplitr; · iexact Hc
    isplitl [HH]; · iexact HH
    isplitl [Hf]; · iexact Hf
    isplitl [HB]; · iexact HB
    isplitl [HX]; · iexact HX
    iexact Hout
  iintro ⟨HH, Hf, HB, HX, Hout⟩
  iapply Hk
  isplitl [HH]; · iexact HH
  isplitl [Hf]; · iexact Hf
  isplitl [HB]; · iexact HB
  isplitl [HX]; · iexact HX
  isplitl [Hout]; · iexact Hout
  iexact HZ

theorem step7_spec (Z : Vec F S2x1024x1024 .bf16) (Φ : PUnit → sProp 𝕄) :
    iprop(Ctx D K c ∗ Hops D c 7 6 ∗ Fly D c 7 ∗ Base D c ∗ CtxAny c ∗ ownsTc c K0.out fullShare (out6 D c) ∗ ownsTc c K0.st fullShare (Zst D c Z))
      ⊢ iprop(((Hops D c 7 7 ∗ (ownsTc c (slot (ring false) 6) fullShare.right (blk D false c 7) ∗ ownsTc c (slot (ring true) 6) fullShare.right (blk D true c 7))
            ∗ KVs D c 8 (part D false c 7) (part D true c 7) ∗ Base D c ∗ CtxAny c ∗ ownsTc c K0.out fullShare (out7 D c) ∗ ownsTc c K0.st fullShare (Zst D c Z)) -∗ Φ ⟨⟩)
          -∗ WP c (step7 K0 c) Φ) := by
  iintro ⟨#Hc, HH, Hf, HB, HX, Hout, HZ⟩ Hk
  unfold step7 WP
  rw [wp_bind]
  iapply (recvWait_spec D K c 6 7 (by decide)) $$ [HH]
  · isplitr; · iexact Hc
    iexact HH
  iintro ⟨HH, Hlast⟩
  rw [wp_bind]
  iapply (addStage_spec D c 6 (stash K0.st 0) _ _ (reads_stash c K0 0 (Zst D c Z)) (out6 D c) 7 7 (by decide)) $$ [HH HZ Hout]
  · isplitl [HH]; · iexact HH
    isplitl [HZ]; · iexact HZ
    iexact Hout
  rw [Zst_zero]
  iintro ⟨HH, HZ, Hout⟩
  unfold CtxAny
  icases HX with ⟨%X, HX⟩
  rw [wp_bind]
  iapply (groupStage_spec D K c 6 7 (heads8 K0) _ _ (headsIn_ctx c (fun q k m v => heads8_spec c K0 q k m v) X) 7 7 (by decide)) $$ [HH Hf HB HX]
  · isplitr; · iexact Hc
    isplitl [HH]; · iexact HH
    isplitl [Hf]; · iexact Hf
    isplitl [HB]; · iexact HB
    iexact HX
  iintro ⟨HH, HKV, HB, HX⟩
  iapply (addStage_spec D c 0 K0.ctx _ _ (reads_ctx c K0 _) (out1 D c) 7 7 (by decide)) $$ [HH HX Hout]
  · isplitl [HH]; · iexact HH
    isplitl [HX]; · iexact HX
    iexact Hout
  iintro ⟨HH, HX, Hout⟩
  iapply Hk
  isplitl [HH]; · iexact HH
  isplitl [Hlast]; · iexact Hlast
  isplitl [HKV]; · iexact HKV
  isplitl [HB]; · iexact HB
  isplitl [HX]; · iexists _; iexact HX
  isplitl [Hout]; · iexact Hout
  iexact HZ

end

end Cert.KernelIdeal.Att
-- ==== Proof.Finish.lean ====
/- The end of the body: the sends are waited for, the rings' slots and the devices' own blocks are whole
   again, every counter of the talk is back at zero. -/
module

public import proofs.«01_k».proof.Proof.Body

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

section
variable (D : Data F) (K : GSem nD τ sig → ℕ) (c : Dev nD)

/-! ## The sends waited for -/

/-- Side `b` with the first `n` sends waited for. -/
def Sent (b : Bool) (n : ℕ) : sProp 𝕄 :=
  iprop(bigSep (hi n) (fun t : Fin 7 => iprop(cred (tallyAt (cell c (.hop b false t)) () N) ∗ atPos ER (cell c (.hop b false t)) 0 ∅ 0))
    ∗ bigSep (lo n) (fun t : Fin 7 => iprop(atPos ER (cell c (.hop b false t)) 1 ∅ 0 ∗ ownsTc c (srcM b t) fullShare.right (blk D b c t.val))))
def Sents (n : ℕ) : sProp 𝕄 := iprop(Sent D c false n ∗ Sent D c true n ∗ Ow c 0)

theorem sent_step (b : Bool) (t : Fin 7) {sp : Space} {s : Shape} {e : EltTy} {src : Memref sig .tc sp s e} {dst : Memref sig .tc .vmem S1024x1024 .bf16}
    {h1 : src.view.WordExact} {h2 : dst.view.WordExact} (hN : dst.view.dmaCredit = N) (Φ : PUnit → sProp 𝕄) :
    iprop(Ctx D K c ∗ Sent D c b t.val ∗ Ow c 0)
      ⊢ iprop(((Sent D c b (t.val + 1) ∗ Ow c 0) -∗ Φ ⟨⟩) -∗ WP c (.op (.waitDma2 (dsem b false t) src dst h1 h2) .ret) Φ) := by
  unfold Sent
  rw [hi_step t, lo_step t]
  iintro ⟨#Hc, ⟨⟨⟨Hcr, Hat⟩, Hh⟩, Hl⟩, HO⟩ Hk
  iapply (sent_spec D K c b t hN) $$ [Hcr Hat HO]
  · isplitr; · iexact Hc
    isplitl [Hcr]; · iexact Hcr
    isplitl [HO]; · iexact HO
    iexact Hat
  iintro ⟨HO, Hat, Hs⟩
  iapply Hk
  isplitr [HO]
  · isplitl [Hh]; · iexact Hh
    isplitr [Hl]
    · isplitl [Hat]; · iexact Hat
      iexact Hs
    iexact Hl
  iexact HO

theorem sendWait0_spec (Φ : PUnit → sProp 𝕄) :
    iprop(Ctx D K c ∗ Sents D c 0) ⊢ iprop((Sents D c 1 -∗ Φ ⟨⟩) -∗ WP c (sendWait0 K0) Φ) := by
  unfold Sents
  iintro ⟨#Hc, Hq, Ho, HO⟩ Hk
  unfold sendWait0 WP
  rw [wp_bind]
  iapply (sent_step D K c false 0 (show (own false).view.dmaCredit = N from rfl)) $$ [Hq HO]
  · isplitr; · iexact Hc
    isplitl [Hq]; · iexact Hq
    iexact HO
  iintro ⟨Hq, HO⟩
  iapply (sent_step D K c true 0 (show (own true).view.dmaCredit = N from rfl)) $$ [Ho HO]
  · isplitr; · iexact Hc
    isplitl [Ho]; · iexact Ho
    iexact HO
  iintro ⟨Ho, HO⟩
  iapply Hk
  isplitl [Hq]; · iexact Hq
  isplitl [Ho]; · iexact Ho
  iexact HO

theorem sendWait_spec (s t : Fin 7) (Φ : PUnit → sProp 𝕄) :
    iprop(Ctx D K c ∗ Sents D c t.val) ⊢ iprop((Sents D c (t.val + 1) -∗ Φ ⟨⟩) -∗ WP c (sendWait K0 s t) Φ) := by
  unfold Sents
  iintro ⟨#Hc, Hq, Ho, HO⟩ Hk
  unfold sendWait WP
  rw [wp_bind]
  iapply (sent_step D K c false t (amt_slot false s (dsem false false t))) $$ [Hq HO]
  · isplitr; · iexact Hc
    isplitl [Hq]; · iexact Hq
    iexact HO
  iintro ⟨Hq, HO⟩
  iapply (sent_step D K c true t (amt_slot true s (dsem true false t))) $$ [Ho HO]
  · isplitr; · iexact Hc
    isplitl [Ho]; · iexact Ho
    iexact HO
  iintro ⟨Ho, HO⟩
  iapply Hk
  isplitl [Hq]; · iexact Hq
  isplitl [Ho]; · iexact Ho
  iexact HO

theorem drain_spec (Φ : PUnit → sProp 𝕄) :
    iprop(Ctx D K c ∗ Sents D c 0) ⊢ iprop((Sents D c 7 -∗ Φ ⟨⟩) -∗ WP c (drain K0) Φ) := by
  iintro ⟨#Hc, H⟩ Hk
  unfold drain WP
  rw [wp_bind]
  iapply (sendWait0_spec D K c) $$ [H]
  · isplitr; · iexact Hc
    iexact H
  iintro H
  rw [wp_bind]
  iapply (sendWait_spec D K c 0 1) $$ [H]
  · isplitr; · iexact Hc
    iexact H
  iintro H
  rw [wp_bind]
  iapply (sendWait_spec D K c 1 2) $$ [H]
  · isplitr; · iexact Hc
    iexact H
  iintro H
  rw [wp_bind]
  iapply (sendWait_spec D K c 2 3) $$ [H]
  · isplitr; · iexact Hc
    iexact H
  iintro H
  rw [wp_bind]
  iapply (sendWait_spec D K c 3 4) $$ [H]
  · isplitr; · iexact Hc
    iexact H
  iintro H
  rw [wp_bind]
  iapply (sendWait_spec D K c 4 5) $$ [H]
  · isplitr; · iexact Hc
    iexact H
  iintro H
  iapply (sendWait_spec D K c 5 6) $$ [H]
  · isplitr; · iexact Hc
    iexact H
  iexact Hk

/-! ## Shares put together -/

theorem first_rest {k : ℕ} (Φ : Fin (k + 1) → sProp 𝕄) :
    bigSep Finset.univ Φ = iprop(Φ 0 ∗ bigSep Finset.univ fun s : Fin k => Φ s.succ) := by
  rw [Fin.univ_succ, Finset.cons_eq_insert, bigSep_insert (by simp), bigSep_map]; rfl
theorem rest_last {k : ℕ} (Φ : Fin (k + 1) → sProp 𝕄) :
    bigSep Finset.univ Φ = iprop(Φ (Fin.last k) ∗ bigSep Finset.univ fun s : Fin k => Φ s.castSucc) := by
  rw [Fin.univ_castSuccEmb, Finset.cons_eq_insert, bigSep_insert (by simp), bigSep_map]; rfl

/-- With every send waited for, a ring's slots are whole, and so is the device's own block. -/
theorem whole_again (b : Bool) :
    iprop(bigSep Finset.univ (fun t : Fin 7 => ownsTc c (slot (ring b) t) fullShare.left (blk D b c (t.val + 1)))
        ∗ bigSep Finset.univ (fun t : Fin 7 => ownsTc c (srcM b t) fullShare.right (blk D b c t.val))
        ∗ ownsTc c (slot (ring b) 6) fullShare.right (blk D b c 7) ∗ ownsTc c (own b) fullShare.left (D.w b c))
      ⊢ (iprop(slots c b ∗ ownsTc c (own b) fullShare (D.w b c)) : sProp 𝕄) := by
  rw [rest_last (fun t : Fin 7 => ownsTc c (slot (ring b) t) fullShare.left (blk D b c (t.val + 1))),
    first_rest (fun t : Fin 7 => ownsTc c (srcM b t) fullShare.right (blk D b c t.val))]
  unfold slots
  rw [rest_last (fun t : Fin 7 => iprop(∃ X, ownsTc c (slot (ring b) t) fullShare X))]
  iintro ⟨⟨Hl6, Hl⟩, ⟨Hr0, Hr⟩, Hr6, Hl0⟩
  isplitr [Hr0 Hl0]
  · isplitl [Hl6 Hr6]
    · iexists _
      iapply (owns_merge c (slot (ring b) 6) (blk D b c 7) (blk D b c 7))
      isplitl [Hl6]; · iexact Hl6
      iexact Hr6
    · icombine Hl Hr as H
      ihave H := (joinAll (s := Finset.univ) (Φ := fun s : Fin 6 => ownsTc c (slot (ring b) s.castSucc) fullShare.left (blk D b c (s.castSucc.val + 1)))
        (Ψ := fun s : Fin 6 => ownsTc c (srcM b s.succ) fullShare.right (blk D b c s.succ.val))) $$ H
      iapply (monoAll (s := Finset.univ) (fun s _ => ?_)) $$ H
      iintro H
      iexists _
      iapply (owns_merge c (slot (ring b) s.castSucc) (blk D b c (s.val + 1)) (blk D b c (s.val + 1)))
      iexact H
  · iapply (owns_merge c (own b) (D.w b c) (D.w b c))
    isplitl [Hl0]; · iexact Hl0
    iexact Hr0

/-! ## The counters -/

/-- The semaphores the kernel allocates. -/
abbrev OK : Type := (Bool × Bool × Fin 7) ⊕ Bool
def okKind : OK → Kind | .inl (b, d, t) => .hop b d t | .inr b => .kv b

theorem both (Φ : Bool → sProp 𝕄) : bigSep Finset.univ Φ = iprop(Φ false ∗ Φ true) := by
  rw [show (Finset.univ : Finset Bool) = {false, true} from by decide, bigSep_insert (by decide), bigSep_singleton]; rfl

theorem ok_split (Φ : Kind → sProp 𝕄) : bigSep Finset.univ (fun o : OK => Φ (okKind o))
    = iprop(((bigSep Finset.univ (fun t : Fin 7 => Φ (.hop false false t)) ∗ bigSep Finset.univ (fun t : Fin 7 => Φ (.hop false true t)))
        ∗ (bigSep Finset.univ (fun t : Fin 7 => Φ (.hop true false t)) ∗ bigSep Finset.univ (fun t : Fin 7 => Φ (.hop true true t))))
      ∗ (Φ (.kv false) ∗ Φ (.kv true))) := by
  rw [bigSep_univ_sum, bigSep_univ_prod, both, both, bigSep_univ_prod, bigSep_univ_prod, both, both]; rfl

theorem close_own : iprop(Ctx D K c ∗ bigSep Finset.univ (fun o : OK => atPos ER (cell c (okKind o)) (rounds (okKind o)) ∅ 0))
    ⊢ (|={Set.univ}=> bigSep Finset.univ (fun o : OK => semVal (cell c (okKind o)) 0) : sProp 𝕄) := by
  refine BI.Entails.trans (bigSep_with_persistent (R := Ctx D K c) (S := Finset.univ) (Φ := fun o : OK => atPos ER (cell c (okKind o)) (rounds (okKind o)) ∅ 0)
    (Ψ := fun o : OK => iprop(|={Set.univ}=> semVal (cell c (okKind o)) 0)) (fun o _ => ?_)) (bigSep_fupd _ _)
  iintro ⟨#Hc, H⟩
  iapply (Rounds.cell_close ER (rd D) (Set.mem_univ (K (cell c (okKind o)))) id (duties_later D c (okKind o)))
  isplitr; · iapply (ctx_inv D K c c (okKind o)); iexact Hc
  iexact H

theorem close_bar : iprop(Ctx D K c ∗ atPos ER (cell c .bar) 1 ∅ 0) ⊢ (|={Set.univ}=> semVal (cell c .bar) 0 : sProp 𝕄) := by
  iintro ⟨#Hc, H⟩
  iapply (Rounds.cell_close ER (rd D) (Set.mem_univ (K (cell c .bar))) id (duties_later D c .bar))
  isplitr; · iapply (ctx_inv D K c c .bar); iexact Hc
  iexact H

/-! ## The whole body -/

/-- The tokens of ring `b`'s duties that this device pays, and the credit of its landings. -/
def Duty (b : Bool) : sProp 𝕄 :=
  bigSep Finset.univ (fun t : Fin 7 => iprop(dutyTok ER (cell (nbr b c) (.hop b true t)) 0 false ∗ dutyTok ER (cell c (.hop b false t)) 0 false))
def Cred (b : Bool) : sProp 𝕄 := bigSep Finset.univ (fun t : Fin 7 => cred (tallyAt (cell c (.hop b true t)) () N))

/-- The device's positions, tokens, credit. -/
def Opened : sProp 𝕄 :=
  iprop(atPos ER (cell c .bar) 0 ∅ 0 ∗ bigSep Finset.univ (fun o : OK => atPos ER (cell c (okKind o)) 0 ∅ 0)
    ∗ (dutyTok ER (cell (nbr true c) .bar) 0 false ∗ dutyTok ER (cell (nbr false c) .bar) 0 true ∗ cred (tallyAt (cell c .bar) () 2))
    ∗ (Duty c false ∗ Duty c true) ∗ (Cred c false ∗ Cred c true) ∗ (toks c false 0 ∗ toks c true 0))

/-- The buffers only the kernel uses, any contents. -/
def Scr : sProp 𝕄 :=
  iprop(slots c false ∗ slots c true ∗ (∃ X, ownsTc c (kvB false) fullShare X) ∗ (∃ X, ownsTc c (kvB true) fullShare X)
    ∗ CtxAny c ∗ (∃ X, ownsTc c K0.q fullShare X) ∗ (∃ X, ownsTc c K0.bias fullShare X) ∗ (∃ X, ownsTc c K0.st fullShare X))

/-- The operands, with `O` the result's contents. -/
def Ins (O : sProp 𝕄) : sProp 𝕄 :=
  iprop(ownsTc c K0.x fullShare (D.x c) ∗ ownsTc c K0.wq fullShare (D.w false c) ∗ ownsTc c K0.wo fullShare (D.w true c)
    ∗ (ownsTc c (kvM false) fullShare (D.kv false c) ∗ ownsTc c (kvM true) fullShare (D.kv true c)) ∗ O)

theorem ring0_intro (b : Bool) : iprop(Duty c b ∗ Cred c b ∗ bigSep Finset.univ (fun t : Fin 7 => atPos ER (cell c (.hop b true t)) 0 ∅ 0)) ⊢ (Ring0 c b : sProp 𝕄) := by
  unfold Ring0 Duty Cred
  iintro ⟨H1, H⟩
  isplitl [H1]; · iexact H1
  iapply (joinAll (s := Finset.univ) (Φ := fun t : Fin 7 => cred (tallyAt (cell c (.hop b true t)) () N))
    (Ψ := fun t : Fin 7 => atPos ER (cell c (.hop b true t)) 0 ∅ 0))
  iexact H

theorem kv_intro (b : Bool) (X : Vec F S1024x1024 .bf16) :
    iprop(Ctx D K c ∗ atPos ER (cell c (.kv b)) 0 ∅ 0 ∗ toks c b 0 ∗ ownsTc c (kvM b) fullShare (D.kv b c) ∗ ownsTc c (kvB b) fullShare X) ⊢ KV D c b 0 X := by
  unfold KV
  iintro ⟨#Hc, H1, H2⟩
  isplitl [H1]; · iexact H1
  isplitr; · iapply (ctx_own D K c (.kv b)); iexact Hc
  iexact H2

/-- Ring `b` with every hop made, as the sends' list and the landings'. -/
theorem ring_done (b : Bool) :
    iprop(Ring D c b 7 7 ∗ bigSep Finset.univ (fun t : Fin 7 => atPos ER (cell c (.hop b false t)) 0 ∅ 0))
      ⊢ iprop(Sent D c b 0 ∗ bigSep Finset.univ (fun t : Fin 7 => ownsTc c (slot (ring b) t) fullShare.left (blk D b c (t.val + 1)))
          ∗ bigSep Finset.univ (fun t : Fin 7 => atPos ER (cell c (.hop b true t)) 1 ∅ 0)) := by
  unfold Ring Sent
  simp only [show (hi 7 : Finset (Fin 7)) = ∅ from hi_all, show (lo 7 : Finset (Fin 7)) = Finset.univ from lo_all, hi_zero, lo_zero, bigSep_empty]
  iintro ⟨⟨-, Hcr, -, Hl⟩, Hat⟩
  isplitl [Hcr Hat]
  · isplitl
    · iapply (joinAll (s := Finset.univ) (Φ := fun t : Fin 7 => cred (tallyAt (cell c (.hop b false t)) () N))
        (Ψ := fun t : Fin 7 => atPos ER (cell c (.hop b false t)) 0 ∅ 0))
      isplitl [Hcr]; · iexact Hcr
      iexact Hat
    iempintro
  iapply (partAll (s := Finset.univ) (Φ := fun t : Fin 7 => ownsTc c (slot (ring b) t) fullShare.left (blk D b c (t.val + 1)))
    (Ψ := fun t : Fin 7 => atPos ER (cell c (.hop b true t)) 1 ∅ 0)) $$ Hl

theorem sent_done (b : Bool) : Sent D c b 7
    ⊢ iprop(bigSep Finset.univ (fun t : Fin 7 => atPos ER (cell c (.hop b false t)) 1 ∅ 0)
        ∗ bigSep Finset.univ (fun t : Fin 7 => ownsTc c (srcM b t) fullShare.right (blk D b c t.val))) := by
  unfold Sent
  simp only [show (hi 7 : Finset (Fin 7)) = ∅ from hi_all, show (lo 7 : Finset (Fin 7)) = Finset.univ from lo_all, bigSep_empty]
  iintro ⟨-, H⟩
  iapply (partAll (s := Finset.univ) (Φ := fun t : Fin 7 => atPos ER (cell c (.hop b false t)) 1 ∅ 0)
    (Ψ := fun t : Fin 7 => ownsTc c (srcM b t) fullShare.right (blk D b c t.val))) $$ H

/-- What the body leaves. -/
def Done : sProp 𝕄 :=
  iprop(semVal (cell c .bar) 0 ∗ bigSep Finset.univ (fun o : OK => semVal (cell c (okKind o)) 0) ∗ Ow c 0
    ∗ Ins D c (ownsTc c K0.out fullShare (out7 D c)) ∗ Scr c)

theorem body_spec (Φ : PUnit → sProp 𝕄) :
    iprop(Ctx D K c ∗ Opened c ∗ Ow c (O₀ c) ∗ Ins D c iprop(∃ O, ownsTc c K0.out fullShare O) ∗ Scr c)
      ⊢ iprop((Done D c -∗ Φ ⟨⟩) -∗ WP c (bodyAt0 t0_0) Φ) := by
  rw [bodyAt_eq]
  unfold Done Opened Ins Scr CtxAny
  rw [ok_split (fun κ => atPos ER (cell c κ) 0 ∅ 0)]
  iintro ⟨#Hc, ⟨Hbar, ⟨⟨⟨HsF, HrF⟩, HsT, HrT⟩, HkF, HkT⟩, ⟨Hd1, Hd2, Hcr⟩, ⟨HdF, HdT⟩, ⟨HcF, HcT⟩, HtF, HtT⟩, HO,
    ⟨Hx, Hwq, Hwo, ⟨HmF, HmT⟩, ⟨%O, Hout⟩⟩, HslF, HslT, ⟨%X1, HkbF⟩, ⟨%X2, HkbT⟩, ⟨%X3, Hctx⟩, ⟨%X4, Hq⟩, ⟨%X5, Hbias⟩, ⟨%Z, HZ⟩⟩ Hk
  unfold staged WP
  rw [wp_bind, lift_eq, wp_deviceId, wp_ret]
  imodintro
  rw [wp_bind]
  iapply (step0_spec D K c X1 X2 X4 X3 X5 O) $$ [Hbar HrF HrT HkF HkT Hd1 Hd2 Hcr HdF HdT HcF HcT HtF HtT HO Hx Hwq Hwo HmF HmT Hout HslF HslT HkbF HkbT Hctx Hq Hbias]
  · isplitr; · iexact Hc
    isplitl [HslF HslT Hd1 Hd2 Hcr Hbar HO]
    · isplitl [HslF]; · iexact HslF
      isplitl [HslT]; · iexact HslT
      isplitl [Hd1]; · iexact Hd1
      isplitl [Hd2]; · iexact Hd2
      isplitl [Hcr]; · iexact Hcr
      isplitl [Hbar]; · iexact Hbar
      iexact HO
    isplitl [HdF HcF HrF HdT HcT HrT]
    · isplitl [HdF HcF HrF]
      · iapply (ring0_intro c false)
        isplitl [HdF]; · iexact HdF
        isplitl [HcF]; · iexact HcF
        iexact HrF
      · iapply (ring0_intro c true)
        isplitl [HdT]; · iexact HdT
        isplitl [HcT]; · iexact HcT
        iexact HrT
    isplitl [HkF HtF HmF HkbF HkT HtT HmT HkbT]
    · unfold KVs
      isplitl [HkF HtF HmF HkbF]
      · iapply (kv_intro D K c false X1)
        isplitr; · iexact Hc
        isplitl [HkF]; · iexact HkF
        isplitl [HtF]; · iexact HtF
        isplitl [HmF]; · iexact HmF
        iexact HkbF
      · iapply (kv_intro D K c true X2)
        isplitr; · iexact Hc
        isplitl [HkT]; · iexact HkT
        isplitl [HtT]; · iexact HtT
        isplitl [HmT]; · iexact HmT
        iexact HkbT
    isplitl [Hx]; · iexact Hx
    isplitl [Hwq]; · iexact Hwq
    isplitl [Hwo]; · iexact Hwo
    isplitl [Hq]; · iexact Hq
    isplitl [Hbias]; · iexact Hbias
    isplitl [Hctx]; · iexact Hctx
    iexact Hout
  iintro ⟨Hbar, Hwq, Hwo, HH, Hf, HB, HX, Hout⟩
  rw [wp_bind]
  iapply (step1_spec D K c Z) $$ [HH Hf HB HZ]
  · isplitr; · iexact Hc
    isplitl [HH]; · iexact HH
    isplitl [Hf]; · iexact Hf
    isplitl [HB]; · iexact HB
    iexact HZ
  iintro ⟨HH, Hf, HB, HZ⟩
  rw [wp_bind]
  iapply (step2_spec D K c _) $$ [HH Hf HB HZ]
  · isplitr; · iexact Hc
    isplitl [HH]; · iexact HH
    isplitl [Hf]; · iexact Hf
    isplitl [HB]; · iexact HB
    iexact HZ
  iintro ⟨HH, Hf, HB, HZ⟩
  rw [wp_bind]
  iapply (step3_spec D K c) $$ [HH]
  · isplitr; · iexact Hc
    iexact HH
  iintro HH
  rw [wp_bind]
  iapply (step4_spec D K c) $$ [HH Hf HB HX Hout]
  · isplitr; · iexact Hc
    isplitl [HH]; · iexact HH
    isplitl [Hf]; · iexact Hf
    isplitl [HB]; · iexact HB
    isplitl [HX]; · iexact HX
    iexact Hout
  iintro ⟨HH, Hf, HB, HX, Hout⟩
  rw [wp_bind]
  iapply (step5_spec D K c) $$ [HH Hf HB HX Hout]
  · isplitr; · iexact Hc
    isplitl [HH]; · iexact HH
    isplitl [Hf]; · iexact Hf
    isplitl [HB]; · iexact HB
    isplitl [HX]; · iexact HX
    iexact Hout
  iintro ⟨HH, Hf, HB, HX, Hout⟩
  rw [wp_bind]
  iapply (step6_spec D K c Z) $$ [HH Hf HB HX Hout HZ]
  · isplitr; · iexact Hc
    isplitl [HH]; · iexact HH
    isplitl [Hf]; · iexact Hf
    isplitl [HB]; · iexact HB
    isplitl [HX]; · iexact HX
    isplitl [Hout]; · iexact Hout
    iexact HZ
  iintro ⟨HH, Hf, HB, HX, Hout, HZ⟩
  rw [wp_bind]
  iapply (step7_spec D K c Z) $$ [HH Hf HB HX Hout HZ]
  · isplitr; · iexact Hc
    isplitl [HH]; · iexact HH
    isplitl [Hf]; · iexact Hf
    isplitl [HB]; · iexact HB
    isplitl [HX]; · iexact HX
    isplitl [Hout]; · iexact Hout
    iexact HZ
  unfold Hops KVs KV Base CtxAny
  rw [owR_end, owR_end, add_zero]
  iintro ⟨⟨HRF, HRT, HO⟩, ⟨H6F, H6T⟩, ⟨⟨HkF, -, -, HmF, HkbF⟩, HkT, -, -, HmT, HkbT⟩, ⟨Hx, Hbias, Hq⟩, HX, Hout, HZ⟩
  ihave HF := (ring_done D c false) $$ [HRF HsF]
  · isplitl [HRF]; · iexact HRF
    iexact HsF
  icases HF with ⟨HSF, HlF, HaF⟩
  ihave HT := (ring_done D c true) $$ [HRT HsT]
  · isplitl [HRT]; · iexact HRT
    iexact HsT
  icases HT with ⟨HST, HlT, HaT⟩
  rw [wp_bind]
  iapply (drain_spec D K c) $$ [HSF HST HO]
  · isplitr; · iexact Hc
    unfold Sents
    isplitl [HSF]; · iexact HSF
    isplitl [HST]; · iexact HST
    iexact HO
  unfold Sents
  iintro ⟨HSF, HST, HO⟩
  ihave HF := (sent_done D c false) $$ HSF
  icases HF with ⟨HsF, HbF⟩
  ihave HT := (sent_done D c true) $$ HST
  icases HT with ⟨HsT, HbT⟩
  ihave HF := (whole_again D c false) $$ [HlF HbF H6F Hwq]
  · isplitl [HlF]; · iexact HlF
    isplitl [HbF]; · iexact HbF
    isplitl [H6F]; · iexact H6F
    iexact Hwq
  icases HF with ⟨HslF, Hwq⟩
  ihave HT := (whole_again D c true) $$ [HlT HbT H6T Hwo]
  · isplitl [HlT]; · iexact HlT
    isplitl [HbT]; · iexact HbT
    isplitl [H6T]; · iexact H6T
    iexact Hwo
  icases HT with ⟨HslT, Hwo⟩
  rw [show (pure ⟨⟩ : Pg F PUnit) = .ret ⟨⟩ from rfl, wp_ret]
  imod (close_bar D K c) $$ [Hbar] with Hbar
  · isplitr; · iexact Hc
    iexact Hbar
  imod (close_own D K c) $$ [HsF HaF HsT HaT HkF HkT] with Hown
  · isplitr; · iexact Hc
    iapply (Entails.of_eq (ok_split (fun κ => atPos ER (cell c κ) (rounds κ) ∅ 0)).symm)
    isplitl [HsF HaF HsT HaT]
    · isplitl [HsF HaF]
      · isplitl [HsF]; · iexact HsF
        iexact HaF
      · isplitl [HsT]; · iexact HsT
        iexact HaT
    · isplitl [HkF]; · iexact HkF
      iexact HkT
  imodintro
  iapply Hk
  isplitl [Hbar]; · iexact Hbar
  isplitl [Hown]; · iexact Hown
  isplitl [HO]; · iexact HO
  isplitl [Hx Hwq Hwo HmF HmT Hout]
  · isplitl [Hx]; · iexact Hx
    isplitl [Hwq]; · iexact Hwq
    isplitl [Hwo]; · iexact Hwo
    isplitl [HmF HmT]
    · isplitl [HmF]; · iexact HmF
      iexact HmT
    iexact Hout
  isplitl [HslF]; · iexact HslF
  isplitl [HslT]; · iexact HslT
  isplitl [HkbF]; · iexists _; iexact HkbF
  isplitl [HkbT]; · iexists _; iexact HkbT
  isplitl [HX]; · iexact HX
  isplitl [Hq]; · iexact Hq
  isplitl [Hbias]; · iexists _; iexact Hbias
  iexists _; iexact HZ

end

end Cert.KernelIdeal.Att
-- ==== Proof.Slots.lean ====
/- A ring's scratch buffer as its seven slots, and the slots as the buffer again. -/
module

public import proofs.«01_k».proof.Proof.Finish
public import Idealize.ShloMosaic.Lib.Ring
public import Idealize.ShloMosaic.Lib.Memref

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

/-- The elements of slot `t`. -/
def slotSet (t : Fin 7) : Finset S7x1024x1024.Idx := (Rect.unit (s := S7x1024x1024) ![t.val, 0, 0] S1x1024x1024.size (slotInb t)).set

theorem mem_slotSet (t : Fin 7) (i : S7x1024x1024.Idx) : i ∈ slotSet t ↔ (i 0).val = t.val := by
  unfold slotSet
  rw [Rect.mem_set_unit]
  constructor
  · intro h
    have h0 := h 0
    have e1 : (![t.val, 0, 0] : Fin 3 → ℕ) 0 = t.val := rfl
    have e2 : S1x1024x1024.size 0 = 1 := rfl
    rw [e2] at h0
    have h1 : t.val ≤ (i 0).val := h0.1
    have h2 : (i 0).val < t.val + 1 := h0.2
    omega
  · intro h a
    match a with
    | ⟨0, _⟩ => exact ⟨le_of_eq h.symm, show (i 0).val < t.val + 1 by omega⟩
    | ⟨1, _⟩ => exact ⟨Nat.zero_le _, show (i 1).val < 0 + 1024 by have := (i 1).isLt; have e : S7x1024x1024.size 1 = 1024 := rfl; omega⟩
    | ⟨2, _⟩ => exact ⟨Nat.zero_le _, show (i 2).val < 0 + 1024 by have := (i 2).isLt; have e : S7x1024x1024.size 2 = 1024 := rfl; omega⟩

theorem slotSet_disj (t t' : Fin 7) (h : t ≠ t') : Disjoint (slotSet t) (slotSet t') := by
  rw [Finset.disjoint_left]
  intro i h1 h2
  rw [mem_slotSet] at h1 h2
  exact h (Fin.ext (h1.symm.trans h2))

theorem slotSet_cover : Finset.univ.biUnion slotSet = Finset.univ := by
  ext i
  simp only [Finset.mem_biUnion, Finset.mem_univ, true_and, iff_true]
  exact ⟨⟨(i 0).val, (i 0).isLt⟩, (mem_slotSet _ _).mpr rfl⟩

variable (c : Dev nD) (b : Bool)

/-- Slot `t`'s elements, in the buffer. -/
def slotS (t : Fin 7) : Finset (Idx ((ring b).view.loc (c : Thread nD τ))) := (ring b).view.setOn (slotSet t)

theorem slotS_disj (t t' : Fin 7) (h : t ≠ t') : Disjoint (slotS c b t) (slotS c b t') :=
  (Finset.disjoint_map _).mpr (slotSet_disj t t' h)

theorem slotS_cover : Finset.univ.biUnion (slotS c b) = Finset.univ := by
  cases b
  · exact (Finset.biUnion_congr rfl fun t _ => Finset.map_refl).trans slotSet_cover
  · exact (Finset.biUnion_congr rfl fun t _ => Finset.map_refl).trans slotSet_cover

theorem slot_in (t : Fin 7) (f : Buf (Elt F) ((ring b).view.loc (c : Thread nD τ))) :
    iprop(((ring b).view.loc (c : Thread nD τ)) ↦[slotS c b t]{fullShare} f) ⊢ (iprop(∃ X, ownsTc c (slot (ring b) t) fullShare X) : sProp 𝕄) := by
  have h := owns_intro (Val := Elt F) (Ix := Unit) (Name := ℕ) (U := UU) (Lvl := ℕ) (c : Thread nD τ) (slot (ring b) t) fullShare f
  rw [slot_set] at h
  iintro H
  iexists _
  iapply h
  iexact H

theorem slot_out (t : Fin 7) :
    (iprop(∃ X, ownsTc c (slot (ring b) t) fullShare X) : sProp 𝕄)
      ⊢ iprop(∃ f : Buf (Elt F) ((ring b).view.loc (c : Thread nD τ)), ((ring b).view.loc (c : Thread nD τ)) ↦[slotS c b t]{fullShare} f) := by
  iintro ⟨%X, H⟩
  ihave H' := (owns_def c (slot (ring b) t) fullShare X) $$ H
  rw [slot_set]
  icases H' with ⟨%f, -, H⟩
  iexists f
  iexact H

/-- The whole scratch, as slots. -/
theorem slots_of : iprop(∃ f : Buf (Elt F) ((ring b).view.loc (c : Thread nD τ)), ((ring b).view.loc (c : Thread nD τ)) ↦{fullShare} f) ⊢ (slots c b : sProp 𝕄) := by
  iintro ⟨%f, H⟩
  ihave H := (Entails.of_eq (Ring.pointsTo_blocks (slotS c b) (slotS_disj c b) (slotS_cover c b) f)) $$ H
  unfold slots
  iapply (monoAll (s := Finset.univ) (fun t _ => slot_in c b t f)) $$ H

/-- The slots, as the whole scratch. -/
theorem of_slots (f₀ : Buf (Elt F) ((ring b).view.loc (c : Thread nD τ))) :
    (slots c b : sProp 𝕄) ⊢ iprop(∃ f : Buf (Elt F) ((ring b).view.loc (c : Thread nD τ)), ((ring b).view.loc (c : Thread nD τ)) ↦{fullShare} f) := by
  unfold slots
  exact BI.Entails.trans (monoAll (s := Finset.univ) (fun t _ => slot_out c b t))
    (Ring.pointsTo_blocks_join_exists (slotS c b) (slotS_disj c b) (slotS_cover c b) f₀)

end Cert.KernelIdeal.Att
-- ==== Proof.Start.lean ====
/- The kernel's region: the data of its windows, its body's obligation, and what enters and leaves it. -/
module

public import proofs.«01_k».proof.Proof.Slots
public import proofs.«01_k».proof.Proof.Gen.KernelIdeal.Regions
public import Idealize.ShloMosaic.Lib.Pipeline.RegionTalk

@[expose] public section

set_option maxRecDepth 100000

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

variable (m : (ℓ : Loc nD τ sig) → Buf (Elt F) ℓ)

/-- What the devices hold when the kernel starts: the operands in memory after the host's operations. -/
def DM : Data F where
  x c := V4 m c main_v5
  w | false => fun c => V4 m c main_arg1 | true => fun c => V4 m c main_arg4
  kv | false => fun c => V4 m c main_v8 | true => fun c => V4 m c main_v9

/-! ## The windows -/

/-- The window's array when the kernel starts. -/
abbrev arr0 (c : Dev nD) (w : Fin cfg0.W) : Buf (Elt F) ((cfg0.win w).arr.view.loc (c : Thread nD τ)) := V4 m c (Proc.devRef .tc (arrRef spec0 w))

theorem blk_x (c : Dev nD) (f : Buf (Elt F) ((cfg0.win 0).arr.view.loc (c : Thread nD τ))) : ((cfg0.win 0).blk t0_0).view.read (Elt F) f = f := by
  funext j
  refine congrArg f (funext fun a => Fin.ext ?_)
  show 0 * _ + 1 * (j a).val = (j a).val
  omega
theorem blk_wq (c : Dev nD) (f : Buf (Elt F) ((cfg0.win 1).arr.view.loc (c : Thread nD τ))) : ((cfg0.win 1).blk t0_0).view.read (Elt F) f = f := by
  funext j
  refine congrArg f (funext fun a => Fin.ext ?_)
  show 0 * _ + 1 * (j a).val = (j a).val
  omega
theorem blk_wo (c : Dev nD) (f : Buf (Elt F) ((cfg0.win 2).arr.view.loc (c : Thread nD τ))) : ((cfg0.win 2).blk t0_0).view.read (Elt F) f = f := by
  funext j
  refine congrArg f (funext fun a => Fin.ext ?_)
  show 0 * _ + 1 * (j a).val = (j a).val
  omega

/-- K and V of this device, in memory. -/
def KVm (c : Dev nD) : sProp 𝕄 :=
  iprop(ownsTc c (kvM false) fullShare ((DM m).kv false c) ∗ ownsTc c (kvM true) fullShare ((DM m).kv true c))

/-- What the body starts from, beside its windows. -/
def PhiIn (c : Dev nD) : sProp 𝕄 := iprop((∃ K, Ctx (DM m) K c) ∗ Opened c ∗ KVm m c ∗ Scr c ∗ ∃ r, prngReg c r)
/-- What it leaves, beside them. -/
def PhiOut (c : Dev nD) : sProp 𝕄 :=
  iprop(semVal (cell c .bar) 0 ∗ bigSep Finset.univ (fun o : OK => semVal (cell c (okKind o)) 0) ∗ KVm m c ∗ Scr c ∗ ∃ r, prngReg c r)

def dat0 (c : Dev nD) : Pipeline.Dat τ (Elt F) Unit ℕ UU ℕ cfg0 c where
  A w := arr0 m c w
  after w _ := match w with
    | ⟨0, _⟩ => (DM m).x c
    | ⟨1, _⟩ => (DM m).w false c
    | ⟨2, _⟩ => (DM m).w true c
    | ⟨3, _⟩ => out7 (DM m) c
  Φ t := if t.val = 0 then PhiIn m c else PhiOut m c
  q _ := fullShare
  owed t := if t.val = 0 then O₀ c else 0

def pdats : (p : Fin 1) → (c : Dev nD) → Pipeline.Dat τ (Elt F) Unit ℕ UU ℕ (Pipeline.pin (pcfgs (F := F)) adm p) c
  | 0 => dat0 m

theorem owed_first (c : Dev nD) : (dat0 m c).owed t0_0.castSucc = O₀ c := by
  show (if (t0_0.castSucc : Fin (cfg0.N + 1)).val = 0 then O₀ c else 0) = O₀ c; exact if_pos rfl
theorem owed_succ (c : Dev nD) : (dat0 m c).owed t0_0.succ = 0 := by
  show (if (t0_0.succ : Fin (cfg0.N + 1)).val = 0 then O₀ c else 0) = 0
  exact if_neg (Nat.succ_ne_zero _)

theorem owes_in (c : Dev nD) (t : Fin (cfg0.N + 1)) (O : CellTallies nD τ sig Unit) (h0 : (dat0 m c).owed t = O) :
    (Ow c O : sProp 𝕄) ⊢ ((dat0 m c).owesAt () t : sProp 𝕄) := by
  unfold Ow Dat.owesAt Pipeline.owesWithin Dat.bound
  rw [h0]
  iintro ⟨%W, HO⟩
  iexists W
  isplitr; · ipureintro; exact fun _ _ => Or.inl trivial
  iexact HO
theorem owes_out (c : Dev nD) (t : Fin (cfg0.N + 1)) (O : CellTallies nD τ sig Unit) (h0 : (dat0 m c).owed t = O) :
    ((dat0 m c).owesAt () t : sProp 𝕄) ⊢ Ow c O := by
  unfold Ow Dat.owesAt Pipeline.owesWithin
  rw [h0]
  iintro ⟨%W, -, HO⟩
  iexists W
  iexact HO

theorem before_x (c : Dev nD) (d) : (dat0 m c).before 0 t0_0 d = (DM m).x c := by
  unfold Dat.before; rw [if_pos (fetch0_0 t0_0)]; exact blk_x (F := F) c ((DM m).x c)
theorem before_wq (c : Dev nD) (d) : (dat0 m c).before 1 t0_0 d = (DM m).w false c := by
  unfold Dat.before; rw [if_pos (fetch0_1 t0_0)]; exact blk_wq (F := F) c _
theorem before_wo (c : Dev nD) (d) : (dat0 m c).before 2 t0_0 d = (DM m).w true c := by
  unfold Dat.before; rw [if_pos (fetch0_2 t0_0)]; exact blk_wo (F := F) c _

/-! ## The body's obligation -/

theorem body_main (c : Dev nD) :
    iprop(PhiIn m c ∗ (dat0 m c).owesAt () t0_0.castSucc
        ∗ (∃ d, ownsTc c K0.x fullShare ((dat0 m c).before 0 t0_0 d)) ∗ (∃ d, ownsTc c K0.wq fullShare ((dat0 m c).before 1 t0_0 d))
        ∗ (∃ d, ownsTc c K0.wo fullShare ((dat0 m c).before 2 t0_0 d)) ∗ (∃ d, ownsTc c K0.out fullShare ((dat0 m c).before 3 t0_0 d)))
      ⊢ WP c (bodyAt0 t0_0) fun _ => iprop(PhiOut m c ∗ (dat0 m c).owesAt () t0_0.succ
        ∗ ownsTc c K0.x fullShare ((DM m).x c) ∗ ownsTc c K0.wq fullShare ((DM m).w false c)
        ∗ ownsTc c K0.wo fullShare ((DM m).w true c) ∗ ownsTc c K0.out fullShare (out7 (DM m) c)) := by
  simp only [before_x, before_wq, before_wo]
  unfold PhiIn PhiOut KVm
  iintro ⟨⟨⟨%K, #Hc⟩, Hop, Hkv, Hscr, Hreg⟩, HO, ⟨%d0, H0⟩, ⟨%d1, H1⟩, ⟨%d2, H2⟩, ⟨%d3, H3⟩⟩
  ihave HO := (owes_out m c t0_0.castSucc (O₀ c) (owed_first m c)) $$ HO
  iapply (body_spec (DM m) K c) $$ [Hop Hkv Hscr HO H0 H1 H2 H3]
  · isplitr; · iexact Hc
    isplitl [Hop]; · iexact Hop
    isplitl [HO]; · iexact HO
    isplitr [Hscr]
    · unfold Ins
      isplitl [H0]; · iexact H0
      isplitl [H1]; · iexact H1
      isplitl [H2]; · iexact H2
      isplitl [Hkv]; · iexact Hkv
      iexists _; iexact H3
    · iexact Hscr
  unfold Done Ins
  iintro ⟨Hb, Hs, HO, ⟨H0, H1, H2, Hkv, H3⟩, Hscr⟩
  isplitl [Hb Hs Hkv Hscr Hreg]
  · isplitl [Hb]; · iexact Hb
    isplitl [Hs]; · iexact Hs
    isplitl [Hkv]; · iexact Hkv
    isplitl [Hscr]; · iexact Hscr
    iexact Hreg
  isplitl [HO]
  · iapply (owes_in m c t0_0.succ 0 (owed_succ m c)); iexact HO
  isplitl [H0]; · iexact H0
  isplitl [H1]; · iexact H1
  isplitl [H2]; · iexact H2
  iexact H3

theorem body_obligation (c : Dev nD) : BodyObligation (dat0 (F := F) m c) (defs₀ (F := F)) 𝒱₀ () Set.univ := fun t => by
  obtain rfl := fin_N0 t
  rw [bigSep_W0, bigSep_W0]
  exact body_main m c

/-! ## In and out of the region -/

/-- The scratch buffers, whole at some contents, as the body takes them. -/
theorem scr_in (c : Dev nD) : (Pipeline.scopedRest (Ix := Unit) (Name := ℕ) (U := UU) (Lvl := ℕ) (Val := Elt F) spec0 c : sProp 𝕄) ⊢ Scr c := by
  rw [scopedRest0_eq]
  unfold Scr CtxAny
  simp only [kvB, owns_whole]
  iintro ⟨H0, H1, H2, H3, H4, H5, H6, H7⟩
  isplitl [H0]; · iapply (slots_of c false); iexact H0
  isplitl [H1]; · iapply (slots_of c true); iexact H1
  isplitl [H2]; · iexact H2
  isplitl [H3]; · iexact H3
  isplitl [H4]; · iexact H4
  isplitl [H5]; · iexact H5
  isplitl [H6]; · iexact H6
  iexact H7

theorem scr_out (c : Dev nD) : Scr c ⊢ (Pipeline.scopedRest (Ix := Unit) (Name := ℕ) (U := UU) (Lvl := ℕ) (Val := Elt F) spec0 c : sProp 𝕄) := by
  rw [scopedRest0_eq]
  unfold Scr CtxAny
  simp only [kvB, owns_whole]
  iintro ⟨H0, H1, H2, H3, H4, H5, H6, ⟨%X, H7⟩⟩
  isplitl [H0]; · iapply (of_slots c false (fun _ => FloatOps.ofBits (F := F) .bf16 0)); iexact H0
  isplitl [H1]; · iapply (of_slots c true (fun _ => FloatOps.ofBits (F := F) .bf16 0)); iexact H1
  isplitl [H2]; · iexact H2
  isplitl [H3]; · iexact H3
  isplitl [H4]; · iexact H4
  isplitl [H5]; · iexact H5
  isplitl [H6]; · iexact H6
  iexists X; iexact H7

end Cert.KernelIdeal.Att
-- ==== Proof.Region.lean ====
module

public import proofs.«01_k».proof.Proof.Start

@[expose] public section

noncomputable section

/-! The region of the kernel: what it takes in, what it gives back, as a segment of the program. -/

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

/-- Over the kinds: the barrier, then the kernel's own semaphores. -/
theorem kind_split (Φ : Kind → sProp 𝕄) : bigSep Finset.univ Φ = iprop(Φ .bar ∗ bigSep Finset.univ (fun o : OK => Φ (okKind o))) := by
  rw [bigSep_univ_equiv kindEquiv, bigSep_univ_sum, Finset.univ_unique, bigSep_singleton]
  refine congrArg _ (bigSep_congr fun o _ => ?_)
  rcases o with ⟨b, d, t⟩ | b <;> rfl

/-! ## Opening the kernel's own semaphores -/

/-- What every device may consult from the launch on. -/
def Recs (D : Data F) (K : GSem nD τ sig → ℕ) : sProp 𝕄 :=
  iprop(bigSep Finset.univ (fun p : Dev nD × Kind => cellInv ER (rd D) (K (cell p.1 p.2)) (cell p.1 p.2))
    ∗ bigSep Finset.univ (fun d : Dev nD => reached ER (cell d .bar) 0))

instance recs_persistent (D : Data F) (K : GSem nD τ sig → ℕ) : BI.Persistent (Recs D K) := by unfold Recs; infer_instance

/-- The tokens of the duties the device pays, and the credit of what it is owed. -/
def Rights (c : Dev nD) : sProp 𝕄 :=
  iprop((dutyTok ER (cell (nbr true c) .bar) 0 false ∗ dutyTok ER (cell (nbr false c) .bar) 0 true ∗ cred (tallyAt (cell c .bar) () 2))
    ∗ (Duty c false ∗ Duty c true) ∗ (Cred c false ∗ Cred c true) ∗ (toks c false 0 ∗ toks c true 0))

/-- What a device brings to the region, beside its buffers. -/
def Brought (D : Data F) (c : Dev nD) : sProp 𝕄 :=
  iprop((∃ K, Recs D K) ∗ atPos ER (cell c .bar) 0 ∅ 0 ∗ bigSep Finset.univ (fun o : OK => openTok ER (cell c (okKind o))) ∗ Rights c)

def osem (o : OK) : SemLoc sig := semOf (okKind o)

theorem recs_inv (D : Data F) (K : GSem nD τ sig → ℕ) (c : Dev nD) (κ : Kind) : Recs D K ⊢ cellInv ER (rd D) (K (cell c κ)) (cell c κ) := by
  unfold Recs
  iintro ⟨#H, -⟩
  iapply (elimAt (Φ := fun p : Dev nD × Kind => cellInv ER (rd D) (K (cell p.1 p.2)) (cell p.1 p.2)) (Finset.mem_univ (c, κ)))
  iexact H

theorem recs_bar (D : Data F) (K : GSem nD τ sig → ℕ) (c : Dev nD) : Recs D K ⊢ reached ER (cell c .bar) 0 := by
  unfold Recs
  iintro ⟨-, #H⟩
  iapply (elimAt (Φ := fun d : Dev nD => reached ER (cell d .bar) 0) (Finset.mem_univ c))
  iexact H

theorem open_one (D : Data F) (K : GSem nD τ sig → ℕ) (c : Dev nD) (κ : Kind) :
    iprop(Recs D K ∗ (openTok ER (cell c κ) ∗ semVal (cell c κ) 0))
      ⊢ (|={Set.univ}=> (atPos ER (cell c κ) 0 ∅ 0 ∗ reached ER (cell c κ) 0) : sProp 𝕄) := by
  iintro ⟨#HR, Ho, Hs⟩
  iapply (Rounds.cell_open ER (rd D) (g := cell c κ) (Set.mem_univ (K (cell c κ))))
  isplitr; · iapply (recs_inv D K c κ); iexact HR
  isplitl [Ho]; · iexact Ho
  iexact Hs

theorem open_all (D : Data F) (K : GSem nD τ sig → ℕ) (c : Dev nD) :
    iprop(Recs D K ∗ bigSep Finset.univ (fun o : OK => iprop(openTok ER (cell c (okKind o)) ∗ semVal (cell c (okKind o)) 0)))
      ⊢ (|={Set.univ}=> bigSep Finset.univ (fun o : OK => iprop(atPos ER (cell c (okKind o)) 0 ∅ 0 ∗ reached ER (cell c (okKind o)) 0)) : sProp 𝕄) :=
  (bigSep_with_persistent (R := Recs D K) (S := Finset.univ) (Φ := fun o : OK => iprop(openTok ER (cell c (okKind o)) ∗ semVal (cell c (okKind o)) 0))
    (Ψ := fun o : OK => iprop(|={Set.univ}=> (atPos ER (cell c (okKind o)) 0 ∅ 0 ∗ reached ER (cell c (okKind o)) 0)))
    (fun o _ => open_one D K c (okKind o))).trans (bigSep_fupd _ _)

theorem open_ctx (D : Data F) (K : GSem nD τ sig → ℕ) (c : Dev nD) :
    iprop(Recs D K ∗ bigSep Finset.univ (fun o : OK => reached ER (cell c (okKind o)) 0) ∗ levAts L lv) ⊢ Ctx D K c := by
  unfold Ctx
  rw [kind_split (fun κ => reached ER (cell c κ) 0)]
  iintro ⟨#HR, #Ho, #HL⟩
  isplitr; · unfold Recs; icases HR with ⟨H1, -⟩; iexact H1
  isplitr; · unfold Recs; icases HR with ⟨-, H2⟩; iexact H2
  isplitr
  · isplitr; · iapply (recs_bar D K c); iexact HR
    iexact Ho
  iexact HL

theorem own_sems (c : Dev nD) : (Pipeline.ownSems0 osem c : sProp 𝕄) = bigSep Finset.univ (fun o : OK => semVal (cell c (okKind o)) 0) := rfl

theorem region_open (D : Data F) (c : Dev nD) :
    iprop(Brought D c ∗ Pipeline.ownSems0 osem c ∗ levAts L lv) ⊢ (|={Set.univ}=> iprop((∃ K, Ctx D K c) ∗ Opened c) : sProp 𝕄) := by
  rw [own_sems]
  unfold Brought
  iintro ⟨⟨⟨%K, #HR⟩, Hbar, Ho, Hrest⟩, Hs, #HL⟩
  imod (open_all D K c) $$ [Ho Hs] with H
  · isplitr; · iexact HR
    iapply joinAll
    isplitl [Ho]; · iexact Ho
    iexact Hs
  ihave H := partAll $$ H
  icases H with ⟨Hat, #Hr⟩
  imodintro
  isplitr
  · iexists K
    iapply (open_ctx D K c)
    isplitr; · iexact HR
    isplitr; · iexact Hr
    iexact HL
  unfold Opened Rights
  isplitl [Hbar]; · iexact Hbar
  isplitl [Hat]; · iexact Hat
  iexact Hrest

/-! ## The buffers -/

variable (m : (ℓ : Loc nD τ sig) → Buf (Elt F) ℓ)

/-- The buffers after the region: the result written, the rest as before. -/
def VN (c : Dev nD) : Valuation τ sig (Elt F) := Function.update (V4 m c) main_v10 (out7 (DM m) c)

theorem VN_of (c : Dev nD) (r : Ref sig .tc) (h : r ≠ main_v10) : VN m c r = V4 m c r := by
  unfold VN; exact Function.update_of_ne (StableHlo.devRef_ne_of_ne h) _ _
theorem VN_out (c : Dev nD) : VN m c main_v10 = out7 (DM m) c := by unfold VN; exact Function.update_self _ _ _

/-- K and V in memory. -/
abbrev Hs : Finset (DevRef τ sig) := {Proc.devRef .tc main_v8, Proc.devRef .tc main_v9}
/-- The buffers in memory that no window stages. -/
abbrev Sr : Finset (DevRef τ sig) := Pipeline.ucRefs τ sig \ Pipeline.arrRefs (τ := τ) spec0

theorem Hs_sub : Hs ⊆ Sr := by decide

theorem held_kv (c : Dev nD) (W : Valuation τ sig (Elt F)) : (StableHlo.held (c : Thread nD τ) Hs W : sProp 𝕄)
    = iprop(ownsTc c (kvM false) fullShare (W main_v8) ∗ ownsTc c (kvM true) fullShare (W main_v9)) := by
  unfold StableHlo.held
  rw [bigSep_eq_bigSepL_of_eq [Proc.devRef .tc main_v8, Proc.devRef .tc main_v9] (by decide) (by decide)]
  simp only [kvM, owns_whole]
  rfl

theorem hin (c : Dev nD) : iprop(Pipeline.scopedRest spec0 c ∗ (∃ r, prngReg c r) ∗ StableHlo.held (c.tc : Thread nD τ) Hs (V4 m c)
      ∗ ((∃ K, Ctx (DM m) K c) ∗ Opened c)) ⊢ PhiIn m c := by
  rw [held_kv]
  unfold PhiIn KVm
  iintro ⟨Hs, Hp, Hkv, HK, Ho⟩
  isplitl [HK]; · iexact HK
  isplitl [Ho]; · iexact Ho
  isplitl [Hkv]; · iexact Hkv
  isplitl [Hs]; · iapply (scr_in c); iexact Hs
  iexact Hp

theorem hout (c : Dev nD) : PhiOut m c ⊢ iprop(Pipeline.scopedRest spec0 c ∗ (∃ r, prngReg c r) ∗ StableHlo.held (c.tc : Thread nD τ) Hs (VN m c)
      ∗ Pipeline.ownSems0 osem c ∗ semVal (cell c .bar) 0) := by
  rw [held_kv, VN_of m c main_v8 (by decide), VN_of m c main_v9 (by decide)]
  unfold PhiOut KVm
  iintro ⟨Hb, Ho, Hkv, Hs, Hp⟩
  isplitl [Hs]; · iapply (scr_out c); iexact Hs
  isplitl [Hp]; · iexact Hp
  isplitl [Hkv]; · iexact Hkv
  isplitl [Ho]
  · iapply (Entails.of_eq (own_sems c).symm); iexact Ho
  iexact Hb

/-! ## The result's array -/

theorem blk_out (c : Dev nD) (f : Buf (Elt F) ((cfg0.win 3).arr.view.loc (c : Thread nD τ))) : ((cfg0.win 3).blk t0_0).view.read (Elt F) f = f := by
  funext j
  refine congrArg f (funext fun a => Fin.ext ?_)
  show 0 * _ + 1 * (j a).val = (j a).val
  omega

theorem out_arr (c : Dev nD) : (dat0 m c).arrAt 3 cfg0.N = out7 (DM m) c := by
  rw [show cfg0.N = (t0_0 : Fin cfg0.N).val + 1 from rfl, Dat.arrAt_succ, if_pos (flush0_3 t0_0)]
  refine (blk_out (F := F) c _).symm.trans ?_
  exact View.read_write_univ _ _

theorem arr_in (c : Dev nD) (w : Fin cfg0.W) : (dat0 m c).arrAt w 0 = V4 m c (Proc.devRef .tc (arrRef spec0 w)) := rfl

theorem arr_out (c : Dev nD) : ∀ w : Fin cfg0.W, (dat0 m c).arrAt w cfg0.N = VN m c (Proc.devRef .tc (arrRef spec0 w))
  | ⟨0, _⟩ => ((dat0 m c).arrAt_in 0 rfl _).trans (VN_of m c main_v5 (by decide)).symm
  | ⟨1, _⟩ => ((dat0 m c).arrAt_in 1 rfl _).trans (VN_of m c main_arg1 (by decide)).symm
  | ⟨2, _⟩ => ((dat0 m c).arrAt_in 2 rfl _).trans (VN_of m c main_arg4 (by decide)).symm
  | ⟨3, _⟩ => (out_arr m c).trans (VN_out m c).symm

/-! ## The region's record -/

theorem O₀_cut (c : Dev nD) (g : GSem nD τ sig) (i : Unit) (h : 0 < O₀ c g i) : i ∈ L g ∧ (0 : ℕ) < lv g i := by
  have at_cell (d : Dev nD) (κ : Kind) (hκ : 0 < lvOf (some κ)) : i ∈ L (cell d κ) ∧ (0 : ℕ) < lv (cell d κ) i := ⟨mem_L d _, by rw [lv_cell]; exact hκ⟩
  unfold O₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨t, -, rfl⟩ := owR_pos h; exact at_cell _ _ (Nat.succ_pos _)
      · obtain ⟨t, -, rfl⟩ := owR_pos h; exact at_cell _ _ (Nat.succ_pos _)
    · rw [tally_pos h]; exact at_cell _ _ Nat.one_pos
  · rw [tally_pos h]; exact at_cell _ _ Nat.one_pos

theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := owed_succ m c

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · exact O₀_cut c g i h
  · exact absurd h (Nat.lt_irrefl 0)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    Hs Sr Hs_sub launch0.toP rfl (fun c => (body_obligation m c).loose)
    (fun _ => 0) O₀ (fun c => (owed_zero m c).trans (zero_add _).symm) (owed_last m) (fun _ => rfl) (fun c w => by fin_cases w <;> rfl)
    (V4 m) (VN m) (fun c b hb => Function.update_of_ne (fun h => absurd (h ▸ hb) (by decide)) _ _)
    (Brought (DM m)) (fun c => semVal (cell c .bar) 0) (fun c => iprop((∃ K, Ctx (DM m) K c) ∗ Opened c)) (fun c => semVal (cell c .bar) 0)
    (region_open (DM m)) (hin m) (hout m)
    (fun c => by iintro H; imodintro; iexact H)
    (fun _ => 0)
    ⟨fun c w s => mem_L c _, fun c w s => by fin_cases w <;> fin_cases s <;> exact Nat.le_refl 0, fun c t g i h => cutD m c t g i h⟩
    (fun _ => iprop(emp))
    (arr_in m) (arr_out m)

end Cert.KernelIdeal.Att
-- ==== Proof.Launch.lean ====
/- The launch: what each device is dealt when the program starts. -/
module

public import proofs.«01_k».proof.Proof.Region

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

/-! ## The cells and the tokens -/

theorem cell_iff {c c' : Dev nD} {κ κ' : Kind} : cell c κ = cell c' κ' ↔ c = c' ∧ κ = κ' :=
  ⟨fun h => ⟨congrArg (fun g : GSem nD τ sig => g.1.1) h, semOf_inj (congrArg Prod.snd h)⟩, fun h => by rw [h.1, h.2]⟩

theorem okKind_inj : Function.Injective okKind := by
  rintro (⟨b, d, t⟩ | b) (⟨b', d', t'⟩ | b') h <;> simp_all [okKind]
theorem okKind_ne (o : OK) : okKind o ≠ .bar := by rcases o with ⟨b, d, t⟩ | b <;> simp [okKind]

def barEmb : Dev nD ↪ GSem nD τ sig := ⟨fun c => cell c .bar, fun _ _ h => (cell_iff.mp h).1⟩
def ownEmb : Dev nD × OK ↪ GSem nD τ sig :=
  ⟨fun p => cell p.1 (okKind p.2), fun _ _ h => Prod.ext (cell_iff.mp h).1 (okKind_inj (cell_iff.mp h).2)⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact okKind_ne p.2 (cell_iff.mp h).2

theorem cell_mem (c : Dev nD) : ∀ κ : Kind, cell c κ ∈ (barCells ∪ ownCells : Finset (GSem nD τ sig))
  | .bar => Finset.mem_union_left _ (Finset.mem_map_of_mem barEmb (Finset.mem_univ c))
  | .hop b d t => Finset.mem_union_right _ (Finset.mem_map_of_mem ownEmb (Finset.mem_univ (c, (.inl (b, d, t) : OK))))
  | .kv b => Finset.mem_union_right _ (Finset.mem_map_of_mem ownEmb (Finset.mem_univ (c, (.inr b : OK))))

/-- A duty at a device: of its barrier, of a hop, of a fetch. -/
abbrev TK := Bool ⊕ ((Bool × Bool × Fin 7) ⊕ (Bool × Fin 8))
def tk : TK → Kind × ℕ × Bool
  | .inl b => (.bar, 0, b)
  | .inr (.inl (b, d, t)) => (.hop b d t, 0, false)
  | .inr (.inr (b, s)) => (.kv b, s.val, false)

theorem tk_inj : Function.Injective tk := by decide +kernel

def tkEmb : Dev nD × TK ↪ GSem nD τ sig × ℕ × Bool :=
  ⟨fun p => (cell p.1 (tk p.2).1, (tk p.2).2.1, (tk p.2).2.2), fun p q h => by
    have h1 := cell_iff.mp (congrArg Prod.fst h)
    exact Prod.ext h1.1 (tk_inj (Prod.ext h1.2 (congrArg (fun x : GSem nD τ sig × ℕ × Bool => x.2) h)))⟩
def talkToks : Finset (GSem nD τ sig × ℕ × Bool) := Finset.univ.map tkEmb

/-! ## The tokens, as dealt -/

/-- The tokens of a side's hops, at `c`. -/
def Hopt (c : Dev nD) (b d : Bool) : sProp 𝕄 := bigSep Finset.univ fun t : Fin 7 => dutyTok ER (cell c (.hop b d t)) 0 false
def Bart (c : Dev nD) (b : Bool) : sProp 𝕄 := dutyTok ER (cell c .bar) 0 b

/-- The tokens at a device's semaphores. -/
def Made (c : Dev nD) : sProp 𝕄 :=
  iprop((Bart c false ∗ Bart c true) ∗ ((Hopt c false false ∗ Hopt c false true) ∗ (Hopt c true false ∗ Hopt c true true)) ∗ (toks c false 0 ∗ toks c true 0))
/-- The tokens of the duties a device pays. -/
def Dealt (c : Dev nD) : sProp 𝕄 :=
  iprop((Bart (nbr true c) false ∗ Bart (nbr false c) true) ∗ ((Hopt c false false ∗ Hopt (nbr false c) false true) ∗ (Hopt c true false ∗ Hopt (nbr true c) true true))
    ∗ (toks c false 0 ∗ toks c true 0))

def nbrEquiv (b : Bool) : Dev nD ≃ Dev nD := ⟨nbr b, nbr (!b), nbr_nbr' b, nbr_nbr b⟩
theorem round_ring (b : Bool) (Φ : Dev nD → sProp 𝕄) : bigSep Finset.univ (fun c => Φ c) = bigSep Finset.univ (fun c => Φ (nbr b c)) :=
  bigSep_univ_equiv (nbrEquiv b) Φ

theorem toks_zero (c : Dev nD) (b : Bool) : (toks c b 0 : sProp 𝕄) = bigSep Finset.univ fun s : Fin 8 => dutyTok ER (cell c (.kv b)) s.val false := by
  unfold toks; rw [show hi 0 = Finset.univ from by decide]

theorem toks_made : bigSep talkToks (fun x => (dutyTok ER x.1 x.2.1 x.2.2 : sProp 𝕄)) = bigSep Finset.univ fun c : Dev nD => Made c := by
  unfold talkToks
  rw [bigSep_map, bigSep_univ_prod]
  refine bigSep_congr fun c _ => ?_
  rw [bigSep_univ_sum, bigSep_univ_sum, bigSep_univ_prod, bigSep_univ_prod, both, both, both, bigSep_univ_prod, bigSep_univ_prod, both, both]
  unfold Made
  rw [toks_zero, toks_zero]
  rfl

theorem toks_dealt : (bigSep Finset.univ fun c : Dev nD => (Made c : sProp 𝕄)) = bigSep Finset.univ fun c : Dev nD => Dealt c := by
  unfold Made Dealt
  simp only [bigSep_sep']
  rw [round_ring true (fun c => Bart c false), round_ring false (fun c => Bart c true), round_ring false (fun c => Hopt c false true),
    round_ring true (fun c => Hopt c true true)]

/-! ## The credit -/

theorem nbr_iff (b : Bool) (c d : Dev nD) : c = nbr b d ↔ d = nbr (!b) c :=
  ⟨fun h => by rw [h, nbr_nbr'], fun h => by rw [h, nbr_nbr]⟩

theorem tally_cell (c d : Dev nD) (κ κ' : Kind) (n : ℕ) : tallyAt (cell d κ') () n (cell c κ) () = if c = d ∧ κ = κ' then n else 0 := by
  rw [tallyAt_apply]
  simp only [cell_iff, and_true]

theorem owR_cell (b : Bool) (d c : Dev nD) (κ : Kind) :
    owR b d 0 (cell c κ) () = ∑ t : Fin 7, if d = nbr (!b) c ∧ κ = .hop b true t then N else 0 := by
  unfold owR
  rw [Finset.sum_apply, Finsupp.finset_sum_apply, Finset.filter_true_of_mem fun t _ => Nat.zero_le _]
  exact Finset.sum_congr rfl fun t _ => (tally_cell c (nbr b d) κ (.hop b true t) N).trans (by simp only [nbr_iff b c d])

theorem bar_cell (b : Bool) (d c : Dev nD) (κ : Kind) :
    tallyAt (cell (nbr b d) .bar) () 1 (cell c κ) () = if d = nbr (!b) c ∧ κ = .bar then 1 else 0 := by
  rw [tally_cell]; simp only [nbr_iff b c d]

theorem due_cell (d c : Dev nD) (κ : Kind) : O₀ d (cell c κ) ()
    = (((∑ t : Fin 7, if d = nbr true c ∧ κ = .hop false true t then N else 0) + ∑ t : Fin 7, if d = nbr false c ∧ κ = .hop true true t then N else 0)
      + if d = nbr true c ∧ κ = .bar then 1 else 0) + if d = nbr false c ∧ κ = .bar then 1 else 0 := by
  unfold O₀
  rw [Pi.add_apply, Pi.add_apply, Pi.add_apply, Finsupp.add_apply, Finsupp.add_apply, Finsupp.add_apply, owR_cell false d c κ, owR_cell true d c κ,
    bar_cell false d c κ, bar_cell true d c κ]
  rfl

theorem due_bar (d c : Dev nD) : O₀ d (cell c .bar) () = (if d = nbr true c then 1 else 0) + if d = nbr false c then 1 else 0 := by
  rw [due_cell d c .bar]
  simp only [reduceCtorEq, and_false, if_false, Finset.sum_const_zero, and_true, zero_add]

theorem due_hop (b : Bool) (t : Fin 7) (d c : Dev nD) : O₀ d (cell c (.hop b true t)) () = if d = nbr (!b) c then N else 0 := by
  rw [due_cell d c (.hop b true t)]
  have key (p : Prop) [Decidable p] : (∑ s : Fin 7, if p ∧ t = s then N else 0) = if p then N else 0 := by
    by_cases hp : p
    · simp only [hp, true_and, if_true, Finset.sum_ite_eq, Finset.mem_univ]
    · simp only [hp, false_and, if_false, Finset.sum_const_zero]
  cases b <;>
  simp only [reduceCtorEq, and_false, if_false, Finset.sum_const_zero, add_zero, zero_add, Kind.hop.injEq, true_and, false_and, key, Bool.false_eq_true,
    Bool.true_eq_false, Bool.not_false, Bool.not_true]

theorem credit_bar (c : Dev nD) :
    tallyOn (cell c .bar) (launchCredit (Pipeline.owing O₀) 0 (cell c .bar)) = (tallyAt (cell c .bar) () 2 : CellTallies nD τ sig Unit) := by
  unfold tallyAt; refine congrArg _ (Finsupp.ext fun u => ?_); cases u
  rw [Pipeline.launchCredit_owing, Finsupp.single_eq_same, Finset.sum_congr rfl fun d _ => due_bar d c, Finset.sum_add_distrib,
    Finset.sum_ite_eq' Finset.univ (nbr true c) fun _ => 1, Finset.sum_ite_eq' Finset.univ (nbr false c) fun _ => 1,
    if_pos (Finset.mem_univ _), if_pos (Finset.mem_univ _)]

theorem credit_hop (c : Dev nD) (b : Bool) (t : Fin 7) :
    tallyOn (cell c (.hop b true t)) (launchCredit (Pipeline.owing O₀) 0 (cell c (.hop b true t))) = (tallyAt (cell c (.hop b true t)) () N : CellTallies nD τ sig Unit) := by
  unfold tallyAt; refine congrArg _ (Finsupp.ext fun u => ?_); cases u
  rw [Pipeline.launchCredit_owing, Finsupp.single_eq_same, Finset.sum_congr rfl fun d _ => due_hop b t d c,
    Finset.sum_ite_eq' Finset.univ (nbr (!b) c) fun _ => N, if_pos (Finset.mem_univ _)]

def semEmb : Kind ↪ SemLoc sig := ⟨semOf, semOf_inj⟩

abbrev credAt (c : Dev nD) (κ : Kind) : sProp 𝕄 := cred (tallyOn (cell c κ) (launchCredit (Pipeline.owing O₀) 0 (cell c κ)))

theorem credits_kinds (c : Dev nD) : (Pipeline.launchCred O₀ c : sProp 𝕄) ⊢ bigSep Finset.univ fun κ : Kind => credAt c κ := by
  unfold Pipeline.launchCred
  refine BI.Entails.trans (bigSep_subset (Finset.subset_univ (Finset.univ.map semEmb))) ?_
  rw [bigSep_map]
  exact BI.Entails.refl _

theorem credits_pick (c : Dev nD) : (bigSep Finset.univ fun κ : Kind => (credAt c κ : sProp 𝕄))
    ⊢ iprop(credAt c .bar ∗ bigSep Finset.univ (fun t : Fin 7 => credAt c (.hop false true t)) ∗ bigSep Finset.univ (fun t : Fin 7 => credAt c (.hop true true t))) := by
  rw [kind_split (fun κ => credAt c κ), ok_split (fun κ => credAt c κ)]
  iintro ⟨H0, ⟨⟨-, H1⟩, ⟨-, H2⟩⟩, -⟩
  isplitl [H0]; · iexact H0
  isplitl [H1]; · iexact H1
  iexact H2

theorem credits (c : Dev nD) :
    (Pipeline.launchCred O₀ c : sProp 𝕄) ⊢ iprop(cred (tallyAt (cell c .bar) () 2) ∗ Cred c false ∗ Cred c true) := by
  have e (b : Bool) : (Cred c b : sProp 𝕄) = bigSep Finset.univ fun t : Fin 7 => credAt c (.hop b true t) := by
    unfold Cred
    exact bigSep_congr fun t _ => congrArg cred (credit_hop c b t).symm
  rw [e false, e true, show (cred (tallyAt (cell c .bar) () 2) : sProp 𝕄) = credAt c .bar from congrArg cred (credit_bar c).symm]
  exact (credits_kinds c).trans (credits_pick c)

end Cert.KernelIdeal.Att
-- ==== Proof.Run.lean ====
/- The run of the whole program: every device ends with its arguments as launched and its result as the kernel computes it. -/
module

public import proofs.«01_k».proof.Proof.Launch
public import Idealize.ShloMosaic.Lib.Quiescent

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen
open scoped Classical

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What is dealt at launch -/

def u₀ : UU :=
  (initOf (Pipeline.cells (Pipeline.pin (pcfgs (F := F)) adm) cellOf_inj) (Pipeline.launchToks (Pipeline.pin (pcfgs (F := F)) adm) cellOf_inj),
    launchOf barCells ownCells talkToks)

/-- All of a resource on device 0. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells ownCells talkToks)))

/-- What rides beside the buffers: before the region, and after. -/
def E : Fin 2 → Dev nD → sProp 𝕄
  | 0, c => iprop((∃ r, prngReg c r) ∗ Brought (DM m) c ∗ Ow c (O₀ c))
  | 1, c => iprop(semVal (cell c .bar) 0 ∗ Ow c 0)

theorem bar_sems (c : Dev nD) : (unscopedSems0 c : sProp 𝕄) = semVal (cell c .bar) 0 := by
  unfold unscopedSems0
  rw [show (Finset.univ.filter fun sm : SemLoc sig => ¬ sm.isScoped .tc) = {SemLoc.reg barS} from by decide +kernel, bigSep_singleton]

theorem recs_intro (κ : GSem nD τ sig → ℕ) :
    iprop(bigSep (barCells ∪ ownCells) (fun g => cellInv ER (rd (DM m)) (κ g) g) ∗ bigSep barCells (fun g => reached ER g 0)) ⊢ Recs (DM m) κ := by
  unfold Recs
  have h1 : (bigSep (barCells ∪ ownCells) (fun g => cellInv ER (rd (DM m)) (κ g) g) : sProp 𝕄)
      ⊢ bigSep Finset.univ (fun p : Dev nD × Kind => cellInv ER (rd (DM m)) (κ (cell p.1 p.2)) (cell p.1 p.2)) :=
    BI.Entails.trans (bigSep_of_persistent Finset.univ _) (bigSep_mono fun p _ => elimAt (Φ := fun g => cellInv ER (rd (DM m)) (κ g) g) (cell_mem p.1 p.2))
  have h2 : (bigSep barCells (fun g => reached ER g 0) : sProp 𝕄) ⊢ bigSep Finset.univ (fun d : Dev nD => reached ER (cell d .bar) 0) :=
    Entails.of_eq (bigSep_map (s := Finset.univ) barEmb (Φ := fun g : GSem nD τ sig => (reached ER g 0 : sProp 𝕄)))
  iintro ⟨#H1, #H2⟩
  isplitr; · iapply h1; iexact H1
  iapply h2; iexact H2

/-- What stays with a device: its position at its barrier, its rights to open its own semaphores, the tokens it pays with. -/
def Kept (c : Dev nD) : sProp 𝕄 :=
  iprop(atPos ER (cell c .bar) 0 ∅ 0 ∗ bigSep Finset.univ (fun o : OK => openTok ER (cell c (okKind o))) ∗ Dealt c)
def Bundle (c : Dev nD) : sProp 𝕄 :=
  iprop((cred (tallyAt (cell c .bar) () 2) ∗ Cred c false ∗ Cred c true) ∗ owes (c : Thread nD τ) (O₀ c) ∅ ∗ ∃ r, prngReg c r)

theorem duty_intro (c : Dev nD) (b : Bool) : iprop(Hopt c b false ∗ Hopt (nbr b c) b true) ⊢ (Duty c b : sProp 𝕄) := by
  unfold Hopt Duty
  iintro ⟨H1, H2⟩
  iapply joinAll
  isplitl [H2]; · iexact H2
  iexact H1

theorem rest_intro (κ : GSem nD τ sig → ℕ) (c : Dev nD) : iprop(Recs (DM m) κ ∗ (Kept c ∗ Bundle c)) ⊢ E m 0 c := by
  show _ ⊢ iprop((∃ r, prngReg c r) ∗ Brought (DM m) c ∗ Ow c (O₀ c))
  unfold Kept Bundle Dealt Brought Rights Bart Ow
  iintro ⟨#HR, ⟨Hat, Ho, ⟨Hb1, Hb2⟩, ⟨⟨H1, H2⟩, H3, H4⟩, Hkv⟩, ⟨Hc0, Hc1, Hc2⟩, HO, Hp⟩
  isplitl [Hp]; · iexact Hp
  isplitr [HO]
  · isplitr; · iexists κ; iexact HR
    isplitl [Hat]; · iexact Hat
    isplitl [Ho]; · iexact Ho
    isplitl [Hb1 Hb2 Hc0]
    · isplitl [Hb1]; · iexact Hb1
      isplitl [Hb2]; · iexact Hb2
      iexact Hc0
    isplitl [H1 H2 H3 H4]
    · isplitl [H1 H2]
      · iapply (duty_intro c false)
        isplitl [H1]; · iexact H1
        iexact H2
      · iapply (duty_intro c true)
        isplitl [H3]; · iexact H3
        iexact H4
    isplitl [Hc1 Hc2]
    · isplitl [Hc1]; · iexact Hc1
      iexact Hc2
    iexact Hkv
  · iexists ∅; iexact HO

theorem open_dealt : (bigSep ownCells (fun g => openTok ER g) : sProp 𝕄)
    ⊢ bigSep Finset.univ (fun c : Dev nD => bigSep Finset.univ (fun o : OK => openTok ER (cell c (okKind o)))) := by
  rw [bigSep_map, bigSep_univ_prod]
  exact BI.Entails.refl _

theorem rest_init :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(Bundle c ∗ (semVal (cell c .bar) 0 ∗ G c)) : sProp 𝕄) := by
    rw [bar_sems]
    unfold Bundle
    iintro ⟨Hus, HO, Hcr, Hp, HG⟩
    ihave Hc := (credits (F := F) c) $$ Hcr
    isplitl [HO Hc Hp]
    · isplitl [Hc]; · iexact Hc
      isplitl [HO]; · iexact HO
      iexists (ρ c); iexact Hp
    isplitl [Hus]; · iexact Hus
    iexact HG
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  iintro ⟨H, -⟩
  ihave H := (monoAll (Φ := fun c : Dev nD => iprop(unscopedSems0 c ∗ owes (c : Thread nD τ) (O₀ c) ∅ ∗ Pipeline.launchCred O₀ c ∗ prngReg c (ρ c) ∗ G c))
    (Ψ := fun c : Dev nD => iprop(Bundle c ∗ (semVal (cell c .bar) 0 ∗ G c))) fun c _ => hcore c) $$ H
  ihave H := partAll $$ H; icases H with ⟨HB, H⟩
  ihave H := partAll $$ H; icases H with ⟨Hv, HG⟩
  ihave Hu := (show (bigSep Finset.univ (G (F := F)) : sProp 𝕄) ⊢ BI.own (ER (launchOf barCells ownCells talkToks)) from
    Entails.of_eq (bigSep_onFirst (F := F) (BI.own (ER (launchOf barCells ownCells talkToks))))) $$ HG
  imod (Rounds.fund_launch ER (rd (DM m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := Recs (DM m) κ) (S := Finset.univ) (Φ := fun c => iprop(Kept c ∗ Bundle c)) (Ψ := E m 0) fun c _ => rest_intro m κ c)
  isplitr
  · iapply (recs_intro m κ)
    isplitr; · iexact Hinv
    iexact Hr
  iapply joinAll
  isplitr [HB]
  · unfold Kept
    iapply joinAll; isplitl [Hat]; · iapply hat $$ Hat
    iapply joinAll; isplitl [Hopen]; · iapply (open_dealt (F := F)) $$ Hopen
    iapply (Entails.of_eq ((toks_made (F := F)).trans (toks_dealt (F := F)))) $$ Htok
  · iexact HB

/-! ## Into the region and out of it -/

theorem arr_sub : Pipeline.arrRefs (τ := τ) spec0 ⊆ Pipeline.ucRefs τ sig := by decide +kernel

set_option backward.isDefEq.respectTransparency.types false in
theorem region_pre (c : Dev nD) : iprop(StableHlo.held (c : Thread nD τ) (Pipeline.ucRefs τ sig) (V4 m c) ∗ E m 0 c) ⊢ (reg0 m).pre c := by
  show iprop(_ ∗ (∃ r, prngReg c r) ∗ Brought (DM m) c ∗ Ow c (O₀ c)) ⊢ iprop(StableHlo.held (c.tc : Thread nD τ) (Pipeline.arrRefs (τ := τ) spec0) (V4 m c) ∗ (∃ r, prngReg c r)
    ∗ (StableHlo.held (c.tc : Thread nD τ) Sr (V4 m c) ∗ emp) ∗ Brought (DM m) c ∗ ∃ Wd, owes (c : Thread nD τ) (0 + O₀ c) Wd)
  rw [StableHlo.held_sub_split (c.tc : Thread nD τ) arr_sub (V4 m c), zero_add]
  unfold Ow
  iintro ⟨⟨Ha, Hs⟩, Hp, HB, HO⟩
  isplitl [Ha]; · iexact Ha
  isplitl [Hp]; · iexact Hp
  isplitl [Hs]
  · isplitl [Hs]; · iexact Hs
    iempintro
  isplitl [HB]; · iexact HB
  iexact HO

set_option backward.isDefEq.respectTransparency.types false in
theorem region_post (c : Dev nD) : (reg0 m).post c ⊢ iprop(StableHlo.held (c : Thread nD τ) (Pipeline.ucRefs τ sig) (VN m c) ∗ E m 1 c) := by
  show iprop(StableHlo.held (c.tc : Thread nD τ) (Pipeline.arrRefs (τ := τ) spec0) (VN m c) ∗ (∃ r, prngReg c r)
    ∗ (StableHlo.held (c.tc : Thread nD τ) Sr (VN m c) ∗ emp) ∗ semVal (cell c .bar) 0 ∗ ∃ Wd, owes (c : Thread nD τ) (0 : CellTallies nD τ sig Unit) Wd)
    ⊢ iprop(_ ∗ semVal (cell c .bar) 0 ∗ Ow c 0)
  rw [StableHlo.held_sub_split (c.tc : Thread nD τ) arr_sub (VN m c)]
  unfold Ow
  iintro ⟨Ha, -, ⟨Hs, -⟩, Hb, HO⟩
  isplitl [Ha Hs]
  · isplitl [Ha]; · iexact Ha
    iexact Hs
  isplitl [Hb]; · iexact Hb
  iexact HO

/-! ## The run -/

theorem V4_arg (c : Dev nD) (r : Ref sig .tc) (h : r ∉ hostOps0_W ∧ r ∉ hostOps0_1_W ∧ r ∉ hostOps0_2_W ∧ r ∉ hostOps0_3_W) :
    V4 m c r = m ((c : Thread nD τ).loc r) :=
  (V4_of m c r h.2.2.2).trans <| (V3_of m c r h.2.2.1).trans <| (V2_of m c r h.2.1).trans <| (V1_of m c r h.1).trans rfl
theorem VN_arg (c : Dev nD) (r : Ref sig .tc) (h : (r ∉ hostOps0_W ∧ r ∉ hostOps0_1_W ∧ r ∉ hostOps0_2_W ∧ r ∉ hostOps0_3_W) ∧ r ≠ main_v10) :
    VN m c r = m ((c : Thread nD τ).loc r) := (VN_of m c r h.2).trans (V4_arg m c r h.1)

theorem unscoped_bar : ∀ sm : SemLoc sig, sm.isScoped .tc = false → sm = .reg barS := by decide +kernel

/-- What a device's buffers hold at the end. -/
def End (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v10) = out7 (DM m) c

set_option backward.isDefEq.respectTransparency.types false in
theorem run_main : θ_run (defs (F := F)) (onTc (τ := τ) (main (F := F))) ⟨m, fun _ => 0, ρ⟩ (fun r => (∀ c : Dev nD, End m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Seg.run_eq_chain,
        show (segs m 𝒱₀ L lv (E m) () (pdats m) (reg0 m) c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G (u₀ (F := F))
    (by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (VN m c) ∗ semVal (cell c .bar) 0))
    (hch := fun c => ⟨.rfl, .rfl, .rfl, .rfl, region_pre m c, (region_post m c).trans ?_⟩)
    (hinit := ?_) (QY := fun c s => End m c s ∧ s.sem (cell c .bar) = 0)
    (hfin := fun c s' => ?_)
    (hQ := fun s h hs => ⟨fun c => (h c).1, sem_eq_zero hs fun c sm hsm => by
      obtain rfl := unscoped_bar sm hsm
      exact (h c).2⟩)
  · show iprop(_ ∗ semVal (cell c .bar) 0 ∗ Ow c 0) ⊢ _
    unfold Ow
    iintro ⟨Hh, Hb, HO⟩
    isplitr [HO]
    · isplitl [Hh]; · iexact Hh
      iexact Hb
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (rest_init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (VN m c) s') $$ [Hh HSI]
    · isplitl [Hh] <;> iassumption
    icases Hr with ⟨%h, HSI⟩
    imodintro
    isplitr
    · ipureintro
      have at_ref (r : Ref sig .tc) (hr : (Proc.devRef .tc r : DevRef τ sig).isScoped = false) := h (Proc.devRef .tc r) (Finset.mem_filter.mpr ⟨StableHlo.devRef_mem_tcRefs r, by simpa using hr⟩)
      exact ⟨⟨⟨(at_ref main_arg0 (by decide)).trans (VN_arg m c main_arg0 (by decide)),
        (at_ref main_arg1 (by decide)).trans (VN_arg m c main_arg1 (by decide)),
        (at_ref main_arg2 (by decide)).trans (VN_arg m c main_arg2 (by decide)),
        (at_ref main_arg3 (by decide)).trans (VN_arg m c main_arg3 (by decide)),
        (at_ref main_arg4 (by decide)).trans (VN_arg m c main_arg4 (by decide))⟩,
        (at_ref main_v10 (by decide)).trans (VN_out m c)⟩, by simpa using hb⟩
    · iexact HSI

/-- The run, of the arguments and the counters alone. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ h => ⟨fun c => (h.1 c).1, h.2⟩) (run_main m ρ)

end Cert.KernelIdeal.Att
-- ==== Proof.Frames.lean ====
/-
The frames of the two printed kernels.

The run of `Run` is stated over any arithmetic that gives the named constant a value.  At the
extended reals it is the run of the idealised kernel.  At the bits the named constant is given the
value it was printed with, and the idealised kernel's program is then the printed kernel's.
-/
module
public import proofs.«01_k».proof.Proof.Run
public import proofs.«01_k».proof.Defs
public import proofs.«01_k».proof.Proof.Gen.Kernel
public import proofs.«01_k».proof.Proof.Gen.KernelIdeal
public import Idealize.ShloMosaic.PureOps.BitExact
@[expose] public section
noncomputable section
namespace Cert.Proof
open Idealize.ShloMosaic Idealize.SL.Sem

/-- At the bits a named constant is the constant that was printed. -/
abbrev namedBits : Named Bits where
  named _ _ {φ} bits := FloatOps.ofBits φ bits

variable [iK : Cert.Kernel.Facts] [iKI : Cert.KernelIdeal.Facts]
attribute [local instance] namedBits
set_option maxRecDepth 100000

/-- The two kernel bodies at the bits. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- The two body tables at the bits. -/
theorem defs_eq : Cert.Kernel.defs (F := Bits) = Cert.KernelIdeal.defs (F := Bits) :=
  congrArg (Pipeline.defs Cert.KernelIdeal.pcfgs) defs₀_eq

/-- The two host programs at the bits. -/
theorem main_eq : Cert.Kernel.main (F := Bits) = Cert.KernelIdeal.main (F := Bits) := rfl

/-- The printed kernel runs to its end and leaves its arguments and its counters. -/
theorem frame_kernel : Cert.quiescent_Kernel := by
  intro m ρ _
  rw [defs_eq, main_eq]
  exact Cert.KernelIdeal.Att.run_frame (F := Bits) m ρ

/-- So does the idealised one. -/
theorem frame_kernelIdeal : Cert.quiescent_KernelIdeal := fun m ρ _ =>
  Cert.KernelIdeal.Att.run_frame (F := Ideal) m ρ

end Cert.Proof
-- ==== Proof.Band.lean ====
/- The band of keys that a query sees, and the comparison of words that tests it. -/
module

public import Idealize.ShloMosaic.PureOps

@[expose] public section

namespace Cert.Band

open Idealize.ShloMosaic

/-- Key `j` is at most 128 places from query `i`. -/
def near (i j : ℕ) : Prop := i ≤ j + 128 ∧ j ≤ i + 128
instance (i j : ℕ) : Decidable (near i j) := inferInstanceAs (Decidable (_ ∧ _))

/-- The test of the two programs: the absolute value of the difference of two words, compared with 128. -/
theorem near_word (i j : ℕ) (hi : i < 1024) (hj : j < 1024) :
    IntOp.cmpi .sle (IntOp.absi (IntOp.subi (BitVec.ofNat 32 i) (BitVec.ofNat 32 j))) 128#32 = if near i j then 1#1 else 0#1 := by
  have hn : (BitVec.ofNat 32 i - BitVec.ofNat 32 j).toNat = (2 ^ 32 - j + i) % 2 ^ 32 := by
    rw [BitVec.toNat_sub, BitVec.toNat_ofNat, BitVec.toNat_ofNat, Nat.mod_eq_of_lt (by omega : i < 2 ^ 32), Nat.mod_eq_of_lt (by omega : j < 2 ^ 32)]
  have ha : (IntOp.absi (IntOp.subi (BitVec.ofNat 32 i) (BitVec.ofNat 32 j))).toNat = if i < j then j - i else i - j := by
    unfold IntOp.absi IntOp.subi
    rw [BitVec.msb_eq_decide, hn]
    by_cases h : i < j
    · rw [if_pos h, if_pos (by simp only [decide_eq_true_eq]; omega), BitVec.toNat_neg, hn]
      omega
    · rw [if_neg h, if_neg (by simp only [decide_eq_true_eq]; omega), hn]
      omega
  have hs : (IntOp.absi (IntOp.subi (BitVec.ofNat 32 i) (BitVec.ofNat 32 j))).sle 128#32 = decide (near i j) := by
    rw [BitVec.sle_eq_decide, BitVec.toInt_eq_toNat_cond, BitVec.toInt_eq_toNat_cond, ha]
    refine decide_eq_decide.2 ?_
    unfold near
    simp only [BitVec.toNat_ofNat]
    split <;> split <;> omega
  unfold IntOp.cmpi
  simp only [hs]
  by_cases h : near i j
  · rw [if_pos h, decide_eq_true h]; rfl
  · rw [if_neg h, decide_eq_false h]; rfl

theorem near_self (i : ℕ) : near i i := ⟨by omega, by omega⟩

end Cert.Band
-- ==== Proof.Softmax.lean ====
/- The mathematics of one row of attention over the extended reals. The reference takes the softmax of
   all 1024 scores of a row, from which it subtracts their maximum, the scores outside the band being
   `⊥`; the kernel takes the exponentials of a window of 512 scores, to which it adds `⊥` outside the
   band, and divides by their sum. Where the scores are real the two weigh the same values alike. -/
module

public import Idealize.ShloMosaic.PureOps.Ideal.Laws
public import Idealize.ShloMosaic.Lib.FinSumWindow

@[expose] public section

noncomputable section

namespace Cert.Softmax

open Idealize.ShloMosaic
open scoped BigOperators

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

/-- A sum of real numbers is the sum in the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A real scale of every query scales the score. -/
theorem scale_dot {ι : Type} (s : Finset ι) (q k : ι → EReal) (c : EReal) (hq : ∀ i, IsReal (q i)) (hk : ∀ i, IsReal (k i)) (hc : IsReal c) :
    ∑ i ∈ s, q i * c * k i = (∑ i ∈ s, q i * k i) * c := by
  choose a ha using hq
  choose b hb using hk
  obtain ⟨d, rfl⟩ := hc
  have h1 : ∀ i, q i * (d : EReal) * k i = ((a i * d * b i : ℝ) : EReal) := fun i => by
    rw [ha, hb, EReal.coe_mul, EReal.coe_mul]
  have h2 : ∀ i, q i * k i = ((a i * b i : ℝ) : EReal) := fun i => by rw [ha, hb, EReal.coe_mul]
  simp only [h1, h2]
  rw [← coe_sum, ← coe_sum, ← EReal.coe_mul, Finset.sum_mul]
  exact congrArg _ (Finset.sum_congr rfl fun i _ => by ring)

/-- The maximum of scores that are real or `⊥`, one of them real, is real. -/
theorem max_real {N : ℕ} (t : Fin N → EReal) (i : Fin N) (hi : IsReal (t i)) (ht : ∀ j, t j < ⊤) :
    IsReal ((Finset.univ : Finset (Fin N)).fold max ⊥ t) := by
  obtain ⟨r, hr⟩ := hi
  have h1 : (Finset.univ : Finset (Fin N)).fold max ⊥ t < ⊤ :=
    Finset.fold_max_lt _ |>.2 ⟨bot_lt_top, fun j _ => ht j⟩
  have h2 : (r : EReal) ≤ (Finset.univ : Finset (Fin N)).fold max ⊥ t :=
    Finset.le_fold_max _ |>.2 (.inr ⟨i, Finset.mem_univ i, hr.ge⟩)
  generalize (Finset.univ : Finset (Fin N)).fold max ⊥ t = M at h1 h2
  induction M with
  | bot => exact absurd h2 (by simp)
  | coe a => exact ⟨a, rfl⟩
  | top => exact absurd h1 (lt_irrefl _)

section row
variable {N W : ℕ} (s : Fin N → ℝ) (p : Fin N → Prop) [DecidablePred p] (i : Fin N) (hi : p i)
  (lo : ℕ) (hlo : lo + W ≤ N) (hw : ∀ j : Fin N, p j → lo ≤ j.val ∧ j.val < lo + W) (M : ℝ)

/-- A row's scores, `⊥` outside the band. -/
def banded (j : Fin N) : EReal := if p j then (s j : EReal) else ⊥

/-- The sum of the exponentials in the band. -/
def mass : ℝ := ∑ j : Fin N, if p j then Real.exp (s j) else 0

include hi in
theorem mass_pos : 0 < mass s p := by
  unfold mass
  refine Finset.sum_pos' (fun j _ => ?_) ⟨i, Finset.mem_univ i, ?_⟩
  · split
    · exact (Real.exp_pos _).le
    · exact le_refl _
  · rw [if_pos hi]; exact Real.exp_pos _

theorem exp_banded (j : Fin N) :
    Ideal.exp (banded s p j - (M : EReal)) = ((Real.exp (-M) * (if p j then Real.exp (s j) else 0) : ℝ) : EReal) := by
  unfold banded
  split
  · rw [← EReal.coe_sub, Ideal.exp_coe, sub_eq_neg_add, Real.exp_add]
  · rw [mul_zero, EReal.bot_sub]; rfl

theorem exp_bias (j : Fin N) :
    Ideal.exp ((s j : EReal) + (if p j then 0 else ⊥)) = (((if p j then Real.exp (s j) else 0) : ℝ) : EReal) := by
  split
  · rw [add_zero, Ideal.exp_coe]
  · rw [EReal.add_bot]; rfl

theorem sum_banded : ∑ j : Fin N, Ideal.exp (banded s p j - (M : EReal)) = ((Real.exp (-M) * mass s p : ℝ) : EReal) := by
  simp only [exp_banded]
  rw [← coe_sum, ← Finset.mul_sum]; rfl

include hw in
theorem sum_bias : ∑ k : Fin W, Ideal.exp ((s ⟨lo + k.val, by omega⟩ : EReal) + (if p ⟨lo + k.val, by omega⟩ then 0 else ⊥))
    = ((mass s p : ℝ) : EReal) := by
  have h := fun k : Fin W => exp_bias s p ⟨lo + k.val, by omega⟩
  simp only [h]
  rw [← coe_sum]
  refine congrArg _ ?_
  unfold mass
  exact (FinSumWindow.sum_window (R := ℝ) lo hlo (fun j => if p j then Real.exp (s j) else 0)
    fun j hj => if_neg fun hp => hj (hw j hp)).symm

/-- A row's weight of key `j`, in the reals. -/
def weight (j : Fin N) : ℝ := (if p j then Real.exp (s j) else 0) * (1 / mass s p)

include hi in
theorem weight_ref (j : Fin N) :
    Ideal.div (Ideal.exp (banded s p j - (M : EReal))) ((Real.exp (-M) * mass s p : ℝ) : EReal) = ((weight s p j : ℝ) : EReal) := by
  have hm := mass_pos s p i hi
  have he := Real.exp_pos (-M)
  rw [exp_banded, Ideal.div_coe (mul_pos he hm).ne', ← EReal.coe_mul]
  refine congrArg _ ?_
  unfold weight
  field_simp

include hi in
theorem weight_ker (j : Fin N) :
    Ideal.div (Ideal.exp ((s j : EReal) + (if p j then 0 else ⊥))) ((mass s p : ℝ) : EReal) = ((weight s p j : ℝ) : EReal) := by
  rw [exp_bias, Ideal.div_coe (mass_pos s p i hi).ne', ← EReal.coe_mul]; rfl

include hi hw in
/-- The row of attention of the reference is that of the kernel's window. -/
theorem row_eq (v : Fin N → EReal) :
    ∑ j : Fin N, v j * Ideal.div (Ideal.exp (banded s p j - (M : EReal))) (∑ k : Fin N, Ideal.exp (banded s p k - (M : EReal)))
      = ∑ j : Fin W, Ideal.div (Ideal.exp ((s ⟨lo + j.val, by omega⟩ : EReal) + (if p ⟨lo + j.val, by omega⟩ then 0 else ⊥)))
          (∑ k : Fin W, Ideal.exp ((s ⟨lo + k.val, by omega⟩ : EReal) + (if p ⟨lo + k.val, by omega⟩ then 0 else ⊥)))
          * v ⟨lo + j.val, by omega⟩ := by
  rw [sum_banded, sum_bias s p lo hlo hw]
  simp only [weight_ref s p i hi M, weight_ker s p i hi]
  rw [FinSumWindow.sum_window lo hlo _ fun j hj => ?_]
  · exact Finset.sum_congr rfl fun j _ => mul_comm _ _
  · have : weight s p j = 0 := by unfold weight; rw [if_neg fun hp => hj (hw j hp), zero_mul]
    rw [this, EReal.coe_zero, mul_zero]

end row

end Cert.Softmax

end
-- ==== Proof.Value.lean ====
module

public import proofs.«01_k».proof.Proof.Body
public import proofs.«01_k».proof.Proof.Band
public import proofs.«01_k».proof.Proof.Softmax
public import Idealize.ShloMosaic.Lib.MatmulPlain
public import Idealize.ShloMosaic.Lib.IdealHost
public import Idealize.ShloMosaic.Lib.Pipeline.Value

/- What the kernel's stages compute, at an index and over the extended reals. -/

@[expose] public section

noncomputable section

namespace Cert.KernelIdeal.Att

open Idealize.ShloMosaic Idealize.ShloMosaic.ValueIdx
open Cert.KernelIdeal Cert.KernelIdeal.Gen Cert.Band

theorem zero_f32 : (FloatOps.ofBits .f32 0x00000000#32 : Ideal .f32) = (0 : EReal) := Ideal.ofBits_zero_f32

/-- Row `r` of block `b`, column `d` of head `t`, key `j` of the window of block `b`. -/
def rowAt (b : Fin 4) (r : Fin 256) : Fin 1024 := ⟨256 * b.val + r.val, by omega⟩
def colAt (t : Fin 8) (d : Fin 128) : Fin 1024 := ⟨128 * t.val + d.val, by omega⟩
theorem kOf_le (b : Fin 4) : kOf b + 512 ≤ 1024 := by revert b; decide
def keyAt (b : Fin 4) (j : Fin 512) : Fin 1024 := ⟨kOf b + j.val, by have := kOf_le b; omega⟩

theorem rowAt_blk (r : Fin 1024) : rowAt (blkOf r) (inBlk r) = r := Fin.ext (by show 256 * (r.val / 256) + r.val % 256 = r.val; omega)
theorem colAt_head (d : Fin 1024) : colAt (headOf d) (inHead d) = d := Fin.ext (by show 128 * (d.val / 128) + d.val % 128 = d.val; omega)

theorem rowR_at (b : Fin 4) (r : Fin 256) (a : Fin 1024) : (rowR b).emb (ix2 r a) = ix2 (rowAt b r) a := by
  funext e
  match e with
  | ⟨0, _⟩ => exact Fin.ext (by show 256 * b.val + 1 * r.val = 256 * b.val + r.val; omega)
  | ⟨1, _⟩ => exact Fin.ext (by show 0 + 1 * a.val = a.val; omega)

theorem tileR_at (b : Fin 4) (t : Fin 8) (r : Fin 256) (d : Fin 128) : (tileR b t).emb (ix2 r d) = ix2 (rowAt b r) (colAt t d) := by
  funext e
  match e with
  | ⟨0, _⟩ => exact Fin.ext (by show 256 * b.val + 1 * r.val = 256 * b.val + r.val; omega)
  | ⟨1, _⟩ => exact Fin.ext (by show 128 * t.val + 1 * d.val = 128 * t.val + d.val; omega)

theorem winR_at (b : Fin 4) (t : Fin 8) (j : Fin 512) (d : Fin 128) : (winR b t).emb (ix2 j d) = ix2 (keyAt b j) (colAt t d) := by
  funext e
  match e with
  | ⟨0, _⟩ => exact Fin.ext (by show kOf b + 1 * j.val = kOf b + j.val; omega)
  | ⟨1, _⟩ => exact Fin.ext (by show 128 * t.val + 1 * d.val = 128 * t.val + d.val; omega)

theorem biasR_at (b : Fin 4) (r : Fin 256) (j : Fin 512) : (biasR b).emb (ix3 0 r j) = ix3 b r j := by
  funext e
  match e with
  | ⟨0, _⟩ => exact Fin.ext (by show b.val + 1 * 0 = b.val; omega)
  | ⟨1, _⟩ => exact Fin.ext (by show 0 + 1 * r.val = r.val; omega)
  | ⟨2, _⟩ => exact Fin.ext (by show 0 + 1 * j.val = j.val; omega)

theorem outR_at (b : Fin 4) (r : Fin 256) (a : Fin 1024) : (outR b).emb (ix3 0 r a) = ix3 0 (rowAt b r) a := by
  funext e
  match e with
  | ⟨0, _⟩ => rfl
  | ⟨1, _⟩ => exact Fin.ext (by show 256 * b.val + 1 * r.val = 256 * b.val + r.val; omega)
  | ⟨2, _⟩ => exact Fin.ext (by show 0 + 1 * a.val = a.val; omega)

/-- The three products, at an index. -/
theorem rows_times (x : FVec Ideal S256x1024 .bf16) (w : FVec Ideal S1024x1024 .bf16) (r : Fin 256) (a : Fin 1024) :
    matmul dot_S256x1024_S1024x1024_S256x1024_1_0_0_1_n_n none x w (constant S256x1024 .f32 0x00000000#32) (ix2 r a)
      = ∑ k : Fin 1024, x (ix2 r k) * w (ix2 k a) := by
  refine (Ideal.matmul_plain_apply (M := 256) (K := 1024) (N := 1024) none x w _ r a).trans ?_
  rw [show (constant (F := Ideal) S256x1024 .f32 0x00000000#32) (ix2 r a) = (0 : EReal) from zero_f32, zero_add]

theorem scores_of (q : FVec Ideal S256x128 .bf16) (k : FVec Ideal S512x128 .bf16) (r : Fin 256) (j : Fin 512) :
    matmul dot_S256x128_S512x128_S256x512_1_1_0_0_n_n none q k (constant S256x512 .f32 0x00000000#32) (ix2 r j)
      = ∑ d : Fin 128, q (ix2 r d) * k (ix2 j d) := by
  refine (Ideal.matmul_transposedRhs_apply (M := 256) (K := 128) (N := 512) none q k _ r j).trans ?_
  rw [show (constant (F := Ideal) S256x512 .f32 0x00000000#32) (ix2 r j) = (0 : EReal) from zero_f32, zero_add]

theorem weights_times (p : FVec Ideal S256x512 .bf16) (v : FVec Ideal S512x128 .bf16) (r : Fin 256) (d : Fin 128) :
    matmul dot_S256x512_S512x128_S256x128_1_0_0_1_n_n none p v (constant S256x128 .f32 0x00000000#32) (ix2 r d)
      = ∑ j : Fin 512, p (ix2 r j) * v (ix2 j d) := by
  refine (Ideal.matmul_plain_apply (M := 256) (K := 512) (N := 128) none p v _ r d).trans ?_
  rw [show (constant (F := Ideal) S256x128 .f32 0x00000000#32) (ix2 r d) = (0 : EReal) from zero_f32, zero_add]

/-- The scale of the queries. -/
def scale : EReal := Ideal.ofBits .f32 0x3DB504F3#32

theorem qMat_at (x wq : Vec Ideal S1024x1024 .bf16) (r a : Fin 1024) :
    qMat x wq (ix2 r a) = (∑ k : Fin 1024, x (ix2 r k) * wq (ix2 k a)) * scale := by
  show qVal (fun j => x ((rowR (blkOf r)).emb j)) wq (ix2 (inBlk r) a) = _
  unfold qVal
  rw [shapeCast_apply _ _ _ (ix2 (inBlk r) a) rfl]
  show matmul (F := Ideal) (φ₁ := .bf16) (φ₂ := .bf16) dot_S256x1024_S1024x1024_S256x1024_1_0_0_1_n_n none _ wq (constant S256x1024 .f32 0x00000000#32) (ix2 (inBlk r) a) * scale = _
  rw [rows_times]
  congr 1
  refine Finset.sum_congr rfl fun k _ => ?_
  rw [shapeCast_apply _ _ _ (ix2 (inBlk r) k) rfl, rowR_at, rowAt_blk]

theorem mask_bot : (Named.named κ "mask" 0xCE6E6B28#32 : Ideal .f32) = (⊥ : EReal) :=
  IdealRules.named_const.ideal_named_scalar (φ := .f32) κ "mask" 0xCE6E6B28#32 ⊥ rfl

theorem qo_add (b : Fin 4) (r : Fin 256) : IntOp.addi (qo b) (BitVec.ofNat 32 r.val) = BitVec.ofNat 32 (rowAt b r).val := by
  have h : qo b = BitVec.ofNat 32 (256 * b.val) := by revert b; decide
  rw [h]
  exact (BitVec.ofNat_add (256 * b.val) r.val).symm

theorem ko_add (b : Fin 4) (j : Fin 512) : IntOp.addi (ko b) (BitVec.ofNat 32 j.val) = BitVec.ofNat 32 (keyAt b j).val := by
  have h : ko b = BitVec.ofNat 32 (kOf b) := by revert b; decide
  rw [h]
  exact (BitVec.ofNat_add (kOf b) j.val).symm

theorem biasMat_at (b : Fin 4) (r : Fin 256) (j : Fin 512) :
    biasMat (F := Ideal) (ix3 b r j) = if near (rowAt b r).val (keyAt b j).val then (0 : EReal) else ⊥ := by
  show biasVal (F := Ideal) (qo b) (ko b) (ix3 0 r j) = _
  unfold biasVal
  rw [shapeCast_apply _ _ _ (ix2 r j) (by
    rw [Shape.rowMajor_val_two, Shape.rowMajor_val_three]
    show r.val * 512 + j.val = (0 * 256 + r.val) * 512 + j.val
    omega)]
  show Scalar.select (IntOp.cmpi .sle (IntOp.absi (IntOp.subi (IntOp.addi (qo b) (BitVec.ofNat 32 (0 * 256 + r.val)))
      (IntOp.addi (ko b) (BitVec.ofNat 32 (0 * 512 + j.val))))) 128#32)
      (FloatOps.ofBits .f32 0x00000000#32 : Ideal .f32) (Named.named κ "mask" 0xCE6E6B28#32 : Ideal .f32) = _
  simp only [Nat.zero_mul, Nat.zero_add]
  rw [qo_add, ko_add, near_word _ _ (rowAt b r).isLt (keyAt b j).isLt, mask_bot, zero_f32]
  unfold Scalar.select
  by_cases hn : near (rowAt b r).val (keyAt b j).val
  · simp [hn]
  · simp [hn]

theorem reduces_win : S256x512.Reduces [1] S256 := by decide

theorem lift_win (r : Fin 256) (j : Fin 512) : reduces_win.lift (ix1 r) j = ix2 r j := by
  funext a
  match a with
  | ⟨0, _⟩ => rfl
  | ⟨1, _⟩ => rfl

/-- One head on one block of queries: the window's weights times its values. -/
theorem headVal_at (q : Vec Ideal S256x128 .bf16) (k : Vec Ideal S512x128 .bf16) (b : Vec Ideal S1x256x512 .bf16)
    (v : Vec Ideal S512x128 .bf16) (r : Fin 256) (d : Fin 128) :
    headVal q k b v (ix2 r d) = ∑ j : Fin 512,
      Ideal.div (Ideal.exp ((∑ e : Fin 128, q (ix2 r e) * k (ix2 j e)) + b (ix3 0 r j)))
        (∑ l : Fin 512, Ideal.exp ((∑ e : Fin 128, q (ix2 r e) * k (ix2 l e)) + b (ix3 0 r l))) * v (ix2 j d) := by
  have hE : ∀ l : Fin 512,
      exp (addf (matmul (φ₁ := .bf16) (φ₂ := .bf16) dot_S256x128_S512x128_S256x512_1_1_0_0_n_n none q k (constant S256x512 .f32 0x00000000#32))
        (extf .f32 (shapeCast S256x512 b shapeCasts_S1x256x512_S256x512) bitsLt_bf16_f32) : FVec Ideal S256x512 .f32) (ix2 r l)
      = Ideal.exp ((∑ e : Fin 128, q (ix2 r e) * k (ix2 l e)) + b (ix3 0 r l)) := by
    intro l
    show Ideal.exp (matmul (F := Ideal) (φ₁ := .bf16) (φ₂ := .bf16) dot_S256x128_S512x128_S256x512_1_1_0_0_n_n none q k (constant S256x512 .f32 0x00000000#32) (ix2 r l)
      + shapeCast S256x512 b shapeCasts_S1x256x512_S256x512 (ix2 r l)) = _
    rw [scores_of, shapeCast_apply b _ (ix2 r l) (ix3 0 r l) (by
      rw [Shape.rowMajor_val_two, Shape.rowMajor_val_three]
      show (0 * 256 + r.val) * 512 + l.val = r.val * 512 + l.val
      omega)]
  unfold headVal
  dsimp only
  generalize hX : (exp (addf (matmul (φ₁ := .bf16) (φ₂ := .bf16) dot_S256x128_S512x128_S256x512_1_1_0_0_n_n none q k (constant S256x512 .f32 0x00000000#32))
        (extf .f32 (shapeCast S256x512 b shapeCasts_S1x256x512_S256x512) bitsLt_bf16_f32)) : FVec Ideal S256x512 .f32) = X at hE
  rw [shapeCast_apply _ _ _ (ix2 r d) rfl]
  refine (weights_times _ v r d).trans ?_
  refine Finset.sum_congr rfl fun j _ => ?_
  refine congrArg (· * v (ix2 j d)) ?_
  show Ideal.div (X (ix2 r j)) (broadcastTo S256x512 (shapeCast S256x1 _ shapeCasts_S256_S256x1) broadcasts_S256x1_S256x512 (ix2 r j)) = _
  rw [hE, broadcastTo_apply _ _ (ix2 r j) (ix2 r (0 : Fin 1)) (fun a => match a with
      | ⟨0, _⟩ => by show r.val = if (256 : ℕ) = 1 then 0 else r.val; rw [if_neg (by decide)]
      | ⟨1, _⟩ => by show 0 = if (1 : ℕ) = 1 then 0 else j.val; rw [if_pos rfl]),
    shapeCast_apply _ _ (ix2 r (0 : Fin 1)) (ix1 r) (by
      rw [Shape.rowMajor_val_two, Shape.rowMajor_val_one]
      show r.val = r.val * 1 + 0
      omega)]
  refine congrArg (Ideal.div _) ?_
  refine (Ideal.multiReduction_add_single X 0x00000000#32 reduces_win (.inl rfl) rfl (ix1 r)).trans ?_
  refine Finset.sum_congr rfl fun l _ => ?_
  exact (congrArg X (lift_win r l)).trans (hE l)

/-- The score of a query against key `j` of its block's window, with the mask added. -/
def winScore (q k : Vec Ideal S1024x1024 .bf16) (r : Fin 1024) (t : Fin 8) (j : Fin 512) : EReal :=
  (∑ e : Fin 128, q (ix2 r (colAt t e)) * k (ix2 (keyAt (blkOf r) j) (colAt t e)))
    + if near r.val (keyAt (blkOf r) j).val then 0 else ⊥

theorem ctxMat_val (q k v : Vec Ideal S1024x1024 .bf16) (r : Fin 1024) (t : Fin 8) (d : Fin 128) :
    ctxMat q k biasMat v (ix2 r (colAt t d)) = ∑ j : Fin 512,
      Ideal.div (Ideal.exp (winScore q k r t j)) (∑ l : Fin 512, Ideal.exp (winScore q k r t l)) * v (ix2 (keyAt (blkOf r) j) (colAt t d)) := by
  have ht : headOf (colAt t d) = t := Fin.ext (by show (128 * t.val + d.val) / 128 = t.val; omega)
  have hd : inHead (colAt t d) = d := Fin.ext (by show (128 * t.val + d.val) % 128 = d.val; omega)
  rw [ctxMat_at, ht, hd]
  unfold ctxAt
  rw [headVal_at]
  have hs : ∀ l : Fin 512, (∑ e : Fin 128, q ((tileR (blkOf r) t).emb (ix2 (inBlk r) e)) * k ((winR (blkOf r) t).emb (ix2 l e)))
      + biasMat (F := Ideal) ((biasR (blkOf r)).emb (ix3 0 (inBlk r) l)) = winScore q k r t l := by
    intro l
    unfold winScore
    rw [biasR_at, biasMat_at, rowAt_blk]
    congr 1
    refine Finset.sum_congr rfl fun e _ => ?_
    rw [tileR_at, winR_at, rowAt_blk]
  refine Finset.sum_congr rfl fun j _ => ?_
  rw [winR_at, hs j, Finset.sum_congr rfl fun l _ => congrArg Ideal.exp (hs l)]

theorem projVal_at (a : Vec Ideal S1024x1024 .bf16) (wo : Vec Ideal S1024x1024 .bf16) (i c : Fin 1024) :
    projVal (fun j => a ((rowR (blkOf i)).emb j)) wo (ix2 (inBlk i) c) = ∑ n : Fin 1024, a (ix2 i n) * wo (ix2 n c) := by
  unfold projVal
  refine (rows_times _ _ _ _).trans (Finset.sum_congr rfl fun n _ => ?_)
  rw [rowR_at, rowAt_blk]

theorem outMat0_at (a wo : Vec Ideal S1024x1024 .bf16) (i c : Fin 1024) :
    outMat0 a wo (ix3 0 i c) = ∑ n : Fin 1024, a (ix2 i n) * wo (ix2 n c) := by
  show outInit (fun j => a ((rowR (blkOf i)).emb j)) wo (ix3 0 (inBlk i) c) = _
  unfold outInit
  rw [shapeCast_apply _ _ _ (ix2 (inBlk i) c) (by
    rw [Shape.rowMajor_val_two, Shape.rowMajor_val_three]
    show (inBlk i).val * 1024 + c.val = (0 * 256 + (inBlk i).val) * 1024 + c.val
    omega)]
  exact projVal_at a wo i c

theorem outMat_at (a wo : Vec Ideal S1024x1024 .bf16) (o : Vec Ideal S1x1024x1024 .f32) (i c : Fin 1024) :
    outMat a wo o (ix3 0 i c) = o (ix3 0 i c) + ∑ n : Fin 1024, a (ix2 i n) * wo (ix2 n c) := by
  show outAdd (fun j => a ((rowR (blkOf i)).emb j)) wo (fun j => o ((outR (blkOf i)).emb j)) (ix3 0 (inBlk i) c) = _
  unfold outAdd
  rw [shapeCast_apply _ _ _ (ix2 (inBlk i) c) (by
    rw [Shape.rowMajor_val_two, Shape.rowMajor_val_three]
    show (inBlk i).val * 1024 + c.val = (0 * 256 + (inBlk i).val) * 1024 + c.val
    omega)]
  show shapeCast S256x1024 _ shapeCasts_S1x256x1024_S256x1024 (ix2 (inBlk i) c) + projVal _ wo (ix2 (inBlk i) c) = _
  rw [projVal_at, shapeCast_apply _ _ (ix2 (inBlk i) c) (ix3 0 (inBlk i) c) (by
    rw [Shape.rowMajor_val_two, Shape.rowMajor_val_three]
    show (0 * 256 + (inBlk i).val) * 1024 + c.val = (inBlk i).val * 1024 + c.val
    omega), outR_at, rowAt_blk]

end Cert.KernelIdeal.Att
-- ==== Proof.HostVals.lean ====
module

public import proofs.«01_k».proof.Proof.Start
public import Idealize.ShloMosaic.Lib.StableHlo.RunClose
public import Idealize.ShloMosaic.Lib.Pipeline.Value

/- What the host's operations leave for the kernel, at an index: the rows of x, and the device's own batch entry of K and V
with the heads laid side by side. -/

@[expose] public section

noncomputable section

namespace Cert.KernelIdeal.Att

open Idealize.ShloMosaic Idealize.ShloMosaic.TcCoe Idealize.ShloMosaic.ValueIdx Idealize.ShloMosaic.StableHlo
open Cert.KernelIdeal Cert.KernelIdeal.Gen

variable {F : FTy → Type} [FloatOps F] [Named F]
variable (m : (ℓ : Loc nD τ sig) → Buf (Elt F) ℓ)

/-- The position of the device on the mesh. -/
theorem place (c : Dev nD) : V1 m c main_v4 = fun _ => BitVec.ofNat 32 c.val := by
  show after (hostOps0 c) (V0 m c) (Proc.devRef .tc main_v4) = _
  after_results_simp_entrywise
  funext i
  have h : ∀ c : Dev nD, IntOp.remui .host (IntOp.divui .host (Dev.word c) 1#32) 8#32 = BitVec.ofNat 32 c.val := by decide
  exact h c

/-- The rows without the axis of size one. -/
theorem drop_at (x : (⟨S1x1024x1024, .bf16⟩ : BufTy).Contents (Elt F)) (r a : Fin 1024) :
    shapeCast S1024x1024 x shapeCasts_S1x1024x1024_S1024x1024 (ix2 r a) = x (ix3 0 r a) :=
  shapeCast_apply x _ _ _ (by
    rw [Shape.rowMajor_val_two, Shape.rowMajor_val_three]
    show (0 * 1024 + r.val) * 1024 + a.val = r.val * 1024 + a.val
    omega)

theorem rows_at (c : Dev nD) (r a : Fin 1024) : V1 m c main_v5 (ix2 r a) = V0 m c main_arg0 (ix3 0 r a) := by
  have h : V1 m c main_v5 = shapeCast S1024x1024 (V0 m c main_arg0) shapeCasts_S1x1024x1024_S1024x1024 := by
    show after (hostOps0 c) (V0 m c) (Proc.devRef .tc main_v5) = _
    after_results_simp_entrywise
    rfl
  rw [h]
  exact drop_at _ r a

/-- A slice one thick on the first axis, whole on the others, with that axis dropped. -/
theorem slice_at (x : (⟨S8x1024x64x128, .bf16⟩ : BufTy).Contents (Elt F)) (start : Fin 4 → Int) (d : Fin 8)
    (h0 : start 0 = (d.val : Int)) (h1 : start 1 = 0) (h2 : start 2 = 0) (h3 : start 3 = 0) (j : Fin 1024) (h : Fin 64) (e : Fin 128) :
    shapeCast S1024x64x128 (Host.dynamicSlice S1x1024x64x128 x start sliceFits_S8x1024x64x128_S1x1024x64x128)
      shapeCasts_S1x1024x64x128_S1024x64x128 (ix3 j h e) = x (ix4 d j h e) := by
  rw [shapeCast_apply _ _ _ (ix4 (0 : Fin 1) j h e) (by
    rw [Shape.rowMajor_val_four, Shape.rowMajor_val_three]
    show ((0 * 1024 + j.val) * 64 + h.val) * 128 + e.val = (j.val * 64 + h.val) * 128 + e.val
    omega)]
  refine congrArg x (funext fun a => Fin.ext ?_)
  match a with
  | ⟨0, _⟩ => show (min (max (start 0) 0) ((8 - 1 : ℕ) : Int)).toNat + 0 = d.val; rw [h0]; omega
  | ⟨1, _⟩ => show (min (max (start 1) 0) ((1024 - 1024 : ℕ) : Int)).toNat + j.val = j.val; rw [h1]; omega
  | ⟨2, _⟩ => show (min (max (start 2) 0) ((64 - 64 : ℕ) : Int)).toNat + h.val = h.val; rw [h2]; omega
  | ⟨3, _⟩ => show (min (max (start 3) 0) ((128 - 128 : ℕ) : Int)).toNat + e.val = e.val; rw [h3]; omega

/-- The start the calls compute from the position: the position itself, as it is not negative. -/
theorem start_word (d : Fin 8) :
    (Scalar.select (IntOp.cmpi .slt (BitVec.ofNat 32 d.val) 0#32) (IntOp.addi (BitVec.ofNat 32 d.val) 8#32) (BitVec.ofNat 32 d.val)).toInt
      = (d.val : Int) := by
  revert d; decide

/-- Batch entry `d`, sliced out by the first call. -/
theorem entry_K (W : Valuation τ sig (Elt F)) (d : Fin 8) (hd : W main_v4 = fun _ => BitVec.ofNat 32 d.val)
    (j : Fin 1024) (h : Fin 64) (e : Fin 128) :
    after hostOps0_1 W (Proc.devRef .tc main_v6) (ix3 j h e) = W main_arg2 (ix4 d j h e) := by
  after_results_simp_entrywise
  rw [hd]
  exact slice_at (W main_arg2) _ d (start_word d) rfl rfl rfl j h e

/-- The same of V, by the second call. -/
theorem entry_V (W : Valuation τ sig (Elt F)) (d : Fin 8) (hd : W main_v4 = fun _ => BitVec.ofNat 32 d.val)
    (j : Fin 1024) (h : Fin 64) (e : Fin 128) :
    after hostOps0_2 W (Proc.devRef .tc main_v7) (ix3 j h e) = W main_arg3 (ix4 d j h e) := by
  after_results_simp_entrywise
  rw [hd]
  exact slice_at (W main_arg3) _ d (start_word d) rfl rfl rfl j h e

/-- The heads laid side by side. -/
theorem flat_at (x : (⟨S1024x64x128, .bf16⟩ : BufTy).Contents (Elt F)) (j : Fin 1024) (n : Fin 8192) :
    shapeCast S1024x8192 x shapeCasts_S1024x64x128_S1024x8192 (ix2 j n) = x (ix3 j ⟨n.val / 128, by omega⟩ ⟨n.val % 128, by omega⟩) :=
  shapeCast_apply x _ _ _ (by
    rw [Shape.rowMajor_val_two, Shape.rowMajor_val_three]
    show (j.val * 64 + n.val / 128) * 128 + n.val % 128 = j.val * 8192 + n.val
    omega)

theorem flat_K (W : Valuation τ sig (Elt F)) (j : Fin 1024) (n : Fin 8192) :
    after hostOps0_3 W (Proc.devRef .tc main_v8) (ix2 j n) = W main_v6 (ix3 j ⟨n.val / 128, by omega⟩ ⟨n.val % 128, by omega⟩) := by
  have h : after hostOps0_3 W (Proc.devRef .tc main_v8) = shapeCast S1024x8192 (W main_v6) shapeCasts_S1024x64x128_S1024x8192 := by
    after_results_simp_entrywise
    rfl
  rw [h]
  exact flat_at _ j n

theorem flat_V (W : Valuation τ sig (Elt F)) (j : Fin 1024) (n : Fin 8192) :
    after hostOps0_3 W (Proc.devRef .tc main_v9) (ix2 j n) = W main_v7 (ix3 j ⟨n.val / 128, by omega⟩ ⟨n.val % 128, by omega⟩) := by
  have h : after hostOps0_3 W (Proc.devRef .tc main_v9) = shapeCast S1024x8192 (W main_v7) shapeCasts_S1024x64x128_S1024x8192 := by
    after_results_simp_entrywise
    rfl
  rw [h]
  exact flat_at _ j n

/-! ## The kernel's operands -/

theorem DM_x (c : Dev nD) (r a : Fin 1024) : (DM m).x c (ix2 r a) = m ((c.tc : Thread nD τ).loc main_arg0) (ix3 0 r a) := by
  show V4 m c main_v5 (ix2 r a) = _
  rw [V4_of m c main_v5 (by decide), V3_of m c main_v5 (by decide), V2_of m c main_v5 (by decide), rows_at]

theorem DM_wq (c : Dev nD) : (DM m).w false c = m ((c.tc : Thread nD τ).loc main_arg1) := by
  show V4 m c main_arg1 = _
  rw [V4_of m c main_arg1 (by decide), V3_of m c main_arg1 (by decide), V2_of m c main_arg1 (by decide), V1_of m c main_arg1 (by decide)]

theorem DM_wo (c : Dev nD) : (DM m).w true c = m ((c.tc : Thread nD τ).loc main_arg4) := by
  show V4 m c main_arg4 = _
  rw [V4_of m c main_arg4 (by decide), V3_of m c main_arg4 (by decide), V2_of m c main_arg4 (by decide), V1_of m c main_arg4 (by decide)]

theorem DM_k (c : Dev nD) (j : Fin 1024) (n : Fin 8192) :
    (DM m).kv false c (ix2 j n) = m ((c.tc : Thread nD τ).loc main_arg2) (ix4 c j ⟨n.val / 128, by omega⟩ ⟨n.val % 128, by omega⟩) := by
  show V4 m c main_v8 (ix2 j n) = _
  refine (flat_K _ j n).trans ?_
  rw [V3_of m c main_v6 (by decide)]
  refine (entry_K _ c (place m c) _ _ _).trans ?_
  rw [V1_of m c main_arg2 (by decide)]

theorem DM_v (c : Dev nD) (j : Fin 1024) (n : Fin 8192) :
    (DM m).kv true c (ix2 j n) = m ((c.tc : Thread nD τ).loc main_arg3) (ix4 c j ⟨n.val / 128, by omega⟩ ⟨n.val % 128, by omega⟩) := by
  show V4 m c main_v9 (ix2 j n) = _
  refine (flat_V _ j n).trans ?_
  refine (entry_V _ c ((V2_of m c main_v4 (by decide)).trans (place m c)) _ _ _).trans ?_
  rw [V2_of m c main_arg3 (by decide), V1_of m c main_arg3 (by decide)]

end Cert.KernelIdeal.Att
-- ==== Proof.RefValue.lean ====
module

/- The reference's result at an index, over the extended reals: for every head the banded softmax of the scaled scores,
weighting the values, and the output projection summed over the 8192 columns. -/

public import proofs.«01_k».proof.Proof.Gen.ReferenceIdeal.Read
public import proofs.«01_k».proof.Proof.Band
public import proofs.«01_k».proof.Proof.Softmax
public import Idealize.ShloMosaic.Lib.IdealHost

@[expose] public section

noncomputable section

namespace Cert.ReferenceIdeal.Att

open Cert.ReferenceIdeal Cert.ReferenceIdeal.Gen Cert.ReferenceIdeal.Read Idealize.ShloMosaic Idealize.ShloMosaic.ValueIdx
open Cert.Band

/-- The scale of the scores: the nearest word to the reciprocal of the root of 128. -/
def S : EReal := Ideal.ofBits .f32 0x3DB504F3#32

/-- Column `d` of head `h`. -/
def col (h : Fin 64) (d : Fin 128) : Fin 8192 := ⟨128 * h.val + d.val, by omega⟩

variable (x : (⟨S8x1024x1024, .bf16⟩ : BufTy).Contents (Elt Ideal)) (wq : (⟨S1024x8192, .bf16⟩ : BufTy).Contents (Elt Ideal))
  (k v : (⟨S8x1024x64x128, .bf16⟩ : BufTy).Contents (Elt Ideal)) (wo : (⟨S8192x1024, .bf16⟩ : BufTy).Contents (Elt Ideal))

/-- The query projection. -/
def proj (b : Fin 8) (i : Fin 1024) (n : Fin 8192) : EReal := ∑ a : Fin 1024, x (ix3 b i a) * wq (ix2 a n)

/-- The scaled score of query `i` against key `j`. -/
def score (b : Fin 8) (h : Fin 64) (i j : Fin 1024) : EReal :=
  (∑ d : Fin 128, proj x wq b i (col h d) * k (ix4 b j h d)) * S

/-- The scores with the keys outside the band at −∞. -/
def masked (b : Fin 8) (h : Fin 64) (i j : Fin 1024) : EReal :=
  if near i.val j.val then score x wq k b h i j else ⊥

/-- The greatest masked score of a row. -/
def top (b : Fin 8) (h : Fin 64) (i : Fin 1024) : EReal := Finset.univ.fold max ⊥ (masked x wq k b h i)

/-- The context of query `i` in head `h`. -/
def ctx (b : Fin 8) (i : Fin 1024) (h : Fin 64) (d : Fin 128) : EReal :=
  ∑ j : Fin 1024, v (ix4 b j h d) *
    Ideal.div (Ideal.exp (masked x wq k b h i j - top x wq k b h i)) (∑ l : Fin 1024, Ideal.exp (masked x wq k b h i l - top x wq k b h i))

theorem band_at (i j : Fin 1024) : val_main_v12 (F := Ideal) (ix2 i j) = if near i.val j.val then 1#1 else 0#1 := by
  rw [val_main_v12_apply, val_main_v10_apply, val_main_v9_apply, val_main_v7_apply, val_main_v4_apply, val_main_v3_apply,
    val_main_v8_apply, val_main_v6_apply, val_main_v5_apply, val_main_v11_apply, val_main_c_apply]
  exact near_word i.val j.val i.isLt j.isLt

theorem reduces_scores : S8x64x1024x1024.Reduces [3] S8x64x1024 := by decide
theorem reduces_band : S1024x1024.Reduces [1] S1024 := by decide

theorem lift_scores (b : Fin 8) (h : Fin 64) (i j : Fin 1024) : reduces_scores.lift (ix3 b h i) j = ix4 b h i j := by
  funext a
  match a with
  | ⟨0, _⟩ => rfl
  | ⟨1, _⟩ => rfl
  | ⟨2, _⟩ => rfl
  | ⟨3, _⟩ => rfl

theorem lift_band (i j : Fin 1024) : reduces_band.lift (ix1 i) j = ix2 i j := by
  funext a
  match a with
  | ⟨0, _⟩ => rfl
  | ⟨1, _⟩ => rfl

/-- An or over a list of bits one of which is set. -/
theorem ori_one {ι : Type} [DecidableEq ι] (s : Finset ι) (f : ι → BitVec 1) (i : ι) (hi : i ∈ s) (h : f i = 1#1) :
    s.fold IntOp.ori 0#1 f = 1#1 := by
  rw [← Finset.insert_erase hi, Finset.fold_insert (Finset.notMem_erase i s), h]
  generalize (s.erase i).fold IntOp.ori 0#1 f = w
  revert w
  decide

/-- Every row keeps a key. -/
theorem keep_at (i : Fin 1024) : val_main_v25 (F := Ideal) (ix1 i) = 1#1 := by
  unfold val_main_v25
  rw [Host.reduce_eq_fold_single IntOp.ori _ _ _ reduces_band _ _]
  refine ori_one _ _ i (Finset.mem_univ _) ?_
  show val_main_v12 (F := Ideal) (reduces_band.lift (ix1 i) i) = 1#1
  rw [lift_band, band_at, if_pos (near_self _)]

theorem bottom : Ideal.ofBits .f32 0xFF800000#32 = (⊥ : EReal) := by simp [Ideal.ofBits, Ideal.ieee]

theorem proj_at (b : Fin 8) (i : Fin 1024) (n : Fin 8192) : val_main_v0 (F := Ideal) x wq (ix3 b i n) = proj x wq b i n := by
  rw [val_main_v0_apply]
  refine Finset.sum_congr rfl fun a _ => ?_
  congr 2
  · funext e
    match e with
    | ⟨0, _⟩ => rfl
    | ⟨1, _⟩ => rfl
    | ⟨2, _⟩ => rfl
  · funext e
    match e with
    | ⟨0, _⟩ => rfl
    | ⟨1, _⟩ => rfl

theorem head_at (b : Fin 8) (i : Fin 1024) (h : Fin 64) (d : Fin 128) :
    val_main_v2 (F := Ideal) x wq (ix4 b i h d) = proj x wq b i (col h d) := by
  rw [val_main_v2_apply, val_main_v1_apply, Ideal.truncf_def, ← proj_at]
  congr 1
  funext e
  match e with
  | ⟨0, _⟩ => exact Fin.ext (by show (((b.val * 1024 + i.val) * 64 + h.val) * 128 + d.val) / 8388608 = b.val; omega)
  | ⟨1, _⟩ => exact Fin.ext (by show (((b.val * 1024 + i.val) * 64 + h.val) * 128 + d.val) / 8192 % 1024 = i.val; omega)
  | ⟨2, _⟩ => exact Fin.ext (by show (((b.val * 1024 + i.val) * 64 + h.val) * 128 + d.val) % 8192 = 128 * h.val + d.val; omega)

theorem score_at (b : Fin 8) (h : Fin 64) (i j : Fin 1024) :
    val_main_v17 (F := Ideal) x wq k (ix4 b h i j) = score x wq k b h i j := by
  rw [val_main_v17_apply, val_main_v15_apply, val_main_v14_apply, val_main_v13_apply, val_main_v16_apply, val_main_cst_apply]
  show (∑ d : Fin 128, val_main_v2 (F := Ideal) x wq (lidx_main_v13 (ix4 b h i j) d) * k (ridx_main_v13 (ix4 b h i j) d)) * S = _
  unfold score
  congr 1
  refine Finset.sum_congr rfl fun d _ => ?_
  rw [← head_at]
  congr 2
  · funext e
    match e with
    | ⟨0, _⟩ => rfl
    | ⟨1, _⟩ => rfl
    | ⟨2, _⟩ => rfl
    | ⟨3, _⟩ => rfl
  · funext e
    match e with
    | ⟨0, _⟩ => rfl
    | ⟨1, _⟩ => rfl
    | ⟨2, _⟩ => rfl
    | ⟨3, _⟩ => rfl

theorem masked_at (b : Fin 8) (h : Fin 64) (i j : Fin 1024) :
    val_main_v19 (F := Ideal) x wq k (ix4 b h i j) = masked x wq k b h i j := by
  rw [val_main_v19_apply, val_main_call0_v1_apply, val_main_v18_apply, val_main_call0_v2_apply, val_main_call0_v0_apply,
    val_main_cst_0_apply, score_at]
  have e : idx_main_v18 (idx_main_call0_v1 (ix4 b h i j)) = ix2 i j := by
    funext a
    match a with
    | ⟨0, _⟩ => rfl
    | ⟨1, _⟩ => rfl
  rw [e, band_at]
  show Scalar.select _ _ (Ideal.ofBits .f32 0xFF800000#32) = _
  rw [bottom]
  unfold masked Scalar.select
  by_cases hn : near i.val j.val
  · simp [hn]
  · simp [hn]

theorem top_at (b : Fin 8) (h : Fin 64) (i : Fin 1024) : val_main_v20 (F := Ideal) x wq k (ix3 b h i) = top x wq k b h i := by
  unfold val_main_v20
  rw [Host.reduce_eq_fold_single FloatOps.maximumf _ _ _ reduces_scores _ _, val_main_cst_1_apply]
  unfold top
  show Finset.univ.fold max (Ideal.ofBits .f32 0xFF800000#32) _ = _
  rw [bottom]
  refine Finset.fold_congr fun j _ => ?_
  exact (congrArg (val_main_v19 (F := Ideal) x wq k) (lift_scores b h i j)).trans (masked_at x wq k b h i j)

theorem exp_at (b : Fin 8) (h : Fin 64) (i j : Fin 1024) :
    val_main_v24 (F := Ideal) x wq k (ix4 b h i j) = Ideal.exp (masked x wq k b h i j - top x wq k b h i) := by
  rw [val_main_v24_apply, val_main_v23_apply, val_main_v22_apply, val_main_v21_apply, masked_at]
  have e : idx_main_v21 (idx_main_v22 (ix4 b h i j)) = ix3 b h i := by
    funext a
    match a with
    | ⟨0, _⟩ => rfl
    | ⟨1, _⟩ => rfl
    | ⟨2, _⟩ => rfl
  rw [e, top_at]
  rfl

theorem mass_at (b : Fin 8) (h : Fin 64) (i : Fin 1024) :
    val_main_v27 (F := Ideal) x wq k (ix3 b h i) = ∑ l : Fin 1024, Ideal.exp (masked x wq k b h i l - top x wq k b h i) := by
  rw [val_main_v27_apply, val_main_cst_3_apply]
  show Ideal.ofBits .f32 0x00000000#32 + _ = _
  rw [show Ideal.ofBits .f32 0x00000000#32 = (0 : EReal) from Ideal.ofBits_zero_f32, zero_add]
  refine Finset.sum_congr rfl fun l _ => ?_
  rw [← exp_at]
  congr 1
  funext a
  match a with
  | ⟨0, _⟩ => rfl
  | ⟨1, _⟩ => rfl
  | ⟨2, _⟩ => rfl
  | ⟨3, _⟩ => rfl

theorem weight_at (b : Fin 8) (h : Fin 64) (i j : Fin 1024) :
    val_main_v33 (F := Ideal) x wq k (ix4 b h i j)
      = Ideal.div (Ideal.exp (masked x wq k b h i j - top x wq k b h i)) (∑ l : Fin 1024, Ideal.exp (masked x wq k b h i l - top x wq k b h i)) := by
  rw [val_main_v33_apply, val_main_call2_v1_apply, val_main_v32_apply, val_main_v31_apply, val_main_v30_apply,
    val_main_v29_apply, val_main_call1_v1_apply, val_main_v26_apply, val_main_v28_apply, exp_at]
  have e1 : idx_main_v32 (idx_main_call2_v1 (ix4 b h i j)) = ix1 i := by
    funext a
    match a with
    | ⟨0, _⟩ => rfl
  have e2 : idx_main_v26 (idx_main_call1_v1 (idx_main_v30 (ix4 b h i j))) = ix1 i := by
    funext a
    match a with
    | ⟨0, _⟩ => rfl
  have e3 : idx_main_v28 (idx_main_v30 (ix4 b h i j)) = ix3 b h i := by
    funext a
    match a with
    | ⟨0, _⟩ => rfl
    | ⟨1, _⟩ => rfl
    | ⟨2, _⟩ => rfl
  rw [e1, e2, e3, keep_at, mass_at]
  rfl

theorem ctx_at (b : Fin 8) (i : Fin 1024) (h : Fin 64) (d : Fin 128) :
    val_main_v36 (F := Ideal) x wq k v (ix4 b i h d) = ctx x wq k v b i h d := by
  rw [val_main_v36_apply, val_main_v35_apply]
  unfold ctx
  refine Finset.sum_congr rfl fun j _ => ?_
  rw [val_main_v34_apply, ← weight_at]
  show v _ * _ = _
  congr 2
  · funext e
    match e with
    | ⟨0, _⟩ => rfl
    | ⟨1, _⟩ => rfl
    | ⟨2, _⟩ => rfl
    | ⟨3, _⟩ => rfl
  · funext e
    match e with
    | ⟨0, _⟩ => rfl
    | ⟨1, _⟩ => rfl
    | ⟨2, _⟩ => rfl
    | ⟨3, _⟩ => rfl

/-- The reference's result. -/
theorem out_at (b : Fin 8) (i c : Fin 1024) :
    val_main_v39 (F := Ideal) x wq k v wo (ix3 b i c)
      = ∑ n : Fin 8192, ctx x wq k v b i ⟨n.val / 128, by omega⟩ ⟨n.val % 128, by omega⟩ * wo (ix2 n c) := by
  rw [val_main_v39_apply]
  refine Finset.sum_congr rfl fun n _ => ?_
  rw [val_main_v37_apply, val_main_v38_apply, ← ctx_at]
  show _ * wo _ = _
  congr 2
  · funext e
    match e with
    | ⟨0, _⟩ => exact Fin.ext (by show ((b.val * 1024 + i.val) * 8192 + n.val) / 8388608 = b.val; omega)
    | ⟨1, _⟩ => exact Fin.ext (by show ((b.val * 1024 + i.val) * 8192 + n.val) / 8192 % 1024 = i.val; omega)
    | ⟨2, _⟩ => exact Fin.ext (by show ((b.val * 1024 + i.val) * 8192 + n.val) / 128 % 64 = n.val / 128; omega)
    | ⟨3, _⟩ => exact Fin.ext (by show ((b.val * 1024 + i.val) * 8192 + n.val) % 128 = n.val % 128; omega)
  · funext e
    match e with
    | ⟨0, _⟩ => rfl
    | ⟨1, _⟩ => rfl

end Cert.ReferenceIdeal.Att
-- ==== Proof.Bridge.lean ====
module

public import proofs.«01_k».proof.Proof.Value
public import proofs.«01_k».proof.Proof.HostVals
public import proofs.«01_k».proof.Proof.RefValue

/- The kernel's result is the block of the reference's: each part of the kernel is one group of eight heads, and the eight
parts of a device run over the eight groups. -/

@[expose] public section

noncomputable section

namespace Cert.KernelIdeal.Att

open Idealize.ShloMosaic Idealize.ShloMosaic.TcCoe Idealize.ShloMosaic.ValueIdx
open Cert.KernelIdeal Cert.KernelIdeal.Gen Cert.Band Cert.Softmax
open Cert.ReferenceIdeal.Att (proj score masked top ctx col)

/-! ## The groups -/

/-- The hops the blocks of part `r` have made. -/
def hops (r : Fin 8) : ℕ := ![0, 1, 2, 4, 5, 3, 6, 7] r

theorem off1_got : ∀ (c : Dev nD) (r : Fin 8), k0_off1 c (k0_off1_at r) = ![0, 1024 * (got false c (hops r)).val] := by decide +kernel

theorem got_back : ∀ c : Dev nD, got true c 4 = got false c 4 ∧ got true c 3 = got false c 5 ∧ got true c 5 = got false c 3
    ∧ got true c 6 = got false c 2 ∧ got true c 2 = got false c 6 ∧ got true c 7 = got false c 1 ∧ got true c 1 = got false c 7 := by decide

theorem hops_bij (c : Dev nD) : Function.Bijective fun n : Fin 8 => got false c n.val := by
  rw [Fintype.bijective_iff_injective_and_card]
  exact ⟨by revert c; decide, rfl⟩

/-- Column `n` of group `g` among all columns. -/
def wide (g : Dev nD) (n : Fin 1024) : Fin 8192 := ⟨1024 * g.val + n.val, by have : g.val < 8 := g.isLt; omega⟩
/-- Head `t` of group `g` among all heads. -/
def headAt (g : Dev nD) (t : Fin 8) : Fin 64 := ⟨8 * g.val + t.val, by have : g.val < 8 := g.isLt; omega⟩

theorem kvR_at (c : Dev nD) (r : Fin 8) (j n : Fin 1024) : (kvR c r).emb (ix2 j n) = ix2 j (wide (got false c (hops r)) n) := by
  have h := off1_got c r
  funext e
  match e with
  | ⟨0, _⟩ => exact Fin.ext (by show k0_off1 c (k0_off1_at r) 0 + 1 * j.val = j.val; rw [h]; show 0 + 1 * j.val = j.val; omega)
  | ⟨1, _⟩ => exact Fin.ext (by
      show k0_off1 c (k0_off1_at r) 1 + 1 * n.val = 1024 * (got false c (hops r)).val + n.val
      rw [h]
      show 1024 * (got false c (hops r)).val + 1 * n.val = _
      omega)

/-- A sum over the groups, in the order the kernel adds them. -/
theorem sum_groups (f : Dev nD → EReal) (c : Dev nD) :
    f c + f (got false c 4) + f (got false c 5) + f (got false c 3) + f (got false c 2) + f (got false c 6) + f (got false c 1) + f (got false c 7)
      = ∑ g : Dev nD, f g := by
  rw [← Function.Bijective.sum_comp (hops_bij c) f, Fin.sum_univ_eight]
  show _ = f c + f (got false c 1) + f (got false c 2) + f (got false c 3) + f (got false c 4) + f (got false c 5) + f (got false c 6) + f (got false c 7)
  ac_rfl

/-- A sum over all columns, by group. -/
theorem sum_wide (f : Fin 8192 → EReal) : ∑ g : Dev nD, ∑ n : Fin 1024, f (wide g n) = ∑ N : Fin 8192, f N := by
  rw [← Fintype.sum_prod_type' (f := fun (g : Fin 8) (n : Fin 1024) => f (wide g n))]
  refine Fintype.sum_equiv (finProdFinEquiv (m := 8) (n := 1024)) _ _ fun p => congrArg f (Fin.ext ?_)
  show 1024 * p.1.val + p.2.val = p.2.val + 1024 * p.1.val
  omega

/-! ## One group -/

variable (X : (⟨Cert.ReferenceIdeal.S8x1024x1024, .bf16⟩ : BufTy).Contents (Elt Ideal))
  (WQ : (⟨Cert.ReferenceIdeal.S1024x8192, .bf16⟩ : BufTy).Contents (Elt Ideal))
  (K V : (⟨Cert.ReferenceIdeal.S8x1024x64x128, .bf16⟩ : BufTy).Contents (Elt Ideal))
  (WO : (⟨Cert.ReferenceIdeal.S8192x1024, .bf16⟩ : BufTy).Contents (Elt Ideal))

theorem scale_real : IsReal scale := by
  unfold scale
  simp only [Ideal.ofBits, Ideal.ieee]
  exact ⟨_, rfl⟩

/-- The window of a row's block holds every key of its band. -/
theorem band_window (r j : Fin 1024) (h : near r.val j.val) : kOf (blkOf r) ≤ j.val ∧ j.val < kOf (blkOf r) + 512 := by
  obtain ⟨h1, h2⟩ := h
  have hb : (blkOf r).val = r.val / 256 := rfl
  have hr := r.isLt
  have hj := j.isLt
  generalize blkOf r = b at hb ⊢
  match b with
  | 0 => have : r.val / 256 = 0 := hb.symm; show 0 ≤ j.val ∧ j.val < 0 + 512; omega
  | 1 => have : r.val / 256 = 1 := hb.symm; show 128 ≤ j.val ∧ j.val < 128 + 512; omega
  | 2 => have : r.val / 256 = 2 := hb.symm; show 384 ≤ j.val ∧ j.val < 384 + 512; omega
  | 3 => have : r.val / 256 = 3 := hb.symm; show 512 ≤ j.val ∧ j.val < 512 + 512; omega

section reals
variable (hX : ∀ i, IsReal (X i)) (hQ : ∀ i, IsReal (WQ i)) (hK : ∀ i, IsReal (K i))
include hX hQ hK

theorem proj_real (b : Fin 8) (i : Fin 1024) (n : Fin 8192) : IsReal (proj X WQ b i n) :=
  IsReal.sum _ _ fun _ => (hX _).mul (hQ _)

theorem score_real (b : Fin 8) (h : Fin 64) (i j : Fin 1024) : IsReal (score X WQ K b h i j) :=
  (IsReal.sum _ _ fun _ => (proj_real X WQ K hX hQ hK b i _).mul (hK _)).mul scale_real

theorem top_real (b : Fin 8) (h : Fin 64) (i : Fin 1024) : IsReal (top X WQ K b h i) := by
  refine max_real _ i ?_ fun j => ?_
  · unfold masked
    rw [if_pos (near_self _)]
    exact score_real X WQ K hX hQ hK b h i i
  · unfold masked
    split
    · obtain ⟨r, hr⟩ := score_real X WQ K hX hQ hK b h i j
      rw [hr]
      exact EReal.coe_lt_top r
    · exact bot_lt_top

/-- The reference's context of a row, from the keys of the window of the row's block alone. -/
theorem ctx_window (b : Fin 8) (r : Fin 1024) (h : Fin 64) (d : Fin 128) :
    ctx X WQ K V b r h d = ∑ j : Fin 512,
      Ideal.div (Ideal.exp (score X WQ K b h r (keyAt (blkOf r) j) + if near r.val (keyAt (blkOf r) j).val then 0 else ⊥))
        (∑ l : Fin 512, Ideal.exp (score X WQ K b h r (keyAt (blkOf r) l) + if near r.val (keyAt (blkOf r) l).val then 0 else ⊥))
        * V (ix4 b (keyAt (blkOf r) j) h d) := by
  choose s hs using score_real X WQ K hX hQ hK b h r
  obtain ⟨M, hM⟩ := top_real X WQ K hX hQ hK b h r
  have e := row_eq s (fun j : Fin 1024 => near r.val j.val) r (near_self _) (kOf (blkOf r)) (kOf_le _) (fun j => band_window r j) M
    (fun j => V (ix4 b j h d))
  have hm : ∀ j, masked X WQ K b h r j = banded s (fun j : Fin 1024 => near r.val j.val) j := by
    intro j
    unfold masked banded
    rw [hs]
  unfold ctx
  simp only [hm, hM, hs]
  exact e

end reals

/-- The arrays of one device are its blocks of the whole arrays. -/
structure Blocks (m : (ℓ : Loc nD τ sig) → Buf (Elt Ideal) ℓ) : Prop where
  x : ∀ (c : Dev nD) (r a : Fin 1024), m ((c.tc : Thread nD τ).loc main_arg0) (ix3 0 r a) = X (ix3 c r a)
  wq : ∀ (c : Dev nD) (r a : Fin 1024), m ((c.tc : Thread nD τ).loc main_arg1) (ix2 r a) = WQ (ix2 r (wide c a))
  k : ∀ c : Dev nD, m ((c.tc : Thread nD τ).loc main_arg2) = K
  v : ∀ c : Dev nD, m ((c.tc : Thread nD τ).loc main_arg3) = V
  wo : ∀ (c : Dev nD) (r a : Fin 1024), m ((c.tc : Thread nD τ).loc main_arg4) (ix2 r a) = WO (ix2 (wide c r) a)

variable {X WQ K V WO}
variable {m : (ℓ : Loc nD τ sig) → Buf (Elt Ideal) ℓ} (B : Blocks X WQ K V WO m)
include B

theorem q_at (c g : Dev nD) (r a : Fin 1024) : qMat ((DM m).x c) ((DM m).w false g) (ix2 r a) = proj X WQ c r (wide g a) * scale := by
  rw [qMat_at, DM_wq]
  unfold proj
  congr 1
  refine Finset.sum_congr rfl fun k _ => ?_
  rw [DM_x, B.x, B.wq]

theorem k_at (c : Dev nD) (p : Fin 8) (j : Fin 1024) (t : Fin 8) (e : Fin 128) :
    part (DM m) false c p (ix2 j (colAt t e)) = K (ix4 c j (headAt (got false c (hops p)) t) e) := by
  unfold part
  rw [kvR_at, DM_k, B.k]
  generalize got false c (hops p) = g
  have hg : g.val < 8 := g.isLt
  congr 1
  funext a
  match a with
  | ⟨0, _⟩ => rfl
  | ⟨1, _⟩ => rfl
  | ⟨2, _⟩ => exact Fin.ext (by show (1024 * g.val + (128 * t.val + e.val)) / 128 = 8 * g.val + t.val; omega)
  | ⟨3, _⟩ => exact Fin.ext (by show (1024 * g.val + (128 * t.val + e.val)) % 128 = e.val; omega)

theorem v_at (c : Dev nD) (p : Fin 8) (j : Fin 1024) (t : Fin 8) (e : Fin 128) :
    part (DM m) true c p (ix2 j (colAt t e)) = V (ix4 c j (headAt (got false c (hops p)) t) e) := by
  unfold part
  rw [kvR_at, DM_v, B.v]
  generalize got false c (hops p) = g
  have hg : g.val < 8 := g.isLt
  congr 1
  funext a
  match a with
  | ⟨0, _⟩ => rfl
  | ⟨1, _⟩ => rfl
  | ⟨2, _⟩ => exact Fin.ext (by show (1024 * g.val + (128 * t.val + e.val)) / 128 = 8 * g.val + t.val; omega)
  | ⟨3, _⟩ => exact Fin.ext (by show (1024 * g.val + (128 * t.val + e.val)) % 128 = e.val; omega)

variable (hX : ∀ i, IsReal (X i)) (hQ : ∀ i, IsReal (WQ i)) (hK : ∀ i, IsReal (K i))
include hX hQ hK

theorem winScore_eq (c : Dev nD) (p : Fin 8) (r : Fin 1024) (t : Fin 8) (j : Fin 512) :
    winScore (qMat ((DM m).x c) ((DM m).w false (got false c (hops p)))) (part (DM m) false c p) r t j
      = score X WQ K c (headAt (got false c (hops p)) t) r (keyAt (blkOf r) j) + if near r.val (keyAt (blkOf r) j).val then 0 else ⊥ := by
  unfold winScore score
  congr 1
  rw [← show scale = Cert.ReferenceIdeal.Att.S from rfl, ← scale_dot _ _ _ _ (fun e => proj_real X WQ K hX hQ hK c r _) (fun e => hK _) scale_real]
  refine Finset.sum_congr rfl fun e _ => ?_
  rw [q_at B, k_at B]
  generalize got false c (hops p) = g
  have e1 : wide g (colAt t e) = col (headAt g t) e := Fin.ext (by
    show 1024 * g.val + (128 * t.val + e.val) = 128 * (8 * g.val + t.val) + e.val; omega)
  rw [e1]

/-- A part's contexts are the reference's of the part's group. -/
theorem Cx_at (c : Dev nD) (p : Fin 8) (r n : Fin 1024) :
    Cx (DM m) c p (got false c (hops p)) (ix2 r n) = ctx X WQ K V c r (headAt (got false c (hops p)) (headOf n)) (inHead n) := by
  rw [ctx_window X WQ K V hX hQ hK]
  conv_lhs => rw [← colAt_head n]
  unfold Cx
  rw [ctxMat_val]
  simp only [winScore_eq B hX hQ hK, v_at B]

/-- A part's contribution to the result. -/
theorem term_at (c : Dev nD) (p : Fin 8) (i a : Fin 1024) :
    ∑ n : Fin 1024, Cx (DM m) c p (got false c (hops p)) (ix2 i n) * (DM m).w true (got false c (hops p)) (ix2 n a)
      = ∑ n : Fin 1024, (fun N : Fin 8192 => ctx X WQ K V c i ⟨N.val / 128, by omega⟩ ⟨N.val % 128, by omega⟩ * WO (ix2 N a))
          (wide (got false c (hops p)) n) := by
  refine Finset.sum_congr rfl fun n _ => ?_
  rw [Cx_at B hX hQ hK, DM_wo, B.wo]
  generalize got false c (hops p) = g
  have hg : g.val < 8 := g.isLt
  have e1 : headAt g (headOf n) = ⟨(wide g n).val / 128, by have := (wide g n).isLt; omega⟩ := Fin.ext (by
    show 8 * g.val + n.val / 128 = (1024 * g.val + n.val) / 128; omega)
  have e2 : inHead n = ⟨(wide g n).val % 128, by omega⟩ := Fin.ext (by
    show n.val % 128 = (1024 * g.val + n.val) % 128; omega)
  rw [e1, e2]

/-- The kernel's result is its block of the reference's. -/
theorem out7_eq (c : Dev nD) (i a : Fin 1024) :
    out7 (DM m) c (ix3 0 i a) = Cert.ReferenceIdeal.Read.val_main_v39 (F := Ideal) X WQ K V WO (ix3 c i a) := by
  obtain ⟨h3, h4, h5, h2, h6, h1, h7⟩ := got_back c
  have T := fun p => term_at B hX hQ hK c p i a
  rw [Cert.ReferenceIdeal.Att.out_at, ← sum_wide, ← sum_groups _ c]
  unfold out7 out1 out6 out2 out5 out4 out3 out0
  rw [outMat_at, outMat_at, outMat_at, outMat_at, outMat_at, outMat_at, outMat_at, outMat0_at, h3, h4, h5, h2, h6, h1, h7]
  exact congr (congrArg _ (congr (congrArg _ (congr (congrArg _ (congr (congrArg _ (congr (congrArg _ (congr (congrArg _ (congr (congrArg _
    (T 0)) (T 3))) (T 4))) (T 5))) (T 2))) (T 6))) (T 1))) (T 7)

end Cert.KernelIdeal.Att
-- ==== Proof.Algebraic.lean ====
module

public import proofs.«01_k».proof.Proof.Bridge
public import proofs.«01_k».proof.Proof.Frames
public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.Layout

/- The claim about the values: over the extended reals, from finite activations, query weights and keys, every device
of the kernel ends with its block of the reference's result. -/

@[expose] public section

noncomputable section

namespace Cert.Proof

open Idealize.ShloMosaic Idealize.ShloMosaic.TcCoe Idealize.ShloMosaic.ValueIdx Idealize.SL.Sem
open Cert.Softmax Cert.KernelIdeal.Att

/-! ## Reading the precondition -/

/-- The bound of the precondition is plus infinity. -/
theorem bound_top : Ideal.ofBits .bf16 0x7F80#16 = (⊤ : EReal) := by
  simp [Ideal.ofBits, Ideal.ieee]

/-- An extended real below plus infinity in absolute value is a real. -/
theorem real_of_lt (x : EReal) (h : BitVec.ofBool (decide (max x (-x) < (⊤ : EReal))) = 1#1) : IsReal x := by
  have h' : max x (-x) < ⊤ := by
    by_contra hn
    rw [decide_eq_false hn] at h
    exact absurd h (by decide)
  induction x with
  | bot => simp at h'
  | top => simp at h'
  | coe r => exact ⟨r, rfl⟩

/-- A tested array is real everywhere. -/
theorem real_of_test {S : Shape} (x : FVec Ideal S .bf16) (hb : (⟨0, ![]⟩ : Shape).BroadcastsInDim S (![] : Fin 0 → Fin S.rank))
    (h : cmpf .olt (Host.absf x) (broadcastInDim S ![] hb (constant (F := Ideal) ⟨0, ![]⟩ .bf16 0x7F80#16)) = fun _ => 1#1) (i : S.Idx) : IsReal (x i) := by
  have hi : BitVec.ofBool (decide (max (x i) (-(x i)) < Ideal.ofBits .bf16 0x7F80#16)) = 1#1 := congrFun h i
  rw [bound_top] at hi
  exact real_of_lt _ hi

/-! ## Where a block's index lands -/

theorem rows3_at (h : Layout.Tiles ⟨3, ![1, 1024, 1024]⟩ ⟨3, ![8, 1024, 1024]⟩ 0 8) (c : Fin 8) (r a : Fin 1024) :
    h.idx c (ix3 0 r a) = ix3 c r a := by
  funext e
  refine Fin.ext ((h.idx_val c _ e).trans ?_)
  match e with
  | ⟨0, _⟩ => exact Nat.mul_one c.val
  | ⟨1, _⟩ => rfl
  | ⟨2, _⟩ => rfl

theorem cols2_at (h : Layout.Tiles ⟨2, ![1024, 1024]⟩ ⟨2, ![1024, 8192]⟩ 1 8) (c : Fin 8) (r a : Fin 1024) :
    h.idx c (ix2 r a) = ix2 r (wide c a) := by
  funext e
  refine Fin.ext ((h.idx_val c _ e).trans ?_)
  match e with
  | ⟨0, _⟩ => rfl
  | ⟨1, _⟩ => exact congrArg (· + a.val) (Nat.mul_comm c.val 1024)

theorem rows2_at (h : Layout.Tiles ⟨2, ![1024, 1024]⟩ ⟨2, ![8192, 1024]⟩ 0 8) (c : Fin 8) (r a : Fin 1024) :
    h.idx c (ix2 r a) = ix2 (wide c r) a := by
  funext e
  refine Fin.ext ((h.idx_val c _ e).trans ?_)
  match e with
  | ⟨0, _⟩ => exact congrArg (· + r.val) (Nat.mul_comm c.val 1024)
  | ⟨1, _⟩ => rfl

/-- Every column lies in some group. -/
theorem wide_surj (N : Fin 8192) : ∃ (g : Fin 8) (n : Fin 1024), N = wide g n :=
  ⟨⟨N.val / 1024, by omega⟩, ⟨N.val % 1024, by omega⟩, Fin.ext (by show N.val = 1024 * (N.val / 1024) + N.val % 1024; omega)⟩

/-- Where every device's blocks are real, so are the whole arrays. -/
theorem blocks_real {X WQ K V WO} {m : (ℓ : Loc Cert.KernelIdeal.nD Cert.KernelIdeal.τ Cert.KernelIdeal.sig) → Buf (Elt Ideal) ℓ}
    (B : Blocks X WQ K V WO m)
    (h : ∀ c : Dev Cert.KernelIdeal.nD,
      (∀ i : (⟨3, ![1, 1024, 1024]⟩ : Shape).Idx, IsReal (m ((c.tc : Thread Cert.KernelIdeal.nD Cert.KernelIdeal.τ).loc Cert.KernelIdeal.main_arg0) i))
      ∧ (∀ i : (⟨2, ![1024, 1024]⟩ : Shape).Idx, IsReal (m ((c.tc : Thread Cert.KernelIdeal.nD Cert.KernelIdeal.τ).loc Cert.KernelIdeal.main_arg1) i))
      ∧ (∀ i : (⟨4, ![8, 1024, 64, 128]⟩ : Shape).Idx, IsReal (m ((c.tc : Thread Cert.KernelIdeal.nD Cert.KernelIdeal.τ).loc Cert.KernelIdeal.main_arg2) i))) :
    (∀ i, IsReal (X i)) ∧ (∀ i, IsReal (WQ i)) ∧ (∀ i, IsReal (K i)) := by
  refine ⟨fun i => ?_, fun i => ?_, fun i => ?_⟩
  · rw [eq_ix3 i]
    exact (B.x (i 0) (i 1) (i 2)) ▸ (h (i 0)).1 (ix3 0 (i 1) (i 2))
  · obtain ⟨e, n, hn⟩ := wide_surj (i 1)
    rw [eq_ix2 i, hn]
    exact (B.wq e (i 0) n) ▸ (h e).2.1 (ix2 (i 0) n)
  · exact (B.k 0) ▸ (h 0).2.2 i

/-! ## The claim -/

variable [iKI : Cert.KernelIdeal.Facts] [iRI : Cert.ReferenceIdeal.Facts] [iPK : Cert.Pre_finite_scores_KernelIdeal.Facts]

theorem algebraic : Cert.algebraic_KernelIdeal_ReferenceIdeal_pre_finite_scores_KernelIdeal := by
  intro m g m' g' hp hm
  have B : Blocks _ _ _ _ _ m := {
    x := fun c r a => (congrFun (hm c).1 (ix3 0 r a)).trans (congrArg _ (rows3_at _ c r a))
    wq := fun c r a => (congrFun (hm c).2.1 (ix2 r a)).trans (congrArg _ (cols2_at _ c r a))
    k := fun c => (hm c).2.2.1
    v := fun c => (hm c).2.2.2.1
    wo := fun c r a => (congrFun (hm c).2.2.2.2 (ix2 r a)).trans (congrArg _ (rows2_at _ c r a)) }
  obtain ⟨hX, hQ, hK⟩ := blocks_real B fun c =>
    ⟨real_of_test _ _ (hp c).1, real_of_test _ _ (hp c).2.1, real_of_test _ _ (hp c).2.2⟩
  refine ⟨Cert.ReferenceIdeal.Value.res_main_v39 m' 0, ?_, ?_⟩
  · refine (θ_run (Cert.KernelIdeal.defs (F := Ideal)) _ _).mono (fun r h c => ?_) (run_main (F := Ideal) m g)
    obtain ⟨hargs, hout⟩ := h.1 c
    refine ⟨hout.trans ?_, hargs⟩
    rw [Cert.ReferenceIdeal.Read.val_main_v39_eq]
    funext i
    obtain ⟨r, a, rfl⟩ : ∃ r a : Fin 1024, i = ix3 0 r a := ⟨i 1, i 2, (eq_ix3 i).trans (congrArg (fun z => ix3 z (i 1) (i 2)) (Subsingleton.elim (α := Fin 1) _ _))⟩
    exact (out7_eq B hX hQ hK c r a).trans (congrArg _ (rows3_at _ c r a)).symm
  · exact (θ_run (Cert.ReferenceIdeal.defs (F := Ideal)) _ _).mono (fun r h => ⟨(h 0).1, (h 0).2⟩) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The reference runs to its end, leaves its arguments, and has no semaphore. -/
theorem frame_referenceIdeal [Cert.ReferenceIdeal.Facts] : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The one rewrite of the idealised kernel: its mask constant is named. -/
theorem preserves : Cert.preserves_Kernel_KernelIdeal :=
  IdealRules.named_const.statement Cert.KernelIdeal.κ "mask" .f32 0xCE6E6B28#32 ⊥ rfl

/-- The side conditions of the precondition, at one device's blocks and at the whole arrays. -/
theorem facts_blocks : Cert.Pre_finite_scores_KernelIdeal.Facts := ⟨by decide, by decide, by decide⟩
theorem facts_whole : Cert.Pre_finite_scores_ReferenceIdeal.Facts := ⟨by decide, by decide, by decide⟩

/-- Under the precondition the frames hold as they do without it. -/
theorem frame_kernelIdeal_finite [Cert.KernelIdeal.Facts] [iPK : Cert.Pre_finite_scores_KernelIdeal.Facts] :
    Cert.quiescent_KernelIdeal_pre_finite_scores_KernelIdeal := fun m ρ _ => frame_kernelIdeal m ρ trivial

theorem frame_referenceIdeal_finite [Cert.ReferenceIdeal.Facts] [iPR : Cert.Pre_finite_scores_ReferenceIdeal.Facts] :
    Cert.quiescent_ReferenceIdeal_pre_finite_scores_ReferenceIdeal := fun m ρ _ => frame_referenceIdeal m ρ trivial

theorem claim : Cert.Claim :=
  ⟨Cert.Kernel.Gen.facts, Cert.KernelIdeal.Gen.facts, Cert.ReferenceIdeal.Gen.facts, facts_blocks, facts_whole,
    frame_kernel, frame_kernelIdeal,
    frame_kernelIdeal_finite (iPK := facts_blocks), frame_referenceIdeal,
    frame_referenceIdeal_finite (iPR := facts_whole), preserves, algebraic (iPK := facts_blocks)⟩

end Cert.Proof

end
